-- ==== Defs.lean ====
def Pre_Kernel [hPre_boxes_in_range : Cert.Pre_boxes_in_range.Facts] (m : (ℓ : Loc Cert.Kernel.nD Cert.Kernel.τ Cert.Kernel.sig) → Buf (Elt Bits) ℓ) : Prop :=
  ∀ c : Dev Cert.Kernel.nD,
    (Cert.Pre_boxes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_boxes_in_range : Cert.Pre_boxes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_in_range [hPre_boxes_in_range : Cert.Pre_boxes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_boxes_in_range : Cert.Pre_boxes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_boxes_in_range [hReferenceIdeal : Cert.ReferenceIdeal.Facts] [hPre_boxes_in_range : Cert.Pre_boxes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_boxes_in_range : Cert.Pre_boxes_in_range.Facts),
    quiescent_Kernel (hKernel := hKernel) (hPre_boxes_in_range := hPre_boxes_in_range)
    ∧ quiescent_KernelIdeal (hKernelIdeal := hKernelIdeal) (hPre_boxes_in_range := hPre_boxes_in_range)
    ∧ quiescent_ReferenceIdeal (hReferenceIdeal := hReferenceIdeal)
    ∧ quiescent_ReferenceIdeal_pre_boxes_in_range (hReferenceIdeal := hReferenceIdeal) (hPre_boxes_in_range := hPre_boxes_in_range)
    ∧ preserves_Kernel_KernelIdeal
    ∧ algebraic_KernelIdeal_ReferenceIdeal (hKernelIdeal := hKernelIdeal) (hReferenceIdeal := hReferenceIdeal) (hPre_boxes_in_range := hPre_boxes_in_range)
-- ==== Pre_boxes_in_range.lean ====
abbrev S1x133x512x512 : Shape := ⟨4, ![1, 133, 512, 512]⟩
abbrev S64x1x100x100 : Shape := ⟨4, ![64, 1, 100, 100]⟩
abbrev S64x4 : Shape := ⟨2, ![64, 4]⟩
abbrev S64 : Shape := ⟨1, ![64]⟩
abbrev S64x1 : Shape := ⟨2, ![64, 1]⟩
abbrev S_ : Shape := ⟨0, ![]⟩

class Facts : Prop where
  slices_S64x4_S64x1_0_0 : S64x4.Slices ![0, 0] S64x1
  shapeCasts_S64x1_S64 : S64x1.ShapeCasts S64
  slices_S64x4_S64x1_0_1 : S64x4.Slices ![0, 1] S64x1
  slices_S64x4_S64x1_0_2 : S64x4.Slices ![0, 2] S64x1
  slices_S64x4_S64x1_0_3 : S64x4.Slices ![0, 3] S64x1
  bcast_S_S64 : S_.BroadcastsInDim S64 (![] : Fin 0 → Fin S64.rank)

variable [Facts]

def fn_round {F : FTy → Type} [FloatOps F] (arg0 : FVec F S64 .f32) : FVec F S64 .f32 :=
  let v0 : FVec F S64 .f32 := Host.roundeven arg0
  v0

def fn_part2 {F : FTy → Type} [FloatOps F] (main_arg3 : IVec S64 32) (main_v2 : IVec S64 32) (main_v5 : IVec S64 32) (main_v15 : IVec S64 32) (main_v19 : IVec S64 32) (main_v38 : IVec S64 1) (main_v41 : IVec S64 1) : IVec S64 1 :=
  let main_v42 : IVec S64 1 := andi main_v38 main_v41
  let main_c_5 : IVec S_ 32 := constantI S_ 32 80#32
  let main_v43 : IVec S64 32 := broadcastInDim S64 ![] bcast_S_S64 main_c_5
  let main_v44 : IVec S64 32 := addi main_v2 main_v43
  let main_v45 : IVec S64 1 := cmpi .sle main_v15 main_v44
  let main_v46 : IVec S64 1 := andi main_v42 main_v45
  let main_c_6 : IVec S_ 32 := constantI S_ 32 80#32
  let main_v47 : IVec S64 32 := broadcastInDim S64 ![] bcast_S_S64 main_c_6
  let main_v48 : IVec S64 32 := addi main_v5 main_v47
  let main_v49 : IVec S64 1 := cmpi .sle main_v19 main_v48
  let main_v50 : IVec S64 1 := andi main_v46 main_v49
  let main_c_7 : IVec S_ 32 := constantI S_ 32 0#32
  let main_v51 : IVec S64 32 := broadcastInDim S64 ![] bcast_S_S64 main_c_7
  let main_v52 : IVec S64 1 := cmpi .sge main_arg3 main_v51
  let main_v53 : IVec S64 1 := andi main_v50 main_v52
  let main_c_8 : IVec S_ 32 := constantI S_ 32 80#32
  let main_v54 : IVec S64 32 := broadcastInDim S64 ![] bcast_S_S64 main_c_8
  let main_v55 : IVec S64 1 := cmpi .slt main_arg3 main_v54
  let main_v56 : IVec S64 1 := andi main_v53 main_v55
  main_v56

def fn_part1 {F : FTy → Type} [FloatOps F] (main_arg3 : IVec S64 32) (main_v2 : IVec S64 32) (main_v5 : IVec S64 32) (main_v8 : IVec S64 32) (main_v11 : IVec S64 32) (main_v15 : IVec S64 32) (main_v19 : IVec S64 32) (main_v21 : IVec S64 1) (main_c_0 : IVec S_ 32) : IVec S64 1 :=
  let main_v22 : IVec S64 32 := broadcastInDim S64 ![] bcast_S_S64 main_c_0
  let main_v23 : IVec S64 1 := cmpi .slt main_v2 main_v22
  let main_v24 : IVec S64 1 := andi main_v21 main_v23
  let main_c_1 : IVec S_ 32 := constantI S_ 32 0#32
  let main_v25 : IVec S64 32 := broadcastInDim S64 ![] bcast_S_S64 main_c_1
  let main_v26 : IVec S64 1 := cmpi .sge main_v5 main_v25
  let main_v27 : IVec S64 1 := andi main_v24 main_v26
  let main_c_2 : IVec S_ 32 := constantI S_ 32 431#32
  let main_v28 : IVec S64 32 := broadcastInDim S64 ![] bcast_S_S64 main_c_2
  let main_v29 : IVec S64 1 := cmpi .slt main_v5 main_v28
  let main_v30 : IVec S64 1 := andi main_v27 main_v29
  let main_v31 : IVec S64 1 := cmpi .sge main_v8 main_v2
  let main_v32 : IVec S64 1 := andi main_v30 main_v31
  let main_c_3 : IVec S_ 32 := constantI S_ 32 80#32
  let main_v33 : IVec S64 32 := broadcastInDim S64 ![] bcast_S_S64 main_c_3
  let main_v34 : IVec S64 32 := addi main_v2 main_v33
  let main_v35 : IVec S64 1 := cmpi .sle main_v8 main_v34
  let main_v36 : IVec S64 1 := andi main_v32 main_v35
  let main_v37 : IVec S64 1 := cmpi .sge main_v11 main_v5
  let main_v38 : IVec S64 1 := andi main_v36 main_v37
  let main_c_4 : IVec S_ 32 := constantI S_ 32 80#32
  let main_v39 : IVec S64 32 := broadcastInDim S64 ![] bcast_S_S64 main_c_4
  let main_v40 : IVec S64 32 := addi main_v5 main_v39
  let main_v41 : IVec S64 1 := cmpi .sle main_v11 main_v40
  fn_part2 (F := F) main_arg3 main_v2 main_v5 main_v15 main_v19 main_v38 main_v41

def fn {F : FTy → Type} [FloatOps F] (main_arg0 : FVec F S1x133x512x512 .f32) (main_arg1 : FVec F S64x1x100x100 .f32) (main_arg2 : FVec F S64x4 .f32) (main_arg3 : IVec S64 32) : IVec S64 1 :=
  let main_v0 : FVec F S64x1 .f32 := (extractStridedSlice S64x1 ![0, 0] · slices_S64x4_S64x1_0_0) main_arg2
  let main_v1 : FVec F S64 .f32 := shapeCast S64 main_v0 shapeCasts_S64x1_S64
  let main_v2 : IVec S64 32 := fptosi 32 main_v1
  let main_v3 : FVec F S64x1 .f32 := (extractStridedSlice S64x1 ![0, 1] · slices_S64x4_S64x1_0_1) main_arg2
  let main_v4 : FVec F S64 .f32 := shapeCast S64 main_v3 shapeCasts_S64x1_S64
  let main_v5 : IVec S64 32 := fptosi 32 main_v4
  let main_v6 : FVec F S64x1 .f32 := (extractStridedSlice S64x1 ![0, 2] · slices_S64x4_S64x1_0_2) main_arg2
  let main_v7 : FVec F S64 .f32 := shapeCast S64 main_v6 shapeCasts_S64x1_S64
  let main_v8 : IVec S64 32 := fptosi 32 main_v7
  let main_v9 : FVec F S64x1 .f32 := (extractStridedSlice S64x1 ![0, 3] · slices_S64x4_S64x1_0_3) main_arg2
  let main_v10 : FVec F S64 .f32 := shapeCast S64 main_v9 shapeCasts_S64x1_S64
  let main_v11 : IVec S64 32 := fptosi 32 main_v10
  let main_v12 : FVec F S64x1 .f32 := (extractStridedSlice S64x1 ![0, 2] · slices_S64x4_S64x1_0_2) main_arg2
  let main_v13 : FVec F S64 .f32 := shapeCast S64 main_v12 shapeCasts_S64x1_S64
  let main_v14 : FVec F S64 .f32 := fn_round (F := F) main_v13
  let main_v15 : IVec S64 32 := fptosi 32 main_v14
  let main_v16 : FVec F S64x1 .f32 := (extractStridedSlice S64x1 ![0, 3] · slices_S64x4_S64x1_0_3) main_arg2
  let main_v17 : FVec F S64 .f32 := shapeCast S64 main_v16 shapeCasts_S64x1_S64
  let main_v18 : FVec F S64 .f32 := fn_round (F := F) main_v17
  let main_v19 : IVec S64 32 := fptosi 32 main_v18
  let main_c : IVec S_ 32 := constantI S_ 32 0#32
  let main_v20 : IVec S64 32 := broadcastInDim S64 ![] bcast_S_S64 main_c
  let main_v21 : IVec S64 1 := cmpi .sge main_v2 main_v20
  let main_c_0 : IVec S_ 32 := constantI S_ 32 431#32
  fn_part1 (F := F) main_arg3 main_v2 main_v5 main_v8 main_v11 main_v15 main_v19 main_v21 main_c_0
-- ==== Kernel.lean ====
abbrev S1x133x512x512 : Shape := ⟨4, ![1, 133, 512, 512]⟩
abbrev S64x1x100x100 : Shape := ⟨4, ![64, 1, 100, 100]⟩
abbrev S64x4 : Shape := ⟨2, ![64, 4]⟩
abbrev S64 : Shape := ⟨1, ![64]⟩
abbrev S133x512x512 : Shape := ⟨3, ![133, 512, 512]⟩
abbrev S64x100x100 : Shape := ⟨3, ![64, 100, 100]⟩
abbrev S_ : Shape := ⟨0, ![]⟩
abbrev S64x128x128 : Shape := ⟨3, ![64, 128, 128]⟩
abbrev S64x1 : Shape := ⟨2, ![64, 1]⟩
abbrev S1x64 : Shape := ⟨2, ![1, 64]⟩
abbrev S8x64 : Shape := ⟨2, ![8, 64]⟩
abbrev S117x512x512 : Shape := ⟨3, ![117, 512, 512]⟩
abbrev S1x128x128 : Shape := ⟨3, ![1, 128, 128]⟩
abbrev S3x256x256 : Shape := ⟨3, ![3, 256, 256]⟩
abbrev S2x256x256 : Shape := ⟨3, ![2, 256, 256]⟩
abbrev S256x512 : Shape := ⟨2, ![256, 512]⟩
abbrev S3x512x512 : Shape := ⟨3, ![3, 512, 512]⟩
abbrev S3 : Shape := ⟨1, ![3]⟩
abbrev S2 : Shape := ⟨1, ![2]⟩
abbrev S1x1 : Shape := ⟨2, ![1, 1]⟩
abbrev S1 : Shape := ⟨1, ![1]⟩
abbrev S1x256x256 : Shape := ⟨3, ![1, 256, 256]⟩
abbrev S256x256 : Shape := ⟨2, ![256, 256]⟩
abbrev S1x512x512 : Shape := ⟨3, ![1, 512, 512]⟩
abbrev S512x512 : Shape := ⟨2, ![512, 512]⟩
abbrev S256x128 : Shape := ⟨2, ![256, 128]⟩
abbrev S128x256 : Shape := ⟨2, ![128, 256]⟩
abbrev S128x128 : Shape := ⟨2, ![128, 128]⟩
abbrev S1x128x512 : Shape := ⟨3, ![1, 128, 512]⟩
abbrev S128x512 : Shape := ⟨2, ![128, 512]⟩
abbrev S1x256x128 : Shape := ⟨3, ![1, 256, 128]⟩

abbrev nBuf : Space → Nat
  | .hbm => 57
  | .vmem => 6
  | .smem => 1
  | _ => 0

abbrev bufTy : (tb : Table) → Fin (tcTables nBuf tb) → BufTy
  | .hbm, ⟨0, _⟩ => ⟨S1x133x512x512, .f32⟩
  | .hbm, ⟨1, _⟩ => ⟨S64x1x100x100, .f32⟩
  | .hbm, ⟨2, _⟩ => ⟨S64x4, .f32⟩
  | .hbm, ⟨3, _⟩ => ⟨S64, .i32⟩
  | .hbm, ⟨4, _⟩ => ⟨S133x512x512, .f32⟩
  | .hbm, ⟨5, _⟩ => ⟨S64x100x100, .f32⟩
  | .hbm, ⟨6, _⟩ => ⟨S_, .i32⟩
  | .hbm, ⟨7, _⟩ => ⟨S_, .f32⟩
  | .hbm, ⟨8, _⟩ => ⟨S64x128x128, .f32⟩
  | .hbm, ⟨9, _⟩ => ⟨S64x1, .f32⟩
  | .hbm, ⟨10, _⟩ => ⟨S64, .f32⟩
  | .hbm, ⟨11, _⟩ => ⟨S64, .i32⟩
  | .hbm, ⟨12, _⟩ => ⟨S64x1, .f32⟩
  | .hbm, ⟨13, _⟩ => ⟨S64, .f32⟩
  | .hbm, ⟨14, _⟩ => ⟨S64, .i32⟩
  | .hbm, ⟨15, _⟩ => ⟨S64x1, .f32⟩
  | .hbm, ⟨16, _⟩ => ⟨S64, .f32⟩
  | .hbm, ⟨17, _⟩ => ⟨S64, .i32⟩
  | .hbm, ⟨18, _⟩ => ⟨S64x1, .f32⟩
  | .hbm, ⟨19, _⟩ => ⟨S64, .f32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64x1, .f32⟩
  | .hbm, ⟨30, _⟩ => ⟨S64, .f32⟩
  | .hbm, ⟨31, _⟩ => ⟨S64, .f32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S64x1, .f32⟩
  | .hbm, ⟨37, _⟩ => ⟨S64, .f32⟩
  | .hbm, ⟨38, _⟩ => ⟨S64, .f32⟩
  | .hbm, ⟨39, _⟩ => ⟨S64, .i32⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i32⟩
  | .hbm, ⟨46, _⟩ => ⟨S_, .i32⟩
  | .hbm, ⟨47, _⟩ => ⟨S64, .i32⟩
  | .hbm, ⟨48, _⟩ => ⟨S1x64, .i32⟩
  | .hbm, ⟨49, _⟩ => ⟨S1x64, .i32⟩
  | .hbm, ⟨50, _⟩ => ⟨S1x64, .i32⟩
  | .hbm, ⟨51, _⟩ => ⟨S1x64, .i32⟩
  | .hbm, ⟨52, _⟩ => ⟨S1x64, .i32⟩
  | .hbm, ⟨53, _⟩ => ⟨S1x64, .i32⟩
  | .hbm, ⟨54, _⟩ => ⟨S1x64, .i32⟩
  | .hbm, ⟨55, _⟩ => ⟨S1x64, .i32⟩
  | .hbm, ⟨56, _⟩ => ⟨S117x512x512, .f32⟩
  | .local _ .vmem, ⟨0, _⟩ => ⟨S1x128x128, .f32⟩
  | .local _ .vmem, ⟨1, _⟩ => ⟨S1x128x128, .f32⟩
  | .local _ .vmem, ⟨2, _⟩ => ⟨S3x256x256, .f32⟩
  | .local _ .vmem, ⟨3, _⟩ => ⟨S2x256x256, .f32⟩
  | .local _ .vmem, ⟨4, _⟩ => ⟨S256x512, .f32⟩
  | .local _ .vmem, ⟨5, _⟩ => ⟨S3x512x512, .f32⟩
  | .local _ .smem, ⟨0, _⟩ => ⟨S8x64, .i32⟩
  | _, _ => ⟨S1x133x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v45 : Ref sig .tc := ⟨.hbm, 56, rfl⟩
abbrev main_v44 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v378 : BitVec 32) (v379 : BitVec 32) (v399 : BitVec 32) : Fin 3 → Nat :=
  let c0_i32_162 : BitVec 32 := 0#32
  let v381 : BitVec 1 := Scalar.cmpi .sgt v379 c0_i32_162
  let v382 : BitVec 32 := Scalar.extui v381
  let c0_i32_163 : BitVec 32 := 0#32
  let v383 : BitVec 1 := Scalar.cmpi .slt v379 c0_i32_163
  let v384 : BitVec 32 := Scalar.extui v383
  let v385 : BitVec 32 := Scalar.subi v382 v384
  let c128_i32_161 : BitVec 32 := 128#32
  let c0_i32_164 : BitVec 32 := 0#32
  let v386 : BitVec 1 := Scalar.cmpi .sgt c128_i32_161 c0_i32_164
  let v387 : BitVec 32 := Scalar.extui v386
  let c0_i32_165 : BitVec 32 := 0#32
  let v388 : BitVec 1 := Scalar.cmpi .slt c128_i32_161 c0_i32_165
  let v389 : BitVec 32 := Scalar.extui v388
  let v390 : BitVec 32 := Scalar.subi v387 v389
  let v391 : BitVec 1 := Scalar.cmpi .ne v385 v390
  let v392 : BitVec 32 := Scalar.remsi v379 c128_i32_161
  let c0_i32_166 : BitVec 32 := 0#32
  let v393 : BitVec 1 := Scalar.cmpi .ne v392 c0_i32_166
  let v394 : BitVec 1 := Scalar.andi v391 v393
  let v380 : BitVec 32 := Scalar.divsi v379 c128_i32_161
  let c1_i32_167 : BitVec 32 := 1#32
  let v395 : BitVec 32 := Scalar.subi v380 c1_i32_167
  let v396 : BitVec 32 := Scalar.select v394 v395 v380
  let c2_i32_168 : BitVec 32 := 2#32
  let v397 : BitVec 32 := Scalar.minsi v396 c2_i32_168
  let c128_i32_169 : BitVec 32 := 128#32
  let v398 : BitVec 32 := Scalar.muli v397 c128_i32_169
  let c0_i32_173 : BitVec 32 := 0#32
  let v401 : BitVec 1 := Scalar.cmpi .sgt v399 c0_i32_173
  let v402 : BitVec 32 := Scalar.extui v401
  let c0_i32_174 : BitVec 32 := 0#32
  let v403 : BitVec 1 := Scalar.cmpi .slt v399 c0_i32_174
  let v404 : BitVec 32 := Scalar.extui v403
  let v405 : BitVec 32 := Scalar.subi v402 v404
  let c128_i32_172 : BitVec 32 := 128#32
  let c0_i32_175 : BitVec 32 := 0#32
  let v406 : BitVec 1 := Scalar.cmpi .sgt c128_i32_172 c0_i32_175
  let v407 : BitVec 32 := Scalar.extui v406
  let c0_i32_176 : BitVec 32 := 0#32
  let v408 : BitVec 1 := Scalar.cmpi .slt c128_i32_172 c0_i32_176
  let v409 : BitVec 32 := Scalar.extui v408
  let v410 : BitVec 32 := Scalar.subi v407 v409
  let v411 : BitVec 1 := Scalar.cmpi .ne v405 v410
  let v412 : BitVec 32 := Scalar.remsi v399 c128_i32_172
  let c0_i32_177 : BitVec 32 := 0#32
  let v413 : BitVec 1 := Scalar.cmpi .ne v412 c0_i32_177
  let v414 : BitVec 1 := Scalar.andi v411 v413
  let v400 : BitVec 32 := Scalar.divsi v399 c128_i32_172
  let c1_i32_178 : BitVec 32 := 1#32
  let v415 : BitVec 32 := Scalar.subi v400 c1_i32_178
  let v416 : BitVec 32 := Scalar.select v414 v415 v400
  let c2_i32_179 : BitVec 32 := 2#32
  let v417 : BitVec 32 := Scalar.minsi v416 c2_i32_179
  let c128_i32_180 : BitVec 32 := 128#32
  let v418 : BitVec 32 := Scalar.muli v417 c128_i32_180
  ![v378.toNat, v398.toNat, v418.toNat]

def k0_chk1 (i : grid0.Coords) (v378 : BitVec 32) (v379 : BitVec 32) (v399 : BitVec 32) : Prop :=
  (∀ (k0_h1 : k0_cond1 i = 1#1), ∀ a, (k0_off1 v378 v379 v399) a + S1x256x256.size a ≤ S133x512x512.size a)
theorem k0_off1_inb : ∀ (i : grid0.Coords) (v378 : BitVec 32) (v379 : BitVec 32) (v399 : BitVec 32) (k0_hw1 : k0_chk1 i v378 v379 v399), ∀ (k0_h1 : k0_cond1 i = 1#1), ∀ a, (k0_off1 v378 v379 v399) a + S1x256x256.size a ≤ S133x512x512.size a := fun i v378 v379 v399 k0_hw1 k0_h1 => k0_hw1 k0_h1

def k0_off2 (v425 : BitVec 32) (v426 : BitVec 32) (v446 : BitVec 32) : Fin 3 → Nat :=
  let c0_i32_190 : BitVec 32 := 0#32
  let v428 : BitVec 1 := Scalar.cmpi .sgt v426 c0_i32_190
  let v429 : BitVec 32 := Scalar.extui v428
  let c0_i32_191 : BitVec 32 := 0#32
  let v430 : BitVec 1 := Scalar.cmpi .slt v426 c0_i32_191
  let v431 : BitVec 32 := Scalar.extui v430
  let v432 : BitVec 32 := Scalar.subi v429 v431
  let c128_i32_189 : BitVec 32 := 128#32
  let c0_i32_192 : BitVec 32 := 0#32
  let v433 : BitVec 1 := Scalar.cmpi .sgt c128_i32_189 c0_i32_192
  let v434 : BitVec 32 := Scalar.extui v433
  let c0_i32_193 : BitVec 32 := 0#32
  let v435 : BitVec 1 := Scalar.cmpi .slt c128_i32_189 c0_i32_193
  let v436 : BitVec 32 := Scalar.extui v435
  let v437 : BitVec 32 := Scalar.subi v434 v436
  let v438 : BitVec 1 := Scalar.cmpi .ne v432 v437
  let v439 : BitVec 32 := Scalar.remsi v426 c128_i32_189
  let c0_i32_194 : BitVec 32 := 0#32
  let v440 : BitVec 1 := Scalar.cmpi .ne v439 c0_i32_194
  let v441 : BitVec 1 := Scalar.andi v438 v440
  let v427 : BitVec 32 := Scalar.divsi v426 c128_i32_189
  let c1_i32_195 : BitVec 32 := 1#32
  let v442 : BitVec 32 := Scalar.subi v427 c1_i32_195
  let v443 : BitVec 32 := Scalar.select v441 v442 v427
  let c2_i32_196 : BitVec 32 := 2#32
  let v444 : BitVec 32 := Scalar.minsi v443 c2_i32_196
  let c128_i32_197 : BitVec 32 := 128#32
  let v445 : BitVec 32 := Scalar.muli v444 c128_i32_197
  let c0_i32_201 : BitVec 32 := 0#32
  let v448 : BitVec 1 := Scalar.cmpi .sgt v446 c0_i32_201
  let v449 : BitVec 32 := Scalar.extui v448
  let c0_i32_202 : BitVec 32 := 0#32
  let v450 : BitVec 1 := Scalar.cmpi .slt v446 c0_i32_202
  let v451 : BitVec 32 := Scalar.extui v450
  let v452 : BitVec 32 := Scalar.subi v449 v451
  let c128_i32_200 : BitVec 32 := 128#32
  let c0_i32_203 : BitVec 32 := 0#32
  let v453 : BitVec 1 := Scalar.cmpi .sgt c128_i32_200 c0_i32_203
  let v454 : BitVec 32 := Scalar.extui v453
  let c0_i32_204 : BitVec 32 := 0#32
  let v455 : BitVec 1 := Scalar.cmpi .slt c128_i32_200 c0_i32_204
  let v456 : BitVec 32 := Scalar.extui v455
  let v457 : BitVec 32 := Scalar.subi v454 v456
  let v458 : BitVec 1 := Scalar.cmpi .ne v452 v457
  let v459 : BitVec 32 := Scalar.remsi v446 c128_i32_200
  let c0_i32_205 : BitVec 32 := 0#32
  let v460 : BitVec 1 := Scalar.cmpi .ne v459 c0_i32_205
  let v461 : BitVec 1 := Scalar.andi v458 v460
  let v447 : BitVec 32 := Scalar.divsi v446 c128_i32_200
  let c1_i32_206 : BitVec 32 := 1#32
  let v462 : BitVec 32 := Scalar.subi v447 c1_i32_206
  let v463 : BitVec 32 := Scalar.select v461 v462 v447
  let c2_i32_207 : BitVec 32 := 2#32
  let v464 : BitVec 32 := Scalar.minsi v463 c2_i32_207
  let c128_i32_208 : BitVec 32 := 128#32
  let v465 : BitVec 32 := Scalar.muli v464 c128_i32_208
  ![v425.toNat, v445.toNat, v465.toNat]

def k0_chk2 (i : grid0.Coords) (v425 : BitVec 32) (v426 : BitVec 32) (v446 : BitVec 32) : Prop :=
  (∀ (k0_h1 : k0_cond1 i = 1#1), ∀ a, (k0_off2 v425 v426 v446) a + S1x256x256.size a ≤ S133x512x512.size a)
theorem k0_off2_inb : ∀ (i : grid0.Coords) (v425 : BitVec 32) (v426 : BitVec 32) (v446 : BitVec 32) (k0_hw2 : k0_chk2 i v425 v426 v446), ∀ (k0_h1 : k0_cond1 i = 1#1), ∀ a, (k0_off2 v425 v426 v446) a + S1x256x256.size a ≤ S133x512x512.size a := fun i v425 v426 v446 k0_hw2 k0_h1 => k0_hw2 k0_h1

def k0_cond2 (i : grid0.Coords) : BitVec 1 :=
  let arg0 : BitVec 32 := BitVec.ofNat 32 (i 0).val
  let c2_i32 : BitVec 32 := 2#32
  let v3 : BitVec 32 := Scalar.addi arg0 c2_i32
  let c53_i32 : BitVec 32 := 53#32
  let v4 : BitVec 1 := Scalar.cmpi .slt v3 c53_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c1_i32_154 : BitVec 32 := 1#32
  let v374 : BitVec 1 := Scalar.cmpi .sge arg0 c1_i32_154
  let v375 : BitVec 32 := Scalar.extui v374
  let c0_i32_155 : BitVec 32 := 0#32
  let v376 : BitVec 1 := Scalar.cmpi .ne v375 c0_i32_155
  v376

def k0_off3 (i : grid0.Coords) : Fin 1 → Nat :=
  let arg0 : BitVec 32 := BitVec.ofNat 32 (i 0).val
  let c1_i32_173 : BitVec 32 := 1#32
  let v404 : BitVec 32 := Scalar.subi arg0 c1_i32_173
  let c3_i32_180 : BitVec 32 := 3#32
  let c0_i32_181 : BitVec 32 := 0#32
  let v415 : BitVec 1 := Scalar.cmpi .eq c3_i32_180 c0_i32_181
  let c1_i32_182 : BitVec 32 := 1#32
  let v416 : BitVec 32 := Scalar.select v415 c1_i32_182 c3_i32_180
  let v417 : BitVec 32 := Scalar.remsi v404 v416
  let c0_i32_184 : BitVec 32 := 0#32
  let v419 : BitVec 1 := Scalar.cmpi .slt v417 c0_i32_184
  let c0_i32_185 : BitVec 32 := 0#32
  let v420 : BitVec 1 := Scalar.cmpi .slt v416 c0_i32_185
  let v421 : BitVec 1 := Scalar.xori v419 v420
  let c0_i32_183 : BitVec 32 := 0#32
  let v418 : BitVec 1 := Scalar.cmpi .ne v417 c0_i32_183
  let v422 : BitVec 1 := Scalar.andi v421 v418
  let v423 : BitVec 32 := Scalar.addi v417 v416
  let v424 : BitVec 32 := Scalar.select v422 v423 v417
  ![v424.toNat]
def k0_off4 (i : grid0.Coords) : Fin 3 → Nat :=
  let arg0 : BitVec 32 := BitVec.ofNat 32 (i 0).val
  let c1_i32_173 : BitVec 32 := 1#32
  let v404 : BitVec 32 := Scalar.subi arg0 c1_i32_173
  let c0_i32_186 : BitVec 32 := 0#32
  let c0_i32_187 : BitVec 32 := 0#32
  ![v404.toNat, 0, 0]
def k0_off5 (i : grid0.Coords) : Fin 3 → Nat :=
  let arg0 : BitVec 32 := BitVec.ofNat 32 (i 0).val
  let c1_i32_173 : BitVec 32 := 1#32
  let v404 : BitVec 32 := Scalar.subi arg0 c1_i32_173
  let c3_i32_174 : BitVec 32 := 3#32
  let c0_i32_175 : BitVec 32 := 0#32
  let v405 : BitVec 1 := Scalar.cmpi .eq c3_i32_174 c0_i32_175
  let c1_i32_176 : BitVec 32 := 1#32
  let v406 : BitVec 32 := Scalar.select v405 c1_i32_176 c3_i32_174
  let v407 : BitVec 32 := Scalar.remsi v404 v406
  let c0_i32_178 : BitVec 32 := 0#32
  let v409 : BitVec 1 := Scalar.cmpi .slt v407 c0_i32_178
  let c0_i32_179 : BitVec 32 := 0#32
  let v410 : BitVec 1 := Scalar.cmpi .slt v406 c0_i32_179
  let v411 : BitVec 1 := Scalar.xori v409 v410
  let c0_i32_177 : BitVec 32 := 0#32
  let v408 : BitVec 1 := Scalar.cmpi .ne v407 c0_i32_177
  let v412 : BitVec 1 := Scalar.andi v411 v408
  let v413 : BitVec 32 := Scalar.addi v407 v406
  let v414 : BitVec 32 := Scalar.select v412 v413 v407
  let c0_i32_188 : BitVec 32 := 0#32
  let c0_i32_189 : BitVec 32 := 0#32
  ![v414.toNat, 0, 0]
def k0_off6 (i : grid0.Coords) : Fin 1 → Nat :=
  let arg0 : BitVec 32 := BitVec.ofNat 32 (i 0).val
  let c2_i32_156 : BitVec 32 := 2#32
  let v377 : BitVec 32 := Scalar.addi arg0 c2_i32_156
  let c3_i32_163 : BitVec 32 := 3#32
  let c0_i32_164 : BitVec 32 := 0#32
  let v388 : BitVec 1 := Scalar.cmpi .eq c3_i32_163 c0_i32_164
  let c1_i32_165 : BitVec 32 := 1#32
  let v389 : BitVec 32 := Scalar.select v388 c1_i32_165 c3_i32_163
  let v390 : BitVec 32 := Scalar.remsi v377 v389
  let c0_i32_167 : BitVec 32 := 0#32
  let v392 : BitVec 1 := Scalar.cmpi .slt v390 c0_i32_167
  let c0_i32_168 : BitVec 32 := 0#32
  let v393 : BitVec 1 := Scalar.cmpi .slt v389 c0_i32_168
  let v394 : BitVec 1 := Scalar.xori v392 v393
  let c0_i32_166 : BitVec 32 := 0#32
  let v391 : BitVec 1 := Scalar.cmpi .ne v390 c0_i32_166
  let v395 : BitVec 1 := Scalar.andi v394 v391
  let v396 : BitVec 32 := Scalar.addi v390 v389
  let v397 : BitVec 32 := Scalar.select v395 v396 v390
  ![v397.toNat]
def k0_off7 (i : grid0.Coords) : Fin 3 → Nat :=
  let arg0 : BitVec 32 := BitVec.ofNat 32 (i 0).val
  let c2_i32_156 : BitVec 32 := 2#32
  let v377 : BitVec 32 := Scalar.addi arg0 c2_i32_156
  let c3_i32_157 : BitVec 32 := 3#32
  let c0_i32_158 : BitVec 32 := 0#32
  let v378 : BitVec 1 := Scalar.cmpi .eq c3_i32_157 c0_i32_158
  let c1_i32_159 : BitVec 32 := 1#32
  let v379 : BitVec 32 := Scalar.select v378 c1_i32_159 c3_i32_157
  let v380 : BitVec 32 := Scalar.remsi v377 v379
  let c0_i32_161 : BitVec 32 := 0#32
  let v382 : BitVec 1 := Scalar.cmpi .slt v380 c0_i32_161
  let c0_i32_162 : BitVec 32 := 0#32
  let v383 : BitVec 1 := Scalar.cmpi .slt v379 c0_i32_162
  let v384 : BitVec 1 := Scalar.xori v382 v383
  let c0_i32_160 : BitVec 32 := 0#32
  let v381 : BitVec 1 := Scalar.cmpi .ne v380 c0_i32_160
  let v385 : BitVec 1 := Scalar.andi v384 v381
  let v386 : BitVec 32 := Scalar.addi v380 v379
  let v387 : BitVec 32 := Scalar.select v385 v386 v380
  let c0_i32_169 : BitVec 32 := 0#32
  let c0_i32_170 : BitVec 32 := 0#32
  ![v387.toNat, 0, 0]
def k0_off8 (i : grid0.Coords) : Fin 3 → Nat :=
  let arg0 : BitVec 32 := BitVec.ofNat 32 (i 0).val
  let c2_i32_156 : BitVec 32 := 2#32
  let v377 : BitVec 32 := Scalar.addi arg0 c2_i32_156
  let c0_i32_171 : BitVec 32 := 0#32
  let c0_i32_172 : BitVec 32 := 0#32
  ![v377.toNat, 0, 0]
def k0_cond4 (i : grid0.Coords) : BitVec 1 :=
  let arg0 : BitVec 32 := BitVec.ofNat 32 (i 0).val
  let c53_i32_2 : BitVec 32 := 53#32
  let v7 : BitVec 1 := Scalar.cmpi .slt arg0 c53_i32_2
  let v8 : BitVec 32 := Scalar.extui v7
  let c0_i32_3 : BitVec 32 := 0#32
  let v9 : BitVec 1 := Scalar.cmpi .ne v8 c0_i32_3
  v9

def k0_off9 (i : grid0.Coords) : Fin 1 → Nat :=
  let arg0 : BitVec 32 := BitVec.ofNat 32 (i 0).val
  let c3_i32_160 : BitVec 32 := 3#32
  let c0_i32_161 : BitVec 32 := 0#32
  let v384 : BitVec 1 := Scalar.cmpi .eq c3_i32_160 c0_i32_161
  let c1_i32_162 : BitVec 32 := 1#32
  let v385 : BitVec 32 := Scalar.select v384 c1_i32_162 c3_i32_160
  let v386 : BitVec 32 := Scalar.remsi arg0 v385
  let c0_i32_164 : BitVec 32 := 0#32
  let v388 : BitVec 1 := Scalar.cmpi .slt v386 c0_i32_164
  let c0_i32_165 : BitVec 32 := 0#32
  let v389 : BitVec 1 := Scalar.cmpi .slt v385 c0_i32_165
  let v390 : BitVec 1 := Scalar.xori v388 v389
  let c0_i32_163 : BitVec 32 := 0#32
  let v387 : BitVec 1 := Scalar.cmpi .ne v386 c0_i32_163
  let v391 : BitVec 1 := Scalar.andi v390 v387
  let v392 : BitVec 32 := Scalar.addi v386 v385
  let v393 : BitVec 32 := Scalar.select v391 v392 v386
  ![v393.toNat]
def k0_off10 (i : grid0.Coords) : Fin 3 → Nat :=
  let arg0 : BitVec 32 := BitVec.ofNat 32 (i 0).val
  let c3_i32_154 : BitVec 32 := 3#32
  let c0_i32_155 : BitVec 32 := 0#32
  let v374 : BitVec 1 := Scalar.cmpi .eq c3_i32_154 c0_i32_155
  let c1_i32_156 : BitVec 32 := 1#32
  let v375 : BitVec 32 := Scalar.select v374 c1_i32_156 c3_i32_154
  let v376 : BitVec 32 := Scalar.remsi arg0 v375
  let c0_i32_158 : BitVec 32 := 0#32
  let v378 : BitVec 1 := Scalar.cmpi .slt v376 c0_i32_158
  let c0_i32_159 : BitVec 32 := 0#32
  let v379 : BitVec 1 := Scalar.cmpi .slt v375 c0_i32_159
  let v380 : BitVec 1 := Scalar.xori v378 v379
  let c0_i32_157 : BitVec 32 := 0#32
  let v377 : BitVec 1 := Scalar.cmpi .ne v376 c0_i32_157
  let v381 : BitVec 1 := Scalar.andi v380 v377
  let v382 : BitVec 32 := Scalar.addi v376 v375
  let v383 : BitVec 32 := Scalar.select v381 v382 v376
  let c0_i32_166 : BitVec 32 := 0#32
  let c0_i32_167 : BitVec 32 := 0#32
  ![v383.toNat, 0, 0]
def k0_off11 (i : grid0.Coords) : Fin 3 → Nat :=
  let arg0 : BitVec 32 := BitVec.ofNat 32 (i 0).val
  let c0_i32_168 : BitVec 32 := 0#32
  let c0_i32_169 : BitVec 32 := 0#32
  ![arg0.toNat, 0, 0]
def k0_off12 (i : grid0.Coords) : Fin 3 → Nat :=
  let arg0 : BitVec 32 := BitVec.ofNat 32 (i 0).val
  let c0_i32_182 : BitVec 32 := 0#32
  let c0_i32_183 : BitVec 32 := 0#32
  ![arg0.toNat, 0, 0]
def k0_off13 (i : grid0.Coords) : Fin 2 → Nat :=
  let c1 : Index := 1#32
  let arg0 : BitVec 32 := BitVec.ofNat 32 (i 0).val
  let v10 : Index := Scalar.indexCast arg0
  ![1, v10.toNat]
def k0_off14 (i : grid0.Coords) : Fin 2 → Nat :=
  let c2 : Index := 2#32
  let arg0 : BitVec 32 := BitVec.ofNat 32 (i 0).val
  let v12 : Index := Scalar.indexCast arg0
  ![2, v12.toNat]
def k0_off15 (i : grid0.Coords) : Fin 2 → Nat :=
  let c3 : Index := 3#32
  let arg0 : BitVec 32 := BitVec.ofNat 32 (i 0).val
  let v14 : Index := Scalar.indexCast arg0
  ![3, v14.toNat]
def k0_off16 (i : grid0.Coords) : Fin 2 → Nat :=
  let c4 : Index := 4#32
  let arg0 : BitVec 32 := BitVec.ofNat 32 (i 0).val
  let v16 : Index := Scalar.indexCast arg0
  ![4, v16.toNat]
def k0_off17 (i : grid0.Coords) : Fin 2 → Nat :=
  let c5 : Index := 5#32
  let arg0 : BitVec 32 := BitVec.ofNat 32 (i 0).val
  let v18 : Index := Scalar.indexCast arg0
  ![5, v18.toNat]
def k0_off18 (i : grid0.Coords) : Fin 2 → Nat :=
  let c6 : Index := 6#32
  let arg0 : BitVec 32 := BitVec.ofNat 32 (i 0).val
  let v20 : Index := Scalar.indexCast arg0
  ![6, v20.toNat]
def k0_off19 (i : grid0.Coords) : Fin 2 → Nat :=
  let c0_45 : Index := 0#32
  let arg0 : BitVec 32 := BitVec.ofNat 32 (i 0).val
  let v162 : Index := Scalar.indexCast arg0
  ![0, v162.toNat]
def k0_off20 (i : grid0.Coords) : Fin 1 → Nat :=
  let arg0 : BitVec 32 := BitVec.ofNat 32 (i 0).val
  let c3_i32_51 : BitVec 32 := 3#32
  let c0_i32_52 : BitVec 32 := 0#32
  let v174 : BitVec 1 := Scalar.cmpi .eq c3_i32_51 c0_i32_52
  let c1_i32_53 : BitVec 32 := 1#32
  let v175 : BitVec 32 := Scalar.select v174 c1_i32_53 c3_i32_51
  let v176 : BitVec 32 := Scalar.remsi arg0 v175
  let c0_i32_55 : BitVec 32 := 0#32
  let v178 : BitVec 1 := Scalar.cmpi .slt v176 c0_i32_55
  let c0_i32_56 : BitVec 32 := 0#32
  let v179 : BitVec 1 := Scalar.cmpi .slt v175 c0_i32_56
  let v180 : BitVec 1 := Scalar.xori v178 v179
  let c0_i32_54 : BitVec 32 := 0#32
  let v177 : BitVec 1 := Scalar.cmpi .ne v176 c0_i32_54
  let v181 : BitVec 1 := Scalar.andi v180 v177
  let v182 : BitVec 32 := Scalar.addi v176 v175
  let v183 : BitVec 32 := Scalar.select v181 v182 v176
  ![v183.toNat]
def k0_off21 (i : grid0.Coords) : Fin 3 → Nat :=
  let arg0 : BitVec 32 := BitVec.ofNat 32 (i 0).val
  let c3_i32 : BitVec 32 := 3#32
  let c0_i32_46 : BitVec 32 := 0#32
  let v164 : BitVec 1 := Scalar.cmpi .eq c3_i32 c0_i32_46
  let c1_i32_47 : BitVec 32 := 1#32
  let v165 : BitVec 32 := Scalar.select v164 c1_i32_47 c3_i32
  let v166 : BitVec 32 := Scalar.remsi arg0 v165
  let c0_i32_49 : BitVec 32 := 0#32
  let v168 : BitVec 1 := Scalar.cmpi .slt v166 c0_i32_49
  let c0_i32_50 : BitVec 32 := 0#32
  let v169 : BitVec 1 := Scalar.cmpi .slt v165 c0_i32_50
  let v170 : BitVec 1 := Scalar.xori v168 v169
  let c0_i32_48 : BitVec 32 := 0#32
  let v167 : BitVec 1 := Scalar.cmpi .ne v166 c0_i32_48
  let v171 : BitVec 1 := Scalar.andi v170 v167
  let v172 : BitVec 32 := Scalar.addi v166 v165
  let v173 : BitVec 32 := Scalar.select v171 v172 v166
  let c0_i32_57 : BitVec 32 := 0#32
  let c0_i32_58 : BitVec 32 := 0#32
  ![v173.toNat, 0, 0]
def k0_off22 (v23 : BitVec 32) (v93 : BitVec 32) (v163 : BitVec 32) : Fin 3 → Nat :=
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c128_i32 : BitVec 32 := 128#32
  let c0_i32_7 : BitVec 32 := 0#32
  let v30 : BitVec 1 := Scalar.cmpi .sgt c128_i32 c0_i32_7
  let v31 : BitVec 32 := Scalar.extui v30
  let c0_i32_8 : BitVec 32 := 0#32
  let v32 : BitVec 1 := Scalar.cmpi .slt c128_i32 c0_i32_8
  let v33 : BitVec 32 := Scalar.extui v32
  let v34 : BitVec 32 := Scalar.subi v31 v33
  let v35 : BitVec 1 := Scalar.cmpi .ne v29 v34
  let v36 : BitVec 32 := Scalar.remsi v23 c128_i32
  let c0_i32_9 : BitVec 32 := 0#32
  let v37 : BitVec 1 := Scalar.cmpi .ne v36 c0_i32_9
  let v38 : BitVec 1 := Scalar.andi v35 v37
  let v24 : BitVec 32 := Scalar.divsi v23 c128_i32
  let c1_i32 : BitVec 32 := 1#32
  let v39 : BitVec 32 := Scalar.subi v24 c1_i32
  let v40 : BitVec 32 := Scalar.select v38 v39 v24
  let c2_i32_10 : BitVec 32 := 2#32
  let v41 : BitVec 32 := Scalar.minsi v40 c2_i32_10
  let c128_i32_11 : BitVec 32 := 128#32
  let v42 : BitVec 32 := Scalar.muli v41 c128_i32_11
  let c0_i32_23 : BitVec 32 := 0#32
  let v95 : BitVec 1 := Scalar.cmpi .sgt v93 c0_i32_23
  let v96 : BitVec 32 := Scalar.extui v95
  let c0_i32_24 : BitVec 32 := 0#32
  let v97 : BitVec 1 := Scalar.cmpi .slt v93 c0_i32_24
  let v98 : BitVec 32 := Scalar.extui v97
  let v99 : BitVec 32 := Scalar.subi v96 v98
  let c128_i32_22 : BitVec 32 := 128#32
  let c0_i32_25 : BitVec 32 := 0#32
  let v100 : BitVec 1 := Scalar.cmpi .sgt c128_i32_22 c0_i32_25
  let v101 : BitVec 32 := Scalar.extui v100
  let c0_i32_26 : BitVec 32 := 0#32
  let v102 : BitVec 1 := Scalar.cmpi .slt c128_i32_22 c0_i32_26
  let v103 : BitVec 32 := Scalar.extui v102
  let v104 : BitVec 32 := Scalar.subi v101 v103
  let v105 : BitVec 1 := Scalar.cmpi .ne v99 v104
  let v106 : BitVec 32 := Scalar.remsi v93 c128_i32_22
  let c0_i32_27 : BitVec 32 := 0#32
  let v107 : BitVec 1 := Scalar.cmpi .ne v106 c0_i32_27
  let v108 : BitVec 1 := Scalar.andi v105 v107
  let v94 : BitVec 32 := Scalar.divsi v93 c128_i32_22
  let c1_i32_28 : BitVec 32 := 1#32
  let v109 : BitVec 32 := Scalar.subi v94 c1_i32_28
  let v110 : BitVec 32 := Scalar.select v108 v109 v94
  let c2_i32_29 : BitVec 32 := 2#32
  let v111 : BitVec 32 := Scalar.minsi v110 c2_i32_29
  let c128_i32_30 : BitVec 32 := 128#32
  let v112 : BitVec 32 := Scalar.muli v111 c128_i32_30
  ![v163.toNat, v42.toNat, v112.toNat]

def k0_chk3 (v23 : BitVec 32) (v93 : BitVec 32) (v163 : BitVec 32) : Prop :=
  (∀ a, (k0_off22 v23 v93 v163) a + S1x256x256.size a ≤ S133x512x512.size a)
theorem k0_off22_inb : ∀ (v23 : BitVec 32) (v93 : BitVec 32) (v163 : BitVec 32) (k0_hw3 : k0_chk3 v23 v93 v163), ∀ a, (k0_off22 v23 v93 v163) a + S1x256x256.size a ≤ S133x512x512.size a := fun v23 v93 v163 k0_hw3 => k0_hw3

def k0_off23 (i : grid0.Coords) : Fin 3 → Nat :=
  let arg0 : BitVec 32 := BitVec.ofNat 32 (i 0).val
  let c3_i32_59 : BitVec 32 := 3#32
  let c0_i32_60 : BitVec 32 := 0#32
  let v207 : BitVec 1 := Scalar.cmpi .eq c3_i32_59 c0_i32_60
  let c1_i32_61 : BitVec 32 := 1#32
  let v208 : BitVec 32 := Scalar.select v207 c1_i32_61 c3_i32_59
  let v209 : BitVec 32 := Scalar.remsi arg0 v208
  let c0_i32_63 : BitVec 32 := 0#32
  let v211 : BitVec 1 := Scalar.cmpi .slt v209 c0_i32_63
  let c0_i32_64 : BitVec 32 := 0#32
  let v212 : BitVec 1 := Scalar.cmpi .slt v208 c0_i32_64
  let v213 : BitVec 1 := Scalar.xori v211 v212
  let c0_i32_62 : BitVec 32 := 0#32
  let v210 : BitVec 1 := Scalar.cmpi .ne v209 c0_i32_62
  let v214 : BitVec 1 := Scalar.andi v213 v210
  let v215 : BitVec 32 := Scalar.addi v209 v208
  let v216 : BitVec 32 := Scalar.select v214 v215 v209
  let v217 : Index := Scalar.indexCast v216
  let c0_65 : Index := 0#32
  let c0_66 : Index := 0#32
  ![v217.toNat, 0, 0]
def k0_cond5 (i : grid0.Coords) : BitVec 1 :=
  let arg0 : BitVec 32 := BitVec.ofNat 32 (i 0).val
  let c2_i32_68 : BitVec 32 := 2#32
  let v223 : BitVec 1 := Scalar.cmpi .sge arg0 c2_i32_68
  let v224 : BitVec 32 := Scalar.extui v223
  let c0_i32_69 : BitVec 32 := 0#32
  let v225 : BitVec 1 := Scalar.cmpi .ne v224 c0_i32_69
  v225

def k0_off24 (i : grid0.Coords) : Fin 2 → Nat :=
  let c1_162 : Index := 1#32
  let arg0 : BitVec 32 := BitVec.ofNat 32 (i 0).val
  let c2_i32_154 : BitVec 32 := 2#32
  let v374 : BitVec 32 := Scalar.subi arg0 c2_i32_154
  let v386 : Index := Scalar.indexCast v374
  ![1, v386.toNat]
def k0_off25 (i : grid0.Coords) : Fin 2 → Nat :=
  let c2_172 : Index := 2#32
  let arg0 : BitVec 32 := BitVec.ofNat 32 (i 0).val
  let c2_i32_154 : BitVec 32 := 2#32
  let v374 : BitVec 32 := Scalar.subi arg0 c2_i32_154
  let v407 : Index := Scalar.indexCast v374
  ![2, v407.toNat]
def k0_off26 (i : grid0.Coords) : Fin 1 → Nat :=
  let arg0 : BitVec 32 := BitVec.ofNat 32 (i 0).val
  let c2_i32_154 : BitVec 32 := 2#32
  let v374 : BitVec 32 := Scalar.subi arg0 c2_i32_154
  let c2_i32_182 : BitVec 32 := 2#32
  let c0_i32_183 : BitVec 32 := 0#32
  let v428 : BitVec 1 := Scalar.cmpi .eq c2_i32_182 c0_i32_183
  let c1_i32_184 : BitVec 32 := 1#32
  let v429 : BitVec 32 := Scalar.select v428 c1_i32_184 c2_i32_182
  let v430 : BitVec 32 := Scalar.remsi v374 v429
  let c0_i32_186 : BitVec 32 := 0#32
  let v432 : BitVec 1 := Scalar.cmpi .slt v430 c0_i32_186
  let c0_i32_187 : BitVec 32 := 0#32
  let v433 : BitVec 1 := Scalar.cmpi .slt v429 c0_i32_187
  let v434 : BitVec 1 := Scalar.xori v432 v433
  let c0_i32_185 : BitVec 32 := 0#32
  let v431 : BitVec 1 := Scalar.cmpi .ne v430 c0_i32_185
  let v435 : BitVec 1 := Scalar.andi v434 v431
  let v436 : BitVec 32 := Scalar.addi v430 v429
  let v437 : BitVec 32 := Scalar.select v435 v436 v430
  ![v437.toNat]
def k0_off27 (i : grid0.Coords) (v387 : BitVec 32) (v408 : BitVec 32) : Fin 3 → Nat :=
  let c53_i32_161 : BitVec 32 := 53#32
  let arg0 : BitVec 32 := BitVec.ofNat 32 (i 0).val
  let c2_i32_154 : BitVec 32 := 2#32
  let v374 : BitVec 32 := Scalar.subi arg0 c2_i32_154
  let v385 : BitVec 32 := Scalar.addi c53_i32_161 v374
  let c0_i32_164 : BitVec 32 := 0#32
  let v389 : BitVec 1 := Scalar.cmpi .sgt v387 c0_i32_164
  let v390 : BitVec 32 := Scalar.extui v389
  let c0_i32_165 : BitVec 32 := 0#32
  let v391 : BitVec 1 := Scalar.cmpi .slt v387 c0_i32_165
  let v392 : BitVec 32 := Scalar.extui v391
  let v393 : BitVec 32 := Scalar.subi v390 v392
  let c128_i32_163 : BitVec 32 := 128#32
  let c0_i32_166 : BitVec 32 := 0#32
  let v394 : BitVec 1 := Scalar.cmpi .sgt c128_i32_163 c0_i32_166
  let v395 : BitVec 32 := Scalar.extui v394
  let c0_i32_167 : BitVec 32 := 0#32
  let v396 : BitVec 1 := Scalar.cmpi .slt c128_i32_163 c0_i32_167
  let v397 : BitVec 32 := Scalar.extui v396
  let v398 : BitVec 32 := Scalar.subi v395 v397
  let v399 : BitVec 1 := Scalar.cmpi .ne v393 v398
  let v400 : BitVec 32 := Scalar.remsi v387 c128_i32_163
  let c0_i32_168 : BitVec 32 := 0#32
  let v401 : BitVec 1 := Scalar.cmpi .ne v400 c0_i32_168
  let v402 : BitVec 1 := Scalar.andi v399 v401
  let v388 : BitVec 32 := Scalar.divsi v387 c128_i32_163
  let c1_i32_169 : BitVec 32 := 1#32
  let v403 : BitVec 32 := Scalar.subi v388 c1_i32_169
  let v404 : BitVec 32 := Scalar.select v402 v403 v388
  let c2_i32_170 : BitVec 32 := 2#32
  let v405 : BitVec 32 := Scalar.minsi v404 c2_i32_170
  let c128_i32_171 : BitVec 32 := 128#32
  let v406 : BitVec 32 := Scalar.muli v405 c128_i32_171
  let c0_i32_174 : BitVec 32 := 0#32
  let v410 : BitVec 1 := Scalar.cmpi .sgt v408 c0_i32_174
  let v411 : BitVec 32 := Scalar.extui v410
  let c0_i32_175 : BitVec 32 := 0#32
  let v412 : BitVec 1 := Scalar.cmpi .slt v408 c0_i32_175
  let v413 : BitVec 32 := Scalar.extui v412
  let v414 : BitVec 32 := Scalar.subi v411 v413
  let c128_i32_173 : BitVec 32 := 128#32
  let c0_i32_176 : BitVec 32 := 0#32
  let v415 : BitVec 1 := Scalar.cmpi .sgt c128_i32_173 c0_i32_176
  let v416 : BitVec 32 := Scalar.extui v415
  let c0_i32_177 : BitVec 32 := 0#32
  let v417 : BitVec 1 := Scalar.cmpi .slt c128_i32_173 c0_i32_177
  let v418 : BitVec 32 := Scalar.extui v417
  let v419 : BitVec 32 := Scalar.subi v416 v418
  let v420 : BitVec 1 := Scalar.cmpi .ne v414 v419
  let v421 : BitVec 32 := Scalar.remsi v408 c128_i32_173
  let c0_i32_178 : BitVec 32 := 0#32
  let v422 : BitVec 1 := Scalar.cmpi .ne v421 c0_i32_178
  let v423 : BitVec 1 := Scalar.andi v420 v422
  let v409 : BitVec 32 := Scalar.divsi v408 c128_i32_173
  let c1_i32_179 : BitVec 32 := 1#32
  let v424 : BitVec 32 := Scalar.subi v409 c1_i32_179
  let v425 : BitVec 32 := Scalar.select v423 v424 v409
  let c2_i32_180 : BitVec 32 := 2#32
  let v426 : BitVec 32 := Scalar.minsi v425 c2_i32_180
  let c128_i32_181 : BitVec 32 := 128#32
  let v427 : BitVec 32 := Scalar.muli v426 c128_i32_181
  ![v385.toNat, v406.toNat, v427.toNat]

def k0_chk4 (i : grid0.Coords) (v387 : BitVec 32) (v408 : BitVec 32) : Prop :=
  (∀ (k0_h5 : k0_cond5 i = 1#1), ∀ a, (k0_off27 i v387 v408) a + S1x256x256.size a ≤ S117x512x512.size a)
theorem k0_off27_inb : ∀ (i : grid0.Coords) (v387 : BitVec 32) (v408 : BitVec 32) (k0_hw4 : k0_chk4 i v387 v408), ∀ (k0_h5 : k0_cond5 i = 1#1), ∀ a, (k0_off27 i v387 v408) a + S1x256x256.size a ≤ S117x512x512.size a := fun i v387 v408 k0_hw4 k0_h5 => k0_hw4 k0_h5

def k0_off28 (i : grid0.Coords) : Fin 3 → Nat :=
  let arg0 : BitVec 32 := BitVec.ofNat 32 (i 0).val
  let c2_i32_154 : BitVec 32 := 2#32
  let v374 : BitVec 32 := Scalar.subi arg0 c2_i32_154
  let c2_i32_155 : BitVec 32 := 2#32
  let c0_i32_156 : BitVec 32 := 0#32
  let v375 : BitVec 1 := Scalar.cmpi .eq c2_i32_155 c0_i32_156
  let c1_i32_157 : BitVec 32 := 1#32
  let v376 : BitVec 32 := Scalar.select v375 c1_i32_157 c2_i32_155
  let v377 : BitVec 32 := Scalar.remsi v374 v376
  let c0_i32_159 : BitVec 32 := 0#32
  let v379 : BitVec 1 := Scalar.cmpi .slt v377 c0_i32_159
  let c0_i32_160 : BitVec 32 := 0#32
  let v380 : BitVec 1 := Scalar.cmpi .slt v376 c0_i32_160
  let v381 : BitVec 1 := Scalar.xori v379 v380
  let c0_i32_158 : BitVec 32 := 0#32
  let v378 : BitVec 1 := Scalar.cmpi .ne v377 c0_i32_158
  let v382 : BitVec 1 := Scalar.andi v381 v378
  let v383 : BitVec 32 := Scalar.addi v377 v376
  let v384 : BitVec 32 := Scalar.select v382 v383 v377
  let c0_i32_188 : BitVec 32 := 0#32
  let c0_i32_189 : BitVec 32 := 0#32
  ![v384.toNat, 0, 0]
def k0_off29 (i : grid0.Coords) : Fin 3 → Nat :=
  let arg0 : BitVec 32 := BitVec.ofNat 32 (i 0).val
  let c2_i32_70 : BitVec 32 := 2#32
  let c0_i32_71 : BitVec 32 := 0#32
  let v226 : BitVec 1 := Scalar.cmpi .eq c2_i32_70 c0_i32_71
  let c1_i32_72 : BitVec 32 := 1#32
  let v227 : BitVec 32 := Scalar.select v226 c1_i32_72 c2_i32_70
  let v228 : BitVec 32 := Scalar.remsi arg0 v227
  let c0_i32_74 : BitVec 32 := 0#32
  let v230 : BitVec 1 := Scalar.cmpi .slt v228 c0_i32_74
  let c0_i32_75 : BitVec 32 := 0#32
  let v231 : BitVec 1 := Scalar.cmpi .slt v227 c0_i32_75
  let v232 : BitVec 1 := Scalar.xori v230 v231
  let c0_i32_73 : BitVec 32 := 0#32
  let v229 : BitVec 1 := Scalar.cmpi .ne v228 c0_i32_73
  let v233 : BitVec 1 := Scalar.andi v232 v229
  let v234 : BitVec 32 := Scalar.addi v228 v227
  let v235 : BitVec 32 := Scalar.select v233 v234 v228
  let v236 : Index := Scalar.indexCast v235
  let c0_76 : Index := 0#32
  let c0_77 : Index := 0#32
  ![v236.toNat, 0, 0]
def k0_off30 (i : grid0.Coords) : Fin 2 → Nat :=
  let c1_85 : Index := 1#32
  let arg0 : BitVec 32 := BitVec.ofNat 32 (i 0).val
  let v251 : Index := Scalar.indexCast arg0
  ![1, v251.toNat]
def k0_off31 (i : grid0.Coords) : Fin 2 → Nat :=
  let c2_95 : Index := 2#32
  let arg0 : BitVec 32 := BitVec.ofNat 32 (i 0).val
  let v272 : Index := Scalar.indexCast arg0
  ![2, v272.toNat]
def k0_off32 (i : grid0.Coords) : Fin 1 → Nat :=
  let arg0 : BitVec 32 := BitVec.ofNat 32 (i 0).val
  let c2_i32_105 : BitVec 32 := 2#32
  let c0_i32_106 : BitVec 32 := 0#32
  let v293 : BitVec 1 := Scalar.cmpi .eq c2_i32_105 c0_i32_106
  let c1_i32_107 : BitVec 32 := 1#32
  let v294 : BitVec 32 := Scalar.select v293 c1_i32_107 c2_i32_105
  let v295 : BitVec 32 := Scalar.remsi arg0 v294
  let c0_i32_109 : BitVec 32 := 0#32
  let v297 : BitVec 1 := Scalar.cmpi .slt v295 c0_i32_109
  let c0_i32_110 : BitVec 32 := 0#32
  let v298 : BitVec 1 := Scalar.cmpi .slt v294 c0_i32_110
  let v299 : BitVec 1 := Scalar.xori v297 v298
  let c0_i32_108 : BitVec 32 := 0#32
  let v296 : BitVec 1 := Scalar.cmpi .ne v295 c0_i32_108
  let v300 : BitVec 1 := Scalar.andi v299 v296
  let v301 : BitVec 32 := Scalar.addi v295 v294
  let v302 : BitVec 32 := Scalar.select v300 v301 v295
  ![v302.toNat]
def k0_off33 (i : grid0.Coords) (v252 : BitVec 32) (v273 : BitVec 32) : Fin 3 → Nat :=
  let c53_i32_84 : BitVec 32 := 53#32
  let arg0 : BitVec 32 := BitVec.ofNat 32 (i 0).val
  let v250 : BitVec 32 := Scalar.addi c53_i32_84 arg0
  let c0_i32_87 : BitVec 32 := 0#32
  let v254 : BitVec 1 := Scalar.cmpi .sgt v252 c0_i32_87
  let v255 : BitVec 32 := Scalar.extui v254
  let c0_i32_88 : BitVec 32 := 0#32
  let v256 : BitVec 1 := Scalar.cmpi .slt v252 c0_i32_88
  let v257 : BitVec 32 := Scalar.extui v256
  let v258 : BitVec 32 := Scalar.subi v255 v257
  let c128_i32_86 : BitVec 32 := 128#32
  let c0_i32_89 : BitVec 32 := 0#32
  let v259 : BitVec 1 := Scalar.cmpi .sgt c128_i32_86 c0_i32_89
  let v260 : BitVec 32 := Scalar.extui v259
  let c0_i32_90 : BitVec 32 := 0#32
  let v261 : BitVec 1 := Scalar.cmpi .slt c128_i32_86 c0_i32_90
  let v262 : BitVec 32 := Scalar.extui v261
  let v263 : BitVec 32 := Scalar.subi v260 v262
  let v264 : BitVec 1 := Scalar.cmpi .ne v258 v263
  let v265 : BitVec 32 := Scalar.remsi v252 c128_i32_86
  let c0_i32_91 : BitVec 32 := 0#32
  let v266 : BitVec 1 := Scalar.cmpi .ne v265 c0_i32_91
  let v267 : BitVec 1 := Scalar.andi v264 v266
  let v253 : BitVec 32 := Scalar.divsi v252 c128_i32_86
  let c1_i32_92 : BitVec 32 := 1#32
  let v268 : BitVec 32 := Scalar.subi v253 c1_i32_92
  let v269 : BitVec 32 := Scalar.select v267 v268 v253
  let c2_i32_93 : BitVec 32 := 2#32
  let v270 : BitVec 32 := Scalar.minsi v269 c2_i32_93
  let c128_i32_94 : BitVec 32 := 128#32
  let v271 : BitVec 32 := Scalar.muli v270 c128_i32_94
  let c0_i32_97 : BitVec 32 := 0#32
  let v275 : BitVec 1 := Scalar.cmpi .sgt v273 c0_i32_97
  let v276 : BitVec 32 := Scalar.extui v275
  let c0_i32_98 : BitVec 32 := 0#32
  let v277 : BitVec 1 := Scalar.cmpi .slt v273 c0_i32_98
  let v278 : BitVec 32 := Scalar.extui v277
  let v279 : BitVec 32 := Scalar.subi v276 v278
  let c128_i32_96 : BitVec 32 := 128#32
  let c0_i32_99 : BitVec 32 := 0#32
  let v280 : BitVec 1 := Scalar.cmpi .sgt c128_i32_96 c0_i32_99
  let v281 : BitVec 32 := Scalar.extui v280
  let c0_i32_100 : BitVec 32 := 0#32
  let v282 : BitVec 1 := Scalar.cmpi .slt c128_i32_96 c0_i32_100
  let v283 : BitVec 32 := Scalar.extui v282
  let v284 : BitVec 32 := Scalar.subi v281 v283
  let v285 : BitVec 1 := Scalar.cmpi .ne v279 v284
  let v286 : BitVec 32 := Scalar.remsi v273 c128_i32_96
  let c0_i32_101 : BitVec 32 := 0#32
  let v287 : BitVec 1 := Scalar.cmpi .ne v286 c0_i32_101
  let v288 : BitVec 1 := Scalar.andi v285 v287
  let v274 : BitVec 32 := Scalar.divsi v273 c128_i32_96
  let c1_i32_102 : BitVec 32 := 1#32
  let v289 : BitVec 32 := Scalar.subi v274 c1_i32_102
  let v290 : BitVec 32 := Scalar.select v288 v289 v274
  let c2_i32_103 : BitVec 32 := 2#32
  let v291 : BitVec 32 := Scalar.minsi v290 c2_i32_103
  let c128_i32_104 : BitVec 32 := 128#32
  let v292 : BitVec 32 := Scalar.muli v291 c128_i32_104
  ![v250.toNat, v271.toNat, v292.toNat]

def k0_chk5 (i : grid0.Coords) (v252 : BitVec 32) (v273 : BitVec 32) : Prop :=
  (∀ a, (k0_off33 i v252 v273) a + S1x256x256.size a ≤ S117x512x512.size a)
theorem k0_off33_inb : ∀ (i : grid0.Coords) (v252 : BitVec 32) (v273 : BitVec 32) (k0_hw5 : k0_chk5 i v252 v273), ∀ a, (k0_off33 i v252 v273) a + S1x256x256.size a ≤ S117x512x512.size a := fun i v252 v273 k0_hw5 => k0_hw5

def k0_off34 (i : grid0.Coords) : Fin 3 → Nat :=
  let arg0 : BitVec 32 := BitVec.ofNat 32 (i 0).val
  let c2_i32_78 : BitVec 32 := 2#32
  let c0_i32_79 : BitVec 32 := 0#32
  let v240 : BitVec 1 := Scalar.cmpi .eq c2_i32_78 c0_i32_79
  let c1_i32_80 : BitVec 32 := 1#32
  let v241 : BitVec 32 := Scalar.select v240 c1_i32_80 c2_i32_78
  let v242 : BitVec 32 := Scalar.remsi arg0 v241
  let c0_i32_82 : BitVec 32 := 0#32
  let v244 : BitVec 1 := Scalar.cmpi .slt v242 c0_i32_82
  let c0_i32_83 : BitVec 32 := 0#32
  let v245 : BitVec 1 := Scalar.cmpi .slt v241 c0_i32_83
  let v246 : BitVec 1 := Scalar.xori v244 v245
  let c0_i32_81 : BitVec 32 := 0#32
  let v243 : BitVec 1 := Scalar.cmpi .ne v242 c0_i32_81
  let v247 : BitVec 1 := Scalar.andi v246 v243
  let v248 : BitVec 32 := Scalar.addi v242 v241
  let v249 : BitVec 32 := Scalar.select v247 v248 v242
  let c0_i32_111 : BitVec 32 := 0#32
  let c0_i32_112 : BitVec 32 := 0#32
  ![v249.toNat, 0, 0]
def k0_off35 (i : grid0.Coords) (v11 : BitVec 32) : Fin 3 → Nat :=
  let c53_i32_137 : BitVec 32 := 53#32
  let arg0 : BitVec 32 := BitVec.ofNat 32 (i 0).val
  let v351 : BitVec 32 := Scalar.addi c53_i32_137 arg0
  let c0_i32_114 : BitVec 32 := 0#32
  let v310 : BitVec 1 := Scalar.cmpi .sgt v11 c0_i32_114
  let v311 : BitVec 32 := Scalar.extui v310
  let c0_i32_115 : BitVec 32 := 0#32
  let v312 : BitVec 1 := Scalar.cmpi .slt v11 c0_i32_115
  let v313 : BitVec 32 := Scalar.extui v312
  let v314 : BitVec 32 := Scalar.subi v311 v313
  let c128_i32_113 : BitVec 32 := 128#32
  let c0_i32_116 : BitVec 32 := 0#32
  let v315 : BitVec 1 := Scalar.cmpi .sgt c128_i32_113 c0_i32_116
  let v316 : BitVec 32 := Scalar.extui v315
  let c0_i32_117 : BitVec 32 := 0#32
  let v317 : BitVec 1 := Scalar.cmpi .slt c128_i32_113 c0_i32_117
  let v318 : BitVec 32 := Scalar.extui v317
  let v319 : BitVec 32 := Scalar.subi v316 v318
  let v320 : BitVec 1 := Scalar.cmpi .ne v314 v319
  let v321 : BitVec 32 := Scalar.remsi v11 c128_i32_113
  let c0_i32_118 : BitVec 32 := 0#32
  let v322 : BitVec 1 := Scalar.cmpi .ne v321 c0_i32_118
  let v323 : BitVec 1 := Scalar.andi v320 v322
  let v309 : BitVec 32 := Scalar.divsi v11 c128_i32_113
  let c1_i32_119 : BitVec 32 := 1#32
  let v324 : BitVec 32 := Scalar.subi v309 c1_i32_119
  let v325 : BitVec 32 := Scalar.select v323 v324 v309
  let c0_i32_120 : BitVec 32 := 0#32
  let v326 : BitVec 1 := Scalar.cmpi .eq v325 c0_i32_120
  let c256_i32 : BitVec 32 := 256#32
  let c0_i32_121 : BitVec 32 := 0#32
  let v327 : BitVec 32 := Scalar.select v326 c256_i32 c0_i32_121
  let c0_i32_138 : BitVec 32 := 0#32
  ![v351.toNat, v327.toNat, 0]

def k0_off36 (i : grid0.Coords) (v11 : BitVec 32) : Fin 3 → Nat :=
  let c53_i32_141 : BitVec 32 := 53#32
  let arg0 : BitVec 32 := BitVec.ofNat 32 (i 0).val
  let v355 : BitVec 32 := Scalar.addi c53_i32_141 arg0
  let c0_i32_114 : BitVec 32 := 0#32
  let v310 : BitVec 1 := Scalar.cmpi .sgt v11 c0_i32_114
  let v311 : BitVec 32 := Scalar.extui v310
  let c0_i32_115 : BitVec 32 := 0#32
  let v312 : BitVec 1 := Scalar.cmpi .slt v11 c0_i32_115
  let v313 : BitVec 32 := Scalar.extui v312
  let v314 : BitVec 32 := Scalar.subi v311 v313
  let c128_i32_113 : BitVec 32 := 128#32
  let c0_i32_116 : BitVec 32 := 0#32
  let v315 : BitVec 1 := Scalar.cmpi .sgt c128_i32_113 c0_i32_116
  let v316 : BitVec 32 := Scalar.extui v315
  let c0_i32_117 : BitVec 32 := 0#32
  let v317 : BitVec 1 := Scalar.cmpi .slt c128_i32_113 c0_i32_117
  let v318 : BitVec 32 := Scalar.extui v317
  let v319 : BitVec 32 := Scalar.subi v316 v318
  let v320 : BitVec 1 := Scalar.cmpi .ne v314 v319
  let v321 : BitVec 32 := Scalar.remsi v11 c128_i32_113
  let c0_i32_118 : BitVec 32 := 0#32
  let v322 : BitVec 1 := Scalar.cmpi .ne v321 c0_i32_118
  let v323 : BitVec 1 := Scalar.andi v320 v322
  let v309 : BitVec 32 := Scalar.divsi v11 c128_i32_113
  let c1_i32_119 : BitVec 32 := 1#32
  let v324 : BitVec 32 := Scalar.subi v309 c1_i32_119
  let v325 : BitVec 32 := Scalar.select v323 v324 v309
  let c2_i32_122 : BitVec 32 := 2#32
  let v328 : BitVec 1 := Scalar.cmpi .sge v325 c2_i32_122
  let c128_i32_123 : BitVec 32 := 128#32
  let c384_i32 : BitVec 32 := 384#32
  let v329 : BitVec 32 := Scalar.select v328 c128_i32_123 c384_i32
  let c0_i32_142 : BitVec 32 := 0#32
  ![v355.toNat, v329.toNat, 0]

def k0_chk6 (i : grid0.Coords) (v11 : BitVec 32) : Prop :=
  (∀ a, (k0_off35 i v11) a + S1x128x512.size a ≤ S117x512x512.size a) ∧
  (∀ a, (k0_off36 i v11) a + S1x128x512.size a ≤ S117x512x512.size a)
theorem k0_off35_inb : ∀ (i : grid0.Coords) (v11 : BitVec 32) (k0_hw6 : k0_chk6 i v11), ∀ a, (k0_off35 i v11) a + S1x128x512.size a ≤ S117x512x512.size a := fun i v11 k0_hw6 => k0_hw6.1
theorem k0_off36_inb : ∀ (i : grid0.Coords) (v11 : BitVec 32) (k0_hw6 : k0_chk6 i v11), ∀ a, (k0_off36 i v11) a + S1x128x512.size a ≤ S117x512x512.size a := fun i v11 k0_hw6 => k0_hw6.2

def k0_off37 (i : grid0.Coords) (v13 : BitVec 32) (v23 : BitVec 32) : Fin 3 → Nat :=
  let c53_i32_145 : BitVec 32 := 53#32
  let arg0 : BitVec 32 := BitVec.ofNat 32 (i 0).val
  let v359 : BitVec 32 := Scalar.addi c53_i32_145 arg0
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c128_i32 : BitVec 32 := 128#32
  let c0_i32_7 : BitVec 32 := 0#32
  let v30 : BitVec 1 := Scalar.cmpi .sgt c128_i32 c0_i32_7
  let v31 : BitVec 32 := Scalar.extui v30
  let c0_i32_8 : BitVec 32 := 0#32
  let v32 : BitVec 1 := Scalar.cmpi .slt c128_i32 c0_i32_8
  let v33 : BitVec 32 := Scalar.extui v32
  let v34 : BitVec 32 := Scalar.subi v31 v33
  let v35 : BitVec 1 := Scalar.cmpi .ne v29 v34
  let v36 : BitVec 32 := Scalar.remsi v23 c128_i32
  let c0_i32_9 : BitVec 32 := 0#32
  let v37 : BitVec 1 := Scalar.cmpi .ne v36 c0_i32_9
  let v38 : BitVec 1 := Scalar.andi v35 v37
  let v24 : BitVec 32 := Scalar.divsi v23 c128_i32
  let c1_i32 : BitVec 32 := 1#32
  let v39 : BitVec 32 := Scalar.subi v24 c1_i32
  let v40 : BitVec 32 := Scalar.select v38 v39 v24
  let c2_i32_10 : BitVec 32 := 2#32
  let v41 : BitVec 32 := Scalar.minsi v40 c2_i32_10
  let c128_i32_11 : BitVec 32 := 128#32
  let v42 : BitVec 32 := Scalar.muli v41 c128_i32_11
  let c0_i32_125 : BitVec 32 := 0#32
  let v331 : BitVec 1 := Scalar.cmpi .sgt v13 c0_i32_125
  let v332 : BitVec 32 := Scalar.extui v331
  let c0_i32_126 : BitVec 32 := 0#32
  let v333 : BitVec 1 := Scalar.cmpi .slt v13 c0_i32_126
  let v334 : BitVec 32 := Scalar.extui v333
  let v335 : BitVec 32 := Scalar.subi v332 v334
  let c128_i32_124 : BitVec 32 := 128#32
  let c0_i32_127 : BitVec 32 := 0#32
  let v336 : BitVec 1 := Scalar.cmpi .sgt c128_i32_124 c0_i32_127
  let v337 : BitVec 32 := Scalar.extui v336
  let c0_i32_128 : BitVec 32 := 0#32
  let v338 : BitVec 1 := Scalar.cmpi .slt c128_i32_124 c0_i32_128
  let v339 : BitVec 32 := Scalar.extui v338
  let v340 : BitVec 32 := Scalar.subi v337 v339
  let v341 : BitVec 1 := Scalar.cmpi .ne v335 v340
  let v342 : BitVec 32 := Scalar.remsi v13 c128_i32_124
  let c0_i32_129 : BitVec 32 := 0#32
  let v343 : BitVec 1 := Scalar.cmpi .ne v342 c0_i32_129
  let v344 : BitVec 1 := Scalar.andi v341 v343
  let v330 : BitVec 32 := Scalar.divsi v13 c128_i32_124
  let c1_i32_130 : BitVec 32 := 1#32
  let v345 : BitVec 32 := Scalar.subi v330 c1_i32_130
  let v346 : BitVec 32 := Scalar.select v344 v345 v330
  let c0_i32_131 : BitVec 32 := 0#32
  let v347 : BitVec 1 := Scalar.cmpi .eq v346 c0_i32_131
  let c256_i32_132 : BitVec 32 := 256#32
  let c0_i32_133 : BitVec 32 := 0#32
  let v348 : BitVec 32 := Scalar.select v347 c256_i32_132 c0_i32_133
  ![v359.toNat, v42.toNat, v348.toNat]

def k0_off38 (i : grid0.Coords) (v13 : BitVec 32) (v23 : BitVec 32) : Fin 3 → Nat :=
  let c53_i32_148 : BitVec 32 := 53#32
  let arg0 : BitVec 32 := BitVec.ofNat 32 (i 0).val
  let v363 : BitVec 32 := Scalar.addi c53_i32_148 arg0
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c128_i32 : BitVec 32 := 128#32
  let c0_i32_7 : BitVec 32 := 0#32
  let v30 : BitVec 1 := Scalar.cmpi .sgt c128_i32 c0_i32_7
  let v31 : BitVec 32 := Scalar.extui v30
  let c0_i32_8 : BitVec 32 := 0#32
  let v32 : BitVec 1 := Scalar.cmpi .slt c128_i32 c0_i32_8
  let v33 : BitVec 32 := Scalar.extui v32
  let v34 : BitVec 32 := Scalar.subi v31 v33
  let v35 : BitVec 1 := Scalar.cmpi .ne v29 v34
  let v36 : BitVec 32 := Scalar.remsi v23 c128_i32
  let c0_i32_9 : BitVec 32 := 0#32
  let v37 : BitVec 1 := Scalar.cmpi .ne v36 c0_i32_9
  let v38 : BitVec 1 := Scalar.andi v35 v37
  let v24 : BitVec 32 := Scalar.divsi v23 c128_i32
  let c1_i32 : BitVec 32 := 1#32
  let v39 : BitVec 32 := Scalar.subi v24 c1_i32
  let v40 : BitVec 32 := Scalar.select v38 v39 v24
  let c2_i32_10 : BitVec 32 := 2#32
  let v41 : BitVec 32 := Scalar.minsi v40 c2_i32_10
  let c128_i32_11 : BitVec 32 := 128#32
  let v42 : BitVec 32 := Scalar.muli v41 c128_i32_11
  let c0_i32_125 : BitVec 32 := 0#32
  let v331 : BitVec 1 := Scalar.cmpi .sgt v13 c0_i32_125
  let v332 : BitVec 32 := Scalar.extui v331
  let c0_i32_126 : BitVec 32 := 0#32
  let v333 : BitVec 1 := Scalar.cmpi .slt v13 c0_i32_126
  let v334 : BitVec 32 := Scalar.extui v333
  let v335 : BitVec 32 := Scalar.subi v332 v334
  let c128_i32_124 : BitVec 32 := 128#32
  let c0_i32_127 : BitVec 32 := 0#32
  let v336 : BitVec 1 := Scalar.cmpi .sgt c128_i32_124 c0_i32_127
  let v337 : BitVec 32 := Scalar.extui v336
  let c0_i32_128 : BitVec 32 := 0#32
  let v338 : BitVec 1 := Scalar.cmpi .slt c128_i32_124 c0_i32_128
  let v339 : BitVec 32 := Scalar.extui v338
  let v340 : BitVec 32 := Scalar.subi v337 v339
  let v341 : BitVec 1 := Scalar.cmpi .ne v335 v340
  let v342 : BitVec 32 := Scalar.remsi v13 c128_i32_124
  let c0_i32_129 : BitVec 32 := 0#32
  let v343 : BitVec 1 := Scalar.cmpi .ne v342 c0_i32_129
  let v344 : BitVec 1 := Scalar.andi v341 v343
  let v330 : BitVec 32 := Scalar.divsi v13 c128_i32_124
  let c1_i32_130 : BitVec 32 := 1#32
  let v345 : BitVec 32 := Scalar.subi v330 c1_i32_130
  let v346 : BitVec 32 := Scalar.select v344 v345 v330
  let c2_i32_134 : BitVec 32 := 2#32
  let v349 : BitVec 1 := Scalar.cmpi .sge v346 c2_i32_134
  let c128_i32_135 : BitVec 32 := 128#32
  let c384_i32_136 : BitVec 32 := 384#32
  let v350 : BitVec 32 := Scalar.select v349 c128_i32_135 c384_i32_136
  ![v363.toNat, v42.toNat, v350.toNat]

def k0_chk7 (i : grid0.Coords) (v13 : BitVec 32) (v23 : BitVec 32) : Prop :=
  (∀ a, (k0_off37 i v13 v23) a + S1x256x128.size a ≤ S117x512x512.size a) ∧
  (∀ a, (k0_off38 i v13 v23) a + S1x256x128.size a ≤ S117x512x512.size a)
theorem k0_off37_inb : ∀ (i : grid0.Coords) (v13 : BitVec 32) (v23 : BitVec 32) (k0_hw7 : k0_chk7 i v13 v23), ∀ a, (k0_off37 i v13 v23) a + S1x256x128.size a ≤ S117x512x512.size a := fun i v13 v23 k0_hw7 => k0_hw7.1
theorem k0_off38_inb : ∀ (i : grid0.Coords) (v13 : BitVec 32) (v23 : BitVec 32) (k0_hw7 : k0_chk7 i v13 v23), ∀ a, (k0_off38 i v13 v23) a + S1x256x128.size a ≤ S117x512x512.size a := fun i v13 v23 k0_hw7 => k0_hw7.2

def k0_cond6 (i : grid0.Coords) : BitVec 1 :=
  let arg0 : BitVec 32 := BitVec.ofNat 32 (i 0).val
  let c2_i32_151 : BitVec 32 := 2#32
  let v367 : BitVec 32 := Scalar.addi arg0 c2_i32_151
  let c64_i32 : BitVec 32 := 64#32
  let v368 : BitVec 1 := Scalar.cmpi .slt v367 c64_i32
  let v369 : BitVec 32 := Scalar.extui v368
  let c0_i32_152 : BitVec 32 := 0#32
  let v370 : BitVec 1 := Scalar.cmpi .ne v369 c0_i32_152
  v370

def k0_off39 (i : grid0.Coords) : Fin 2 → Nat :=
  let c0_155 : Index := 0#32
  let arg0 : BitVec 32 := BitVec.ofNat 32 (i 0).val
  let c2_i32_154 : BitVec 32 := 2#32
  let v374 : BitVec 32 := Scalar.addi arg0 c2_i32_154
  let v375 : Index := Scalar.indexCast v374
  ![0, v375.toNat]
def k0_off40 (i : grid0.Coords) : Fin 2 → Nat :=
  let c1_156 : Index := 1#32
  let arg0 : BitVec 32 := BitVec.ofNat 32 (i 0).val
  let c2_i32_154 : BitVec 32 := 2#32
  let v374 : BitVec 32 := Scalar.addi arg0 c2_i32_154
  let v377 : Index := Scalar.indexCast v374
  ![1, v377.toNat]
def k0_off41 (i : grid0.Coords) : Fin 2 → Nat :=
  let c2_166 : Index := 2#32
  let arg0 : BitVec 32 := BitVec.ofNat 32 (i 0).val
  let c2_i32_154 : BitVec 32 := 2#32
  let v374 : BitVec 32 := Scalar.addi arg0 c2_i32_154
  let v398 : Index := Scalar.indexCast v374
  ![2, v398.toNat]
def k0_off42 (i : grid0.Coords) : Fin 1 → Nat :=
  let arg0 : BitVec 32 := BitVec.ofNat 32 (i 0).val
  let c2_i32_154 : BitVec 32 := 2#32
  let v374 : BitVec 32 := Scalar.addi arg0 c2_i32_154
  let c3_i32_182 : BitVec 32 := 3#32
  let c0_i32_183 : BitVec 32 := 0#32
  let v429 : BitVec 1 := Scalar.cmpi .eq c3_i32_182 c0_i32_183
  let c1_i32_184 : BitVec 32 := 1#32
  let v430 : BitVec 32 := Scalar.select v429 c1_i32_184 c3_i32_182
  let v431 : BitVec 32 := Scalar.remsi v374 v430
  let c0_i32_186 : BitVec 32 := 0#32
  let v433 : BitVec 1 := Scalar.cmpi .slt v431 c0_i32_186
  let c0_i32_187 : BitVec 32 := 0#32
  let v434 : BitVec 1 := Scalar.cmpi .slt v430 c0_i32_187
  let v435 : BitVec 1 := Scalar.xori v433 v434
  let c0_i32_185 : BitVec 32 := 0#32
  let v432 : BitVec 1 := Scalar.cmpi .ne v431 c0_i32_185
  let v436 : BitVec 1 := Scalar.andi v435 v432
  let v437 : BitVec 32 := Scalar.addi v431 v430
  let v438 : BitVec 32 := Scalar.select v436 v437 v431
  ![v438.toNat]
def k0_off43 (i : grid0.Coords) : Fin 3 → Nat :=
  let arg0 : BitVec 32 := BitVec.ofNat 32 (i 0).val
  let c2_i32_154 : BitVec 32 := 2#32
  let v374 : BitVec 32 := Scalar.addi arg0 c2_i32_154
  let c3_i32_176 : BitVec 32 := 3#32
  let c0_i32_177 : BitVec 32 := 0#32
  let v419 : BitVec 1 := Scalar.cmpi .eq c3_i32_176 c0_i32_177
  let c1_i32_178 : BitVec 32 := 1#32
  let v420 : BitVec 32 := Scalar.select v419 c1_i32_178 c3_i32_176
  let v421 : BitVec 32 := Scalar.remsi v374 v420
  let c0_i32_180 : BitVec 32 := 0#32
  let v423 : BitVec 1 := Scalar.cmpi .slt v421 c0_i32_180
  let c0_i32_181 : BitVec 32 := 0#32
  let v424 : BitVec 1 := Scalar.cmpi .slt v420 c0_i32_181
  let v425 : BitVec 1 := Scalar.xori v423 v424
  let c0_i32_179 : BitVec 32 := 0#32
  let v422 : BitVec 1 := Scalar.cmpi .ne v421 c0_i32_179
  let v426 : BitVec 1 := Scalar.andi v425 v422
  let v427 : BitVec 32 := Scalar.addi v421 v420
  let v428 : BitVec 32 := Scalar.select v426 v427 v421
  let c0_i32_188 : BitVec 32 := 0#32
  let c0_i32_189 : BitVec 32 := 0#32
  ![v428.toNat, 0, 0]
def k0_off44 (v376 : BitVec 32) (v378 : BitVec 32) (v399 : BitVec 32) : Fin 3 → Nat :=
  let c0_i32_158 : BitVec 32 := 0#32
  let v380 : BitVec 1 := Scalar.cmpi .sgt v378 c0_i32_158
  let v381 : BitVec 32 := Scalar.extui v380
  let c0_i32_159 : BitVec 32 := 0#32
  let v382 : BitVec 1 := Scalar.cmpi .slt v378 c0_i32_159
  let v383 : BitVec 32 := Scalar.extui v382
  let v384 : BitVec 32 := Scalar.subi v381 v383
  let c128_i32_157 : BitVec 32 := 128#32
  let c0_i32_160 : BitVec 32 := 0#32
  let v385 : BitVec 1 := Scalar.cmpi .sgt c128_i32_157 c0_i32_160
  let v386 : BitVec 32 := Scalar.extui v385
  let c0_i32_161 : BitVec 32 := 0#32
  let v387 : BitVec 1 := Scalar.cmpi .slt c128_i32_157 c0_i32_161
  let v388 : BitVec 32 := Scalar.extui v387
  let v389 : BitVec 32 := Scalar.subi v386 v388
  let v390 : BitVec 1 := Scalar.cmpi .ne v384 v389
  let v391 : BitVec 32 := Scalar.remsi v378 c128_i32_157
  let c0_i32_162 : BitVec 32 := 0#32
  let v392 : BitVec 1 := Scalar.cmpi .ne v391 c0_i32_162
  let v393 : BitVec 1 := Scalar.andi v390 v392
  let v379 : BitVec 32 := Scalar.divsi v378 c128_i32_157
  let c1_i32_163 : BitVec 32 := 1#32
  let v394 : BitVec 32 := Scalar.subi v379 c1_i32_163
  let v395 : BitVec 32 := Scalar.select v393 v394 v379
  let c2_i32_164 : BitVec 32 := 2#32
  let v396 : BitVec 32 := Scalar.minsi v395 c2_i32_164
  let c128_i32_165 : BitVec 32 := 128#32
  let v397 : BitVec 32 := Scalar.muli v396 c128_i32_165
  let c0_i32_168 : BitVec 32 := 0#32
  let v401 : BitVec 1 := Scalar.cmpi .sgt v399 c0_i32_168
  let v402 : BitVec 32 := Scalar.extui v401
  let c0_i32_169 : BitVec 32 := 0#32
  let v403 : BitVec 1 := Scalar.cmpi .slt v399 c0_i32_169
  let v404 : BitVec 32 := Scalar.extui v403
  let v405 : BitVec 32 := Scalar.subi v402 v404
  let c128_i32_167 : BitVec 32 := 128#32
  let c0_i32_170 : BitVec 32 := 0#32
  let v406 : BitVec 1 := Scalar.cmpi .sgt c128_i32_167 c0_i32_170
  let v407 : BitVec 32 := Scalar.extui v406
  let c0_i32_171 : BitVec 32 := 0#32
  let v408 : BitVec 1 := Scalar.cmpi .slt c128_i32_167 c0_i32_171
  let v409 : BitVec 32 := Scalar.extui v408
  let v410 : BitVec 32 := Scalar.subi v407 v409
  let v411 : BitVec 1 := Scalar.cmpi .ne v405 v410
  let v412 : BitVec 32 := Scalar.remsi v399 c128_i32_167
  let c0_i32_172 : BitVec 32 := 0#32
  let v413 : BitVec 1 := Scalar.cmpi .ne v412 c0_i32_172
  let v414 : BitVec 1 := Scalar.andi v411 v413
  let v400 : BitVec 32 := Scalar.divsi v399 c128_i32_167
  let c1_i32_173 : BitVec 32 := 1#32
  let v415 : BitVec 32 := Scalar.subi v400 c1_i32_173
  let v416 : BitVec 32 := Scalar.select v414 v415 v400
  let c2_i32_174 : BitVec 32 := 2#32
  let v417 : BitVec 32 := Scalar.minsi v416 c2_i32_174
  let c128_i32_175 : BitVec 32 := 128#32
  let v418 : BitVec 32 := Scalar.muli v417 c128_i32_175
  ![v376.toNat, v397.toNat, v418.toNat]

def k0_chk8 (i : grid0.Coords) (v376 : BitVec 32) (v378 : BitVec 32) (v399 : BitVec 32) : Prop :=
  (∀ (k0_h6 : k0_cond6 i = 1#1), ∀ a, (k0_off44 v376 v378 v399) a + S1x256x256.size a ≤ S133x512x512.size a)
theorem k0_off44_inb : ∀ (i : grid0.Coords) (v376 : BitVec 32) (v378 : BitVec 32) (v399 : BitVec 32) (k0_hw8 : k0_chk8 i v376 v378 v399), ∀ (k0_h6 : k0_cond6 i = 1#1), ∀ a, (k0_off44 v376 v378 v399) a + S1x256x256.size a ≤ S133x512x512.size a := fun i v376 v378 v399 k0_hw8 k0_h6 => k0_hw8 k0_h6

def k0_cond7 (i : grid0.Coords) : BitVec 1 :=
  let arg0 : BitVec 32 := BitVec.ofNat 32 (i 0).val
  let c63_i32 : BitVec 32 := 63#32
  let v371 : BitVec 1 := Scalar.cmpi .eq arg0 c63_i32
  let v372 : BitVec 32 := Scalar.extui v371
  let c0_i32_153 : BitVec 32 := 0#32
  let v373 : BitVec 1 := Scalar.cmpi .ne v372 c0_i32_153
  v373

@[reducible] def k0_t1_loop : Scf.Loop 32 :=
  let c0_i32_172 : BitVec 32 := 0#32
  let c128_i32_173 : BitVec 32 := 128#32
  let v392 : BitVec 32 := Scalar.addi c0_i32_172 c128_i32_173
  let c1_i32_174 : BitVec 32 := 1#32
  ⟨c0_i32_172, v392, c1_i32_174⟩
@[reducible] def k0_t2_loop : Scf.Loop 32 :=
  let c0_i32_175 : BitVec 32 := 0#32
  let c128_i32_176 : BitVec 32 := 128#32
  let v393 : BitVec 32 := Scalar.addi c0_i32_175 c128_i32_176
  let c1_i32_177 : BitVec 32 := 1#32
  ⟨c0_i32_175, v393, c1_i32_177⟩
def k0_off45 (i : grid0.Coords) : Fin 2 → Nat :=
  let c1_186 : Index := 1#32
  let arg0 : BitVec 32 := BitVec.ofNat 32 (i 0).val
  let c1_i32_178 : BitVec 32 := 1#32
  let v394 : BitVec 32 := Scalar.subi arg0 c1_i32_178
  let v406 : Index := Scalar.indexCast v394
  ![1, v406.toNat]
def k0_off46 (i : grid0.Coords) : Fin 2 → Nat :=
  let c2_196 : Index := 2#32
  let arg0 : BitVec 32 := BitVec.ofNat 32 (i 0).val
  let c1_i32_178 : BitVec 32 := 1#32
  let v394 : BitVec 32 := Scalar.subi arg0 c1_i32_178
  let v427 : Index := Scalar.indexCast v394
  ![2, v427.toNat]
def k0_off47 (i : grid0.Coords) : Fin 1 → Nat :=
  let arg0 : BitVec 32 := BitVec.ofNat 32 (i 0).val
  let c1_i32_178 : BitVec 32 := 1#32
  let v394 : BitVec 32 := Scalar.subi arg0 c1_i32_178
  let c2_i32_206 : BitVec 32 := 2#32
  let c0_i32_207 : BitVec 32 := 0#32
  let v448 : BitVec 1 := Scalar.cmpi .eq c2_i32_206 c0_i32_207
  let c1_i32_208 : BitVec 32 := 1#32
  let v449 : BitVec 32 := Scalar.select v448 c1_i32_208 c2_i32_206
  let v450 : BitVec 32 := Scalar.remsi v394 v449
  let c0_i32_210 : BitVec 32 := 0#32
  let v452 : BitVec 1 := Scalar.cmpi .slt v450 c0_i32_210
  let c0_i32_211 : BitVec 32 := 0#32
  let v453 : BitVec 1 := Scalar.cmpi .slt v449 c0_i32_211
  let v454 : BitVec 1 := Scalar.xori v452 v453
  let c0_i32_209 : BitVec 32 := 0#32
  let v451 : BitVec 1 := Scalar.cmpi .ne v450 c0_i32_209
  let v455 : BitVec 1 := Scalar.andi v454 v451
  let v456 : BitVec 32 := Scalar.addi v450 v449
  let v457 : BitVec 32 := Scalar.select v455 v456 v450
  ![v457.toNat]
def k0_off48 (i : grid0.Coords) (v407 : BitVec 32) (v428 : BitVec 32) : Fin 3 → Nat :=
  let c53_i32_185 : BitVec 32 := 53#32
  let arg0 : BitVec 32 := BitVec.ofNat 32 (i 0).val
  let c1_i32_178 : BitVec 32 := 1#32
  let v394 : BitVec 32 := Scalar.subi arg0 c1_i32_178
  let v405 : BitVec 32 := Scalar.addi c53_i32_185 v394
  let c0_i32_188 : BitVec 32 := 0#32
  let v409 : BitVec 1 := Scalar.cmpi .sgt v407 c0_i32_188
  let v410 : BitVec 32 := Scalar.extui v409
  let c0_i32_189 : BitVec 32 := 0#32
  let v411 : BitVec 1 := Scalar.cmpi .slt v407 c0_i32_189
  let v412 : BitVec 32 := Scalar.extui v411
  let v413 : BitVec 32 := Scalar.subi v410 v412
  let c128_i32_187 : BitVec 32 := 128#32
  let c0_i32_190 : BitVec 32 := 0#32
  let v414 : BitVec 1 := Scalar.cmpi .sgt c128_i32_187 c0_i32_190
  let v415 : BitVec 32 := Scalar.extui v414
  let c0_i32_191 : BitVec 32 := 0#32
  let v416 : BitVec 1 := Scalar.cmpi .slt c128_i32_187 c0_i32_191
  let v417 : BitVec 32 := Scalar.extui v416
  let v418 : BitVec 32 := Scalar.subi v415 v417
  let v419 : BitVec 1 := Scalar.cmpi .ne v413 v418
  let v420 : BitVec 32 := Scalar.remsi v407 c128_i32_187
  let c0_i32_192 : BitVec 32 := 0#32
  let v421 : BitVec 1 := Scalar.cmpi .ne v420 c0_i32_192
  let v422 : BitVec 1 := Scalar.andi v419 v421
  let v408 : BitVec 32 := Scalar.divsi v407 c128_i32_187
  let c1_i32_193 : BitVec 32 := 1#32
  let v423 : BitVec 32 := Scalar.subi v408 c1_i32_193
  let v424 : BitVec 32 := Scalar.select v422 v423 v408
  let c2_i32_194 : BitVec 32 := 2#32
  let v425 : BitVec 32 := Scalar.minsi v424 c2_i32_194
  let c128_i32_195 : BitVec 32 := 128#32
  let v426 : BitVec 32 := Scalar.muli v425 c128_i32_195
  let c0_i32_198 : BitVec 32 := 0#32
  let v430 : BitVec 1 := Scalar.cmpi .sgt v428 c0_i32_198
  let v431 : BitVec 32 := Scalar.extui v430
  let c0_i32_199 : BitVec 32 := 0#32
  let v432 : BitVec 1 := Scalar.cmpi .slt v428 c0_i32_199
  let v433 : BitVec 32 := Scalar.extui v432
  let v434 : BitVec 32 := Scalar.subi v431 v433
  let c128_i32_197 : BitVec 32 := 128#32
  let c0_i32_200 : BitVec 32 := 0#32
  let v435 : BitVec 1 := Scalar.cmpi .sgt c128_i32_197 c0_i32_200
  let v436 : BitVec 32 := Scalar.extui v435
  let c0_i32_201 : BitVec 32 := 0#32
  let v437 : BitVec 1 := Scalar.cmpi .slt c128_i32_197 c0_i32_201
  let v438 : BitVec 32 := Scalar.extui v437
  let v439 : BitVec 32 := Scalar.subi v436 v438
  let v440 : BitVec 1 := Scalar.cmpi .ne v434 v439
  let v441 : BitVec 32 := Scalar.remsi v428 c128_i32_197
  let c0_i32_202 : BitVec 32 := 0#32
  let v442 : BitVec 1 := Scalar.cmpi .ne v441 c0_i32_202
  let v443 : BitVec 1 := Scalar.andi v440 v442
  let v429 : BitVec 32 := Scalar.divsi v428 c128_i32_197
  let c1_i32_203 : BitVec 32 := 1#32
  let v444 : BitVec 32 := Scalar.subi v429 c1_i32_203
  let v445 : BitVec 32 := Scalar.select v443 v444 v429
  let c2_i32_204 : BitVec 32 := 2#32
  let v446 : BitVec 32 := Scalar.minsi v445 c2_i32_204
  let c128_i32_205 : BitVec 32 := 128#32
  let v447 : BitVec 32 := Scalar.muli v446 c128_i32_205
  ![v405.toNat, v426.toNat, v447.toNat]

def k0_chk9 (i : grid0.Coords) (v407 : BitVec 32) (v428 : BitVec 32) : Prop :=
  (∀ (k0_h7 : k0_cond7 i = 1#1), ∀ a, (k0_off48 i v407 v428) a + S1x256x256.size a ≤ S117x512x512.size a)
theorem k0_off48_inb : ∀ (i : grid0.Coords) (v407 : BitVec 32) (v428 : BitVec 32) (k0_hw9 : k0_chk9 i v407 v428), ∀ (k0_h7 : k0_cond7 i = 1#1), ∀ a, (k0_off48 i v407 v428) a + S1x256x256.size a ≤ S117x512x512.size a := fun i v407 v428 k0_hw9 k0_h7 => k0_hw9 k0_h7

def k0_off49 (i : grid0.Coords) : Fin 3 → Nat :=
  let arg0 : BitVec 32 := BitVec.ofNat 32 (i 0).val
  let c1_i32_178 : BitVec 32 := 1#32
  let v394 : BitVec 32 := Scalar.subi arg0 c1_i32_178
  let c2_i32_179 : BitVec 32 := 2#32
  let c0_i32_180 : BitVec 32 := 0#32
  let v395 : BitVec 1 := Scalar.cmpi .eq c2_i32_179 c0_i32_180
  let c1_i32_181 : BitVec 32 := 1#32
  let v396 : BitVec 32 := Scalar.select v395 c1_i32_181 c2_i32_179
  let v397 : BitVec 32 := Scalar.remsi v394 v396
  let c0_i32_183 : BitVec 32 := 0#32
  let v399 : BitVec 1 := Scalar.cmpi .slt v397 c0_i32_183
  let c0_i32_184 : BitVec 32 := 0#32
  let v400 : BitVec 1 := Scalar.cmpi .slt v396 c0_i32_184
  let v401 : BitVec 1 := Scalar.xori v399 v400
  let c0_i32_182 : BitVec 32 := 0#32
  let v398 : BitVec 1 := Scalar.cmpi .ne v397 c0_i32_182
  let v402 : BitVec 1 := Scalar.andi v401 v398
  let v403 : BitVec 32 := Scalar.addi v397 v396
  let v404 : BitVec 32 := Scalar.select v402 v403 v397
  let c0_i32_212 : BitVec 32 := 0#32
  let c0_i32_213 : BitVec 32 := 0#32
  ![v404.toNat, 0, 0]
def k0_off50 (i : grid0.Coords) : Fin 2 → Nat :=
  let c1_221 : Index := 1#32
  let arg0 : BitVec 32 := BitVec.ofNat 32 (i 0).val
  let v475 : Index := Scalar.indexCast arg0
  ![1, v475.toNat]
def k0_off51 (i : grid0.Coords) : Fin 2 → Nat :=
  let c2_231 : Index := 2#32
  let arg0 : BitVec 32 := BitVec.ofNat 32 (i 0).val
  let v496 : Index := Scalar.indexCast arg0
  ![2, v496.toNat]
def k0_off52 (i : grid0.Coords) : Fin 1 → Nat :=
  let arg0 : BitVec 32 := BitVec.ofNat 32 (i 0).val
  let c2_i32_241 : BitVec 32 := 2#32
  let c0_i32_242 : BitVec 32 := 0#32
  let v517 : BitVec 1 := Scalar.cmpi .eq c2_i32_241 c0_i32_242
  let c1_i32_243 : BitVec 32 := 1#32
  let v518 : BitVec 32 := Scalar.select v517 c1_i32_243 c2_i32_241
  let v519 : BitVec 32 := Scalar.remsi arg0 v518
  let c0_i32_245 : BitVec 32 := 0#32
  let v521 : BitVec 1 := Scalar.cmpi .slt v519 c0_i32_245
  let c0_i32_246 : BitVec 32 := 0#32
  let v522 : BitVec 1 := Scalar.cmpi .slt v518 c0_i32_246
  let v523 : BitVec 1 := Scalar.xori v521 v522
  let c0_i32_244 : BitVec 32 := 0#32
  let v520 : BitVec 1 := Scalar.cmpi .ne v519 c0_i32_244
  let v524 : BitVec 1 := Scalar.andi v523 v520
  let v525 : BitVec 32 := Scalar.addi v519 v518
  let v526 : BitVec 32 := Scalar.select v524 v525 v519
  ![v526.toNat]
def k0_off53 (i : grid0.Coords) (v476 : BitVec 32) (v497 : BitVec 32) : Fin 3 → Nat :=
  let c53_i32_220 : BitVec 32 := 53#32
  let arg0 : BitVec 32 := BitVec.ofNat 32 (i 0).val
  let v474 : BitVec 32 := Scalar.addi c53_i32_220 arg0
  let c0_i32_223 : BitVec 32 := 0#32
  let v478 : BitVec 1 := Scalar.cmpi .sgt v476 c0_i32_223
  let v479 : BitVec 32 := Scalar.extui v478
  let c0_i32_224 : BitVec 32 := 0#32
  let v480 : BitVec 1 := Scalar.cmpi .slt v476 c0_i32_224
  let v481 : BitVec 32 := Scalar.extui v480
  let v482 : BitVec 32 := Scalar.subi v479 v481
  let c128_i32_222 : BitVec 32 := 128#32
  let c0_i32_225 : BitVec 32 := 0#32
  let v483 : BitVec 1 := Scalar.cmpi .sgt c128_i32_222 c0_i32_225
  let v484 : BitVec 32 := Scalar.extui v483
  let c0_i32_226 : BitVec 32 := 0#32
  let v485 : BitVec 1 := Scalar.cmpi .slt c128_i32_222 c0_i32_226
  let v486 : BitVec 32 := Scalar.extui v485
  let v487 : BitVec 32 := Scalar.subi v484 v486
  let v488 : BitVec 1 := Scalar.cmpi .ne v482 v487
  let v489 : BitVec 32 := Scalar.remsi v476 c128_i32_222
  let c0_i32_227 : BitVec 32 := 0#32
  let v490 : BitVec 1 := Scalar.cmpi .ne v489 c0_i32_227
  let v491 : BitVec 1 := Scalar.andi v488 v490
  let v477 : BitVec 32 := Scalar.divsi v476 c128_i32_222
  let c1_i32_228 : BitVec 32 := 1#32
  let v492 : BitVec 32 := Scalar.subi v477 c1_i32_228
  let v493 : BitVec 32 := Scalar.select v491 v492 v477
  let c2_i32_229 : BitVec 32 := 2#32
  let v494 : BitVec 32 := Scalar.minsi v493 c2_i32_229
  let c128_i32_230 : BitVec 32 := 128#32
  let v495 : BitVec 32 := Scalar.muli v494 c128_i32_230
  let c0_i32_233 : BitVec 32 := 0#32
  let v499 : BitVec 1 := Scalar.cmpi .sgt v497 c0_i32_233
  let v500 : BitVec 32 := Scalar.extui v499
  let c0_i32_234 : BitVec 32 := 0#32
  let v501 : BitVec 1 := Scalar.cmpi .slt v497 c0_i32_234
  let v502 : BitVec 32 := Scalar.extui v501
  let v503 : BitVec 32 := Scalar.subi v500 v502
  let c128_i32_232 : BitVec 32 := 128#32
  let c0_i32_235 : BitVec 32 := 0#32
  let v504 : BitVec 1 := Scalar.cmpi .sgt c128_i32_232 c0_i32_235
  let v505 : BitVec 32 := Scalar.extui v504
  let c0_i32_236 : BitVec 32 := 0#32
  let v506 : BitVec 1 := Scalar.cmpi .slt c128_i32_232 c0_i32_236
  let v507 : BitVec 32 := Scalar.extui v506
  let v508 : BitVec 32 := Scalar.subi v505 v507
  let v509 : BitVec 1 := Scalar.cmpi .ne v503 v508
  let v510 : BitVec 32 := Scalar.remsi v497 c128_i32_232
  let c0_i32_237 : BitVec 32 := 0#32
  let v511 : BitVec 1 := Scalar.cmpi .ne v510 c0_i32_237
  let v512 : BitVec 1 := Scalar.andi v509 v511
  let v498 : BitVec 32 := Scalar.divsi v497 c128_i32_232
  let c1_i32_238 : BitVec 32 := 1#32
  let v513 : BitVec 32 := Scalar.subi v498 c1_i32_238
  let v514 : BitVec 32 := Scalar.select v512 v513 v498
  let c2_i32_239 : BitVec 32 := 2#32
  let v515 : BitVec 32 := Scalar.minsi v514 c2_i32_239
  let c128_i32_240 : BitVec 32 := 128#32
  let v516 : BitVec 32 := Scalar.muli v515 c128_i32_240
  ![v474.toNat, v495.toNat, v516.toNat]

def k0_chk10 (i : grid0.Coords) (v476 : BitVec 32) (v497 : BitVec 32) : Prop :=
  (∀ (k0_h7 : k0_cond7 i = 1#1), ∀ a, (k0_off53 i v476 v497) a + S1x256x256.size a ≤ S117x512x512.size a)
theorem k0_off53_inb : ∀ (i : grid0.Coords) (v476 : BitVec 32) (v497 : BitVec 32) (k0_hw10 : k0_chk10 i v476 v497), ∀ (k0_h7 : k0_cond7 i = 1#1), ∀ a, (k0_off53 i v476 v497) a + S1x256x256.size a ≤ S117x512x512.size a := fun i v476 v497 k0_hw10 k0_h7 => k0_hw10 k0_h7

def k0_off54 (i : grid0.Coords) : Fin 3 → Nat :=
  let arg0 : BitVec 32 := BitVec.ofNat 32 (i 0).val
  let c2_i32_214 : BitVec 32 := 2#32
  let c0_i32_215 : BitVec 32 := 0#32
  let v464 : BitVec 1 := Scalar.cmpi .eq c2_i32_214 c0_i32_215
  let c1_i32_216 : BitVec 32 := 1#32
  let v465 : BitVec 32 := Scalar.select v464 c1_i32_216 c2_i32_214
  let v466 : BitVec 32 := Scalar.remsi arg0 v465
  let c0_i32_218 : BitVec 32 := 0#32
  let v468 : BitVec 1 := Scalar.cmpi .slt v466 c0_i32_218
  let c0_i32_219 : BitVec 32 := 0#32
  let v469 : BitVec 1 := Scalar.cmpi .slt v465 c0_i32_219
  let v470 : BitVec 1 := Scalar.xori v468 v469
  let c0_i32_217 : BitVec 32 := 0#32
  let v467 : BitVec 1 := Scalar.cmpi .ne v466 c0_i32_217
  let v471 : BitVec 1 := Scalar.andi v470 v467
  let v472 : BitVec 32 := Scalar.addi v466 v465
  let v473 : BitVec 32 := Scalar.select v471 v472 v466
  let c0_i32_247 : BitVec 32 := 0#32
  let c0_i32_248 : BitVec 32 := 0#32
  ![v473.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S1x133x512x512 : Shape := ⟨4, ![1, 133, 512, 512]⟩
abbrev S64x1x100x100 : Shape := ⟨4, ![64, 1, 100, 100]⟩
abbrev S64x4 : Shape := ⟨2, ![64, 4]⟩
abbrev S64 : Shape := ⟨1, ![64]⟩
abbrev S1x53x512x512 : Shape := ⟨4, ![1, 53, 512, 512]⟩
abbrev S1x80x512x512 : Shape := ⟨4, ![1, 80, 512, 512]⟩
abbrev S80x512x512 : Shape := ⟨3, ![80, 512, 512]⟩
abbrev S64x1 : Shape := ⟨2, ![64, 1]⟩
abbrev S_ : Shape := ⟨0, ![]⟩
abbrev S64x100x100 : Shape := ⟨3, ![64, 100, 100]⟩
abbrev S512 : Shape := ⟨1, ![512]⟩
abbrev S1x512 : Shape := ⟨2, ![1, 512]⟩
abbrev S64x512 : Shape := ⟨2, ![64, 512]⟩
abbrev S64x512x1 : Shape := ⟨3, ![64, 512, 1]⟩
abbrev S64x512x100 : Shape := ⟨3, ![64, 512, 100]⟩
abbrev S64x512x512 : Shape := ⟨3, ![64, 512, 512]⟩
abbrev S64x1x512 : Shape := ⟨3, ![64, 1, 512]⟩
abbrev S512x512 : Shape := ⟨2, ![512, 512]⟩
abbrev S1 : Shape := ⟨1, ![1]⟩
abbrev S1x1 : Shape := ⟨2, ![1, 1]⟩
abbrev S1x512x1 : Shape := ⟨3, ![1, 512, 1]⟩
abbrev S1x1x512 : Shape := ⟨3, ![1, 1, 512]⟩
abbrev S64x1x1 : Shape := ⟨3, ![64, 1, 1]⟩
abbrev S1x64x512x512 : Shape := ⟨4, ![1, 64, 512, 512]⟩
abbrev S1x117x512x512 : Shape := ⟨4, ![1, 117, 512, 512]⟩
abbrev S117x512x512 : Shape := ⟨3, ![117, 512, 512]⟩

abbrev nBuf : Space → Nat
  | .hbm => 314
  | .vmem => 0
  | .smem => 0
  | _ => 0

abbrev hbmTy0_0 (i : Nat) : BufTy := match i % 128 with
  | 0 => ⟨S1x133x512x512, .f32⟩
  | 1 => ⟨S64x1x100x100, .f32⟩
  | 2 => ⟨S64x4, .f32⟩
  | 3 => ⟨S64, .i32⟩
  | 4 => ⟨S1x53x512x512, .f32⟩
  | 5 => ⟨S1x80x512x512, .f32⟩
  | 6 => ⟨S80x512x512, .f32⟩
  | 7 => ⟨S64x1, .f32⟩
  | 8 => ⟨S64, .f32⟩
  | 9 => ⟨S64, .i32⟩
  | 10 => ⟨S64x1, .f32⟩
  | 11 => ⟨S64, .f32⟩
  | 12 => ⟨S64, .i32⟩
  | 13 => ⟨S64x1, .f32⟩
  | 14 => ⟨S64, .f32⟩
  | 15 => ⟨S64, .i32⟩
  | 16 => ⟨S64x1, .f32⟩
  | 17 => ⟨S64, .f32⟩
  | 18 => ⟨S64, .i32⟩
  | 19 => ⟨S64, .i32⟩
  | 20 => ⟨S_, .i32⟩
  | 21 => ⟨S64, .i32⟩
  | 22 => ⟨S64, .i32⟩
  | 23 => ⟨S64, .i32⟩
  | 24 => ⟨S_, .i32⟩
  | 25 => ⟨S64, .i32⟩
  | 26 => ⟨S64, .i32⟩
  | 27 => ⟨S64x100x100, .f32⟩
  | 28 => ⟨S512, .f32⟩
  | 29 => ⟨S512, .f32⟩
  | 30 => ⟨S64, .f32⟩
  | 31 => ⟨S1x512, .f32⟩
  | 32 => ⟨S64x1, .f32⟩
  | 33 => ⟨S64x512, .f32⟩
  | 34 => ⟨S64x512, .f32⟩
  | 35 => ⟨S64x512, .f32⟩
  | 36 => ⟨S_, .f32⟩
  | 37 => ⟨S64x512, .f32⟩
  | 38 => ⟨S64x512, .f32⟩
  | 39 => ⟨S64, .f32⟩
  | 40 => ⟨S_, .f32⟩
  | 41 => ⟨S64, .f32⟩
  | 42 => ⟨S64, .f32⟩
  | 43 => ⟨S64x1, .f32⟩
  | 44 => ⟨S64x512, .f32⟩
  | 45 => ⟨S64x512, .f32⟩
  | 46 => ⟨S_, .f32⟩
  | 47 => ⟨S64x512, .f32⟩
  | 48 => ⟨S64x512, .f32⟩
  | 49 => ⟨S64, .f32⟩
  | 50 => ⟨S1x512, .f32⟩
  | 51 => ⟨S64x1, .f32⟩
  | 52 => ⟨S64x512, .f32⟩
  | 53 => ⟨S64x512, .f32⟩
  | 54 => ⟨S64x512, .f32⟩
  | 55 => ⟨S_, .f32⟩
  | 56 => ⟨S64x512, .f32⟩
  | 57 => ⟨S64x512, .f32⟩
  | 58 => ⟨S64, .f32⟩
  | 59 => ⟨S_, .f32⟩
  | 60 => ⟨S64, .f32⟩
  | 61 => ⟨S64, .f32⟩
  | 62 => ⟨S64x1, .f32⟩
  | 63 => ⟨S64x512, .f32⟩
  | 64 => ⟨S64x512, .f32⟩
  | 65 => ⟨S_, .f32⟩
  | 66 => ⟨S64x512, .f32⟩
  | 67 => ⟨S64x512, .f32⟩
  | 68 => ⟨S_, .f32⟩
  | 69 => ⟨S_, .f32⟩
  | 70 => ⟨S_, .f32⟩
  | 71 => ⟨S64x512, .f32⟩
  | 72 => ⟨S64x512, .f32⟩
  | 73 => ⟨S_, .f32⟩
  | 74 => ⟨S64x512, .f32⟩
  | 75 => ⟨S64x512, .f32⟩
  | 76 => ⟨S_, .f32⟩
  | 77 => ⟨S_, .f32⟩
  | 78 => ⟨S_, .f32⟩
  | 79 => ⟨S64x512, .f32⟩
  | 80 => ⟨S64x512, .f32⟩
  | 81 => ⟨S_, .f32⟩
  | 82 => ⟨S64x512, .f32⟩
  | 83 => ⟨S64x512, .f32⟩
  | 84 => ⟨S64x512, .f32⟩
  | 85 => ⟨S64x512, .f32⟩
  | 86 => ⟨S64x512, .i32⟩
  | 87 => ⟨S_, .i32⟩
  | 88 => ⟨S64x512, .i32⟩
  | 89 => ⟨S64x512, .i32⟩
  | 90 => ⟨S_, .i32⟩
  | 91 => ⟨S64x512, .i32⟩
  | 92 => ⟨S64x512, .i32⟩
  | 93 => ⟨S64x512, .i32⟩
  | 94 => ⟨S_, .i32⟩
  | 95 => ⟨S64x512, .i32⟩
  | 96 => ⟨S64x512, .i32⟩
  | 97 => ⟨S_, .i32⟩
  | 98 => ⟨S64x512, .i32⟩
  | 99 => ⟨S64x512, .i32⟩
  | 100 => ⟨S64x512, .f32⟩
  | 101 => ⟨S64x512, .f32⟩
  | 102 => ⟨S_, .i32⟩
  | 103 => ⟨S64x512, .i32⟩
  | 104 => ⟨S64x512, .i1⟩
  | 105 => ⟨S_, .i32⟩
  | 106 => ⟨S64x512, .i32⟩
  | 107 => ⟨S64x512, .i32⟩
  | 108 => ⟨S64x512, .i32⟩
  | 109 => ⟨S64x512x1, .i32⟩
  | 110 => ⟨S64x512x100, .f32⟩
  | 111 => ⟨S_, .i32⟩
  | 112 => ⟨S64x512, .i32⟩
  | 113 => ⟨S64x512, .i1⟩
  | 114 => ⟨S_, .i32⟩
  | 115 => ⟨S64x512, .i32⟩
  | 116 => ⟨S64x512, .i32⟩
  | 117 => ⟨S64x512, .i32⟩
  | 118 => ⟨S64x512x1, .i32⟩
  | 119 => ⟨S64x512x100, .f32⟩
  | 120 => ⟨S_, .i32⟩
  | 121 => ⟨S64x512, .i32⟩
  | 122 => ⟨S64x512, .i1⟩
  | 123 => ⟨S_, .i32⟩
  | 124 => ⟨S64x512, .i32⟩
  | 125 => ⟨S64x512, .i32⟩
  | 126 => ⟨S64x512, .i32⟩
  | 127 => ⟨S64x512x1, .i32⟩
  | _ => ⟨S1x133x512x512, .f32⟩

abbrev hbmTy0_1 (i : Nat) : BufTy := match i % 128 with
  | 0 => ⟨S64x512x512, .f32⟩
  | 1 => ⟨S_, .i32⟩
  | 2 => ⟨S64x512, .i32⟩
  | 3 => ⟨S64x512, .i1⟩
  | 4 => ⟨S_, .i32⟩
  | 5 => ⟨S64x512, .i32⟩
  | 6 => ⟨S64x512, .i32⟩
  | 7 => ⟨S64x512, .i32⟩
  | 8 => ⟨S64x512x1, .i32⟩
  | 9 => ⟨S64x512x512, .f32⟩
  | 10 => ⟨S_, .i32⟩
  | 11 => ⟨S64x512, .i32⟩
  | 12 => ⟨S64x512, .i1⟩
  | 13 => ⟨S_, .i32⟩
  | 14 => ⟨S64x512, .i32⟩
  | 15 => ⟨S64x512, .i32⟩
  | 16 => ⟨S64x512, .i32⟩
  | 17 => ⟨S64x512x1, .i32⟩
  | 18 => ⟨S64x512x512, .f32⟩
  | 19 => ⟨S_, .i32⟩
  | 20 => ⟨S64x512, .i32⟩
  | 21 => ⟨S64x512, .i1⟩
  | 22 => ⟨S_, .i32⟩
  | 23 => ⟨S64x512, .i32⟩
  | 24 => ⟨S64x512, .i32⟩
  | 25 => ⟨S64x512, .i32⟩
  | 26 => ⟨S64x512x1, .i32⟩
  | 27 => ⟨S64x512x512, .f32⟩
  | 28 => ⟨S_, .f32⟩
  | 29 => ⟨S64x512, .f32⟩
  | 30 => ⟨S64x512, .f32⟩
  | 31 => ⟨S64x512x1, .f32⟩
  | 32 => ⟨S64x512x512, .f32⟩
  | 33 => ⟨S64x512x512, .f32⟩
  | 34 => ⟨S_, .f32⟩
  | 35 => ⟨S64x512, .f32⟩
  | 36 => ⟨S64x512, .f32⟩
  | 37 => ⟨S64x1x512, .f32⟩
  | 38 => ⟨S64x512x512, .f32⟩
  | 39 => ⟨S64x512x512, .f32⟩
  | 40 => ⟨S_, .f32⟩
  | 41 => ⟨S64x512, .f32⟩
  | 42 => ⟨S64x512, .f32⟩
  | 43 => ⟨S64x512x1, .f32⟩
  | 44 => ⟨S64x512x512, .f32⟩
  | 45 => ⟨S64x512x512, .f32⟩
  | 46 => ⟨S64x1x512, .f32⟩
  | 47 => ⟨S64x512x512, .f32⟩
  | 48 => ⟨S64x512x512, .f32⟩
  | 49 => ⟨S64x512x512, .f32⟩
  | 50 => ⟨S64x512x1, .f32⟩
  | 51 => ⟨S64x512x512, .f32⟩
  | 52 => ⟨S64x512x512, .f32⟩
  | 53 => ⟨S_, .f32⟩
  | 54 => ⟨S64x512, .f32⟩
  | 55 => ⟨S64x512, .f32⟩
  | 56 => ⟨S64x1x512, .f32⟩
  | 57 => ⟨S64x512x512, .f32⟩
  | 58 => ⟨S64x512x512, .f32⟩
  | 59 => ⟨S64x512x512, .f32⟩
  | 60 => ⟨S64x512x1, .f32⟩
  | 61 => ⟨S64x512x512, .f32⟩
  | 62 => ⟨S64x512x512, .f32⟩
  | 63 => ⟨S64x1x512, .f32⟩
  | 64 => ⟨S64x512x512, .f32⟩
  | 65 => ⟨S64x512x512, .f32⟩
  | 66 => ⟨S64x512x512, .f32⟩
  | 67 => ⟨S512, .i32⟩
  | 68 => ⟨S512, .i32⟩
  | 69 => ⟨S1x512, .i32⟩
  | 70 => ⟨S64x1, .i32⟩
  | 71 => ⟨S64x512, .i32⟩
  | 72 => ⟨S64x512, .i32⟩
  | 73 => ⟨S64x512, .i1⟩
  | 74 => ⟨S64, .i32⟩
  | 75 => ⟨S_, .i32⟩
  | 76 => ⟨S64, .i32⟩
  | 77 => ⟨S64, .i32⟩
  | 78 => ⟨S1x512, .i32⟩
  | 79 => ⟨S64x1, .i32⟩
  | 80 => ⟨S64x512, .i32⟩
  | 81 => ⟨S64x512, .i32⟩
  | 82 => ⟨S64x512, .i1⟩
  | 83 => ⟨S64x512, .i1⟩
  | 84 => ⟨S64x512x1, .i1⟩
  | 85 => ⟨S1x512, .i32⟩
  | 86 => ⟨S64x1, .i32⟩
  | 87 => ⟨S64x512, .i32⟩
  | 88 => ⟨S64x512, .i32⟩
  | 89 => ⟨S64x512, .i1⟩
  | 90 => ⟨S64, .i32⟩
  | 91 => ⟨S_, .i32⟩
  | 92 => ⟨S64, .i32⟩
  | 93 => ⟨S64, .i32⟩
  | 94 => ⟨S1x512, .i32⟩
  | 95 => ⟨S64x1, .i32⟩
  | 96 => ⟨S64x512, .i32⟩
  | 97 => ⟨S64x512, .i32⟩
  | 98 => ⟨S64x512, .i1⟩
  | 99 => ⟨S64x512, .i1⟩
  | 100 => ⟨S64x1x512, .i1⟩
  | 101 => ⟨S64x512x512, .i1⟩
  | 102 => ⟨S64x512x512, .i1⟩
  | 103 => ⟨S64x512x512, .i1⟩
  | 104 => ⟨S_, .f32⟩
  | 105 => ⟨S_, .f32⟩
  | 106 => ⟨S512x512, .f32⟩
  | 107 => ⟨S64x512x512, .f32⟩
  | 108 => ⟨S64x512x512, .f32⟩
  | 109 => ⟨S64x1, .f32⟩
  | 110 => ⟨S64, .f32⟩
  | 111 => ⟨S64, .i32⟩
  | 112 => ⟨S64x1, .f32⟩
  | 113 => ⟨S64, .f32⟩
  | 114 => ⟨S64, .i32⟩
  | 115 => ⟨S64x1, .f32⟩
  | 116 => ⟨S64, .f32⟩
  | 117 => ⟨S64, .f32⟩
  | 118 => ⟨S64, .i32⟩
  | 119 => ⟨S_, .i32⟩
  | 120 => ⟨S64, .i32⟩
  | 121 => ⟨S64, .i32⟩
  | 122 => ⟨S64x1, .f32⟩
  | 123 => ⟨S64, .f32⟩
  | 124 => ⟨S64, .f32⟩
  | 125 => ⟨S64, .i32⟩
  | 126 => ⟨S_, .i32⟩
  | 127 => ⟨S64, .i32⟩
  | _ => ⟨S1x133x512x512, .f32⟩

abbrev hbmTy0_2 (i : Nat) : BufTy := match i % 128 with
  | 0 => ⟨S64, .i32⟩
  | 1 => ⟨S_, .i32⟩
  | 2 => ⟨S64, .i32⟩
  | 3 => ⟨S64, .i1⟩
  | 4 => ⟨S_, .i32⟩
  | 5 => ⟨S64, .i32⟩
  | 6 => ⟨S64, .i32⟩
  | 7 => ⟨S64, .i32⟩
  | 8 => ⟨S64x1, .i32⟩
  | 9 => ⟨S1, .i32⟩
  | 10 => ⟨S_, .i32⟩
  | 11 => ⟨S64x1, .i32⟩
  | 12 => ⟨S64x1, .i1⟩
  | 13 => ⟨S1x1, .i32⟩
  | 14 => ⟨S64x1, .i32⟩
  | 15 => ⟨S64x1, .i1⟩
  | 16 => ⟨S64x1, .i1⟩
  | 17 => ⟨S_, .i1⟩
  | 18 => ⟨S64, .i1⟩
  | 19 => ⟨S64x512x512, .f32⟩
  | 20 => ⟨S64x512x512, .i1⟩
  | 21 => ⟨S_, .f32⟩
  | 22 => ⟨S64x512x512, .f32⟩
  | 23 => ⟨S64x512x512, .f32⟩
  | 24 => ⟨S512, .i32⟩
  | 25 => ⟨S1x512x1, .i32⟩
  | 26 => ⟨S512, .i32⟩
  | 27 => ⟨S1x1x512, .i32⟩
  | 28 => ⟨S64x1x1, .i32⟩
  | 29 => ⟨S64x512x1, .i32⟩
  | 30 => ⟨S64x512x1, .i32⟩
  | 31 => ⟨S64x512x1, .i1⟩
  | 32 => ⟨S64x1x1, .i32⟩
  | 33 => ⟨S64x512x1, .i32⟩
  | 34 => ⟨S64x512x1, .i32⟩
  | 35 => ⟨S64x512x1, .i1⟩
  | 36 => ⟨S64x512x1, .i1⟩
  | 37 => ⟨S64x1x1, .i32⟩
  | 38 => ⟨S64x1x512, .i32⟩
  | 39 => ⟨S64x1x512, .i32⟩
  | 40 => ⟨S64x1x512, .i1⟩
  | 41 => ⟨S64x512x512, .i1⟩
  | 42 => ⟨S64x512x512, .i1⟩
  | 43 => ⟨S64x512x512, .i1⟩
  | 44 => ⟨S64x1x1, .i32⟩
  | 45 => ⟨S64x1x512, .i32⟩
  | 46 => ⟨S64x1x512, .i32⟩
  | 47 => ⟨S64x1x512, .i1⟩
  | 48 => ⟨S64x512x512, .i1⟩
  | 49 => ⟨S64x512x512, .i1⟩
  | 50 => ⟨S_, .f32⟩
  | 51 => ⟨S_, .f32⟩
  | 52 => ⟨S64x512x512, .f32⟩
  | 53 => ⟨S64x512x512, .f32⟩
  | 54 => ⟨S64x512x512, .f32⟩
  | 55 => ⟨S1x64x512x512, .f32⟩
  | 56 => ⟨S1x117x512x512, .f32⟩
  | 57 => ⟨S117x512x512, .f32⟩
  | _ => ⟨S1x133x512x512, .f32⟩

abbrev hbmTy (i : Nat) : BufTy := match i / 128 with
  | 0 => hbmTy0_0 i
  | 1 => hbmTy0_1 i
  | 2 => hbmTy0_2 i
  | _ => ⟨S1x133x512x512, .f32⟩

abbrev bufTy : (tb : Table) → Fin (tcTables nBuf tb) → BufTy
  | .hbm, ⟨i, _⟩ => hbmTy i
  | _, _ => ⟨S1x133x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_cst_7 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v56 : Ref sig .tc := ⟨.hbm, 75, rfl⟩
abbrev main_cst_8 : Ref sig .tc := ⟨.hbm, 76, rfl⟩
abbrev main_cst_9 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_10 : Ref sig .tc := ⟨.hbm, 87, rfl⟩
abbrev main_v61 : Ref sig .tc := ⟨.hbm, 88, rfl⟩
abbrev main_v62 : Ref sig .tc := ⟨.hbm, 89, rfl⟩
abbrev main_c_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_16 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_c_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_c_21 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_22 : Ref sig .tc := ⟨.hbm, 138, rfl⟩
abbrev main_v100 : Ref sig .tc := ⟨.hbm, 139, rfl⟩
abbrev main_v101 : Ref sig .tc := ⟨.hbm, 140, rfl⟩
abbrev main_c_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_24 : Ref sig .tc := ⟨.hbm, 147, rfl⟩
abbrev main_v107 : Ref sig .tc := ⟨.hbm, 148, rfl⟩
abbrev main_v108 : Ref sig .tc := ⟨.hbm, 149, rfl⟩
abbrev main_c_25 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_26 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_27 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_28 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_29 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_c_30 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_c_31 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_cst_32 : Ref sig .tc := ⟨.hbm, 232, rfl⟩
abbrev main_call2_v0 : Ref sig .tc := ⟨.hbm, 233, rfl⟩
abbrev main_call2_v1 : Ref sig .tc := ⟨.hbm, 234, rfl⟩
abbrev main_call2_v2 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_c_33 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_c_34 : Ref sig .tc := ⟨.hbm, 254, rfl⟩
abbrev main_v201 : Ref sig .tc := ⟨.hbm, 255, rfl⟩
abbrev main_v202 : Ref sig .tc := ⟨.hbm, 256, rfl⟩
abbrev main_call5_c : Ref sig .tc := ⟨.hbm, 257, rfl⟩
abbrev main_call5_v0 : Ref sig .tc := ⟨.hbm, 258, rfl⟩
abbrev main_call5_v1 : Ref sig .tc := ⟨.hbm, 259, rfl⟩
abbrev main_call5_c_0 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_call5_v5 : Ref sig .tc := ⟨.hbm, 264, rfl⟩
abbrev main_call5_c_1 : Ref sig .tc := ⟨.hbm, 265, rfl⟩
abbrev main_call5_c_2 : Ref sig .tc := ⟨.hbm, 266, rfl⟩
abbrev main_call5_v6 : Ref sig .tc := ⟨.hbm, 267, rfl⟩
abbrev main_call5_v7 : Ref sig .tc := ⟨.hbm, 268, rfl⟩
abbrev main_call5_v8 : Ref sig .tc := ⟨.hbm, 269, rfl⟩
abbrev main_call5_v9 : Ref sig .tc := ⟨.hbm, 270, rfl⟩
abbrev main_call5_v10 : Ref sig .tc := ⟨.hbm, 271, rfl⟩
abbrev main_call5_v11 : Ref sig .tc := ⟨.hbm, 272, rfl⟩
abbrev main_call5_c_3 : Ref sig .tc := ⟨.hbm, 273, rfl⟩
abbrev main_call5_v12 : Ref sig .tc := ⟨.hbm, 274, rfl⟩
abbrev main_call5_v13 : Ref sig .tc := ⟨.hbm, 275, rfl⟩
abbrev main_call5_v14 : Ref sig .tc := ⟨.hbm, 276, rfl⟩
abbrev main_call5_cst : Ref sig .tc := ⟨.hbm, 277, rfl⟩
abbrev main_call5_v15 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_cst_35 : Ref sig .tc := ⟨.hbm, 306, rfl⟩
abbrev main_call6_v0 : Ref sig .tc := ⟨.hbm, 307, rfl⟩
abbrev main_call6_v1 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩

abbrev nD : Nat := 1
abbrev τ : Topo := Topo.v7x

variable {F : FTy → Type} [FloatOps F]
-- ==== Proof.Offs.lean ====
/- What the kernel's printed offsets and conditions are at a grid point, in closed form: rings of two and three slots,
   the strip's base row and column as a multiple of 128, the two zero zones beside it. -/
module

public import proofs.«01_k».proof.Proof.Gen.KernelIdeal.Launch
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic

/-- The base of the 256-wide strip that holds a box starting at `v`: a multiple of 128, at most 256. -/
def hbf (v : BitVec 32) : ℕ := min (v.toNat / 128) 2 * 128
/-- The start of the first 128-wide zone outside the strip based at `h`. -/
def za (h : ℕ) : ℕ := if h = 0 then 256 else 0
/-- The start of the second 128-wide zone outside the strip based at `h`. -/
def zb (h : ℕ) : ℕ := if h = 256 then 128 else 384

/-- The first grid point. -/
def p0 : Fin grid0.N := ⟨0, by decide⟩

/-- A property of every word of at most 430, from the property of each such number. -/
theorem word_all {P : BitVec 32 → Prop} (h : ∀ j : Fin 431, P (BitVec.ofNat 32 j)) (v : BitVec 32) (hv : v.toNat ≤ 430) : P v := by
  have := h ⟨v.toNat, by omega⟩
  simpa using this

/-- A strip's base is 0, 128 or 256. -/
theorem hbf_cases (v : BitVec 32) : hbf v = 0 ∨ hbf v = 128 ∨ hbf v = 256 := by
  unfold hbf; omega

theorem hbW : ∀ j : Fin 431, k0_off22 (BitVec.ofNat 32 j) 0#32 0#32 1 = hbf (BitVec.ofNat 32 j) := by decide +kernel
theorem zaW : ∀ j : Fin 431, k0_off35 (grid0.coords p0) (BitVec.ofNat 32 j) 1 = za (hbf (BitVec.ofNat 32 j)) := by decide +kernel
theorem zbW : ∀ j : Fin 431, k0_off36 (grid0.coords p0) (BitVec.ofNat 32 j) 1 = zb (hbf (BitVec.ofNat 32 j)) := by decide +kernel
theorem hbV (v : BitVec 32) (hv : v.toNat ≤ 430) : k0_off22 v 0#32 0#32 1 = hbf v :=
  word_all (P := fun v => k0_off22 v 0#32 0#32 1 = hbf v) hbW v hv
theorem zaV (v : BitVec 32) (hv : v.toNat ≤ 430) : k0_off35 (grid0.coords p0) v 1 = za (hbf v) :=
  word_all (P := fun v => k0_off35 (grid0.coords p0) v 1 = za (hbf v)) zaW v hv
theorem zbV (v : BitVec 32) (hv : v.toNat ≤ 430) : k0_off36 (grid0.coords p0) v 1 = zb (hbf v) :=
  word_all (P := fun v => k0_off36 (grid0.coords p0) v 1 = zb (hbf v)) zbW v hv

/-- Three coordinates given one by one. -/
theorem vec3 {f : Fin 3 → ℕ} {a b c : ℕ} (h0 : f 0 = a) (h1 : f 1 = b) (h2 : f 2 = c) : f = ![a, b, c] := by
  funext j; fin_cases j <;> assumption

theorem cond1_iff : ∀ t : Fin grid0.N, k0_cond1 (grid0.coords t) = 1#1 ↔ t.val = 0 := by decide +kernel
theorem cond2_iff : ∀ t : Fin grid0.N, k0_cond2 (grid0.coords t) = 1#1 ↔ t.val + 2 < 53 := by decide +kernel
theorem cond3_iff : ∀ t : Fin grid0.N, k0_cond3 (grid0.coords t) = 1#1 ↔ 1 ≤ t.val := by decide +kernel
theorem cond4_iff : ∀ t : Fin grid0.N, k0_cond4 (grid0.coords t) = 1#1 ↔ t.val < 53 := by decide +kernel
theorem cond5_iff : ∀ t : Fin grid0.N, k0_cond5 (grid0.coords t) = 1#1 ↔ 2 ≤ t.val := by decide +kernel
theorem cond6_iff : ∀ t : Fin grid0.N, k0_cond6 (grid0.coords t) = 1#1 ↔ t.val + 2 < 64 := by decide +kernel
theorem cond7_iff : ∀ t : Fin grid0.N, k0_cond7 (grid0.coords t) = 1#1 ↔ t.val = 63 := by decide +kernel
theorem off3_eq : ∀ t : Fin grid0.N, 1 ≤ t.val → k0_off3 (grid0.coords t) = ![(t.val - 1) % 3] := by decide +kernel
theorem off4_eq : ∀ t : Fin grid0.N, 1 ≤ t.val → k0_off4 (grid0.coords t) = ![t.val - 1, 0, 0] := by decide +kernel
theorem off5_eq : ∀ t : Fin grid0.N, 1 ≤ t.val → k0_off5 (grid0.coords t) = ![(t.val - 1) % 3, 0, 0] := by decide +kernel
theorem off6_eq : ∀ t : Fin grid0.N, k0_off6 (grid0.coords t) = ![(t.val + 2) % 3] := by decide +kernel
theorem off7_eq : ∀ t : Fin grid0.N, k0_off7 (grid0.coords t) = ![(t.val + 2) % 3, 0, 0] := by decide +kernel
theorem off8_eq : ∀ t : Fin grid0.N, k0_off8 (grid0.coords t) = ![t.val + 2, 0, 0] := by decide +kernel
theorem off9_eq : ∀ t : Fin grid0.N, k0_off9 (grid0.coords t) = ![t.val % 3] := by decide +kernel
theorem off10_eq : ∀ t : Fin grid0.N, k0_off10 (grid0.coords t) = ![t.val % 3, 0, 0] := by decide +kernel
theorem off11_eq : ∀ t : Fin grid0.N, k0_off11 (grid0.coords t) = ![t.val, 0, 0] := by decide +kernel
theorem off12_eq : ∀ t : Fin grid0.N, k0_off12 (grid0.coords t) = ![t.val, 0, 0] := by decide +kernel
theorem off13_eq : ∀ t : Fin grid0.N, k0_off13 (grid0.coords t) = ![1, t.val] := by decide +kernel
theorem off14_eq : ∀ t : Fin grid0.N, k0_off14 (grid0.coords t) = ![2, t.val] := by decide +kernel
theorem off15_eq : ∀ t : Fin grid0.N, k0_off15 (grid0.coords t) = ![3, t.val] := by decide +kernel
theorem off16_eq : ∀ t : Fin grid0.N, k0_off16 (grid0.coords t) = ![4, t.val] := by decide +kernel
theorem off17_eq : ∀ t : Fin grid0.N, k0_off17 (grid0.coords t) = ![5, t.val] := by decide +kernel
theorem off18_eq : ∀ t : Fin grid0.N, k0_off18 (grid0.coords t) = ![6, t.val] := by decide +kernel
theorem off19_eq : ∀ t : Fin grid0.N, k0_off19 (grid0.coords t) = ![0, t.val] := by decide +kernel
theorem off20_eq : ∀ t : Fin grid0.N, k0_off20 (grid0.coords t) = ![t.val % 3] := by decide +kernel
theorem off21_eq : ∀ t : Fin grid0.N, k0_off21 (grid0.coords t) = ![t.val % 3, 0, 0] := by decide +kernel
theorem off23_eq : ∀ t : Fin grid0.N, k0_off23 (grid0.coords t) = ![t.val % 3, 0, 0] := by decide +kernel
theorem off24_eq : ∀ t : Fin grid0.N, 2 ≤ t.val → k0_off24 (grid0.coords t) = ![1, t.val - 2] := by decide +kernel
theorem off25_eq : ∀ t : Fin grid0.N, 2 ≤ t.val → k0_off25 (grid0.coords t) = ![2, t.val - 2] := by decide +kernel
theorem off26_eq : ∀ t : Fin grid0.N, 2 ≤ t.val → k0_off26 (grid0.coords t) = ![(t.val - 2) % 2] := by decide +kernel
theorem off28_eq : ∀ t : Fin grid0.N, 2 ≤ t.val → k0_off28 (grid0.coords t) = ![(t.val - 2) % 2, 0, 0] := by decide +kernel
theorem off29_eq : ∀ t : Fin grid0.N, k0_off29 (grid0.coords t) = ![t.val % 2, 0, 0] := by decide +kernel
theorem off30_eq : ∀ t : Fin grid0.N, k0_off30 (grid0.coords t) = ![1, t.val] := by decide +kernel
theorem off31_eq : ∀ t : Fin grid0.N, k0_off31 (grid0.coords t) = ![2, t.val] := by decide +kernel
theorem off32_eq : ∀ t : Fin grid0.N, k0_off32 (grid0.coords t) = ![t.val % 2] := by decide +kernel
theorem off34_eq : ∀ t : Fin grid0.N, k0_off34 (grid0.coords t) = ![t.val % 2, 0, 0] := by decide +kernel
theorem off39_eq : ∀ t : Fin grid0.N, k0_off39 (grid0.coords t) = ![0, t.val + 2] := by decide +kernel
theorem off40_eq : ∀ t : Fin grid0.N, k0_off40 (grid0.coords t) = ![1, t.val + 2] := by decide +kernel
theorem off41_eq : ∀ t : Fin grid0.N, k0_off41 (grid0.coords t) = ![2, t.val + 2] := by decide +kernel
theorem off42_eq : ∀ t : Fin grid0.N, k0_off42 (grid0.coords t) = ![(t.val + 2) % 3] := by decide +kernel
theorem off43_eq : ∀ t : Fin grid0.N, k0_off43 (grid0.coords t) = ![(t.val + 2) % 3, 0, 0] := by decide +kernel
theorem off45_eq : ∀ t : Fin grid0.N, t.val = 63 → k0_off45 (grid0.coords t) = ![1, 62] := by decide +kernel
theorem off46_eq : ∀ t : Fin grid0.N, t.val = 63 → k0_off46 (grid0.coords t) = ![2, 62] := by decide +kernel
theorem off47_eq : ∀ t : Fin grid0.N, t.val = 63 → k0_off47 (grid0.coords t) = ![0] := by decide +kernel
theorem off49_eq : ∀ t : Fin grid0.N, t.val = 63 → k0_off49 (grid0.coords t) = ![0, 0, 0] := by decide +kernel
theorem off50_eq : ∀ t : Fin grid0.N, t.val = 63 → k0_off50 (grid0.coords t) = ![1, 63] := by decide +kernel
theorem off51_eq : ∀ t : Fin grid0.N, t.val = 63 → k0_off51 (grid0.coords t) = ![2, 63] := by decide +kernel
theorem off52_eq : ∀ t : Fin grid0.N, t.val = 63 → k0_off52 (grid0.coords t) = ![1] := by decide +kernel
theorem off54_eq : ∀ t : Fin grid0.N, t.val = 63 → k0_off54 (grid0.coords t) = ![1, 0, 0] := by decide +kernel

theorem off1_eq (a b c : BitVec 32) (hb : b.toNat ≤ 430) (hc : c.toNat ≤ 430) : k0_off1 a b c = ![a.toNat, hbf b, hbf c] :=
  vec3 rfl ((by simp only [k0_off1, k0_off22, Matrix.cons_val] : k0_off1 a b c 1 = k0_off22 b 0#32 0#32 1).trans (hbV b hb)) ((by simp only [k0_off1, k0_off22, Matrix.cons_val] : k0_off1 a b c 2 = k0_off22 c 0#32 0#32 1).trans (hbV c hc))
theorem off2_eq (a b c : BitVec 32) (hb : b.toNat ≤ 430) (hc : c.toNat ≤ 430) : k0_off2 a b c = ![a.toNat, hbf b, hbf c] :=
  vec3 rfl ((by simp only [k0_off2, k0_off22, Matrix.cons_val] : k0_off2 a b c 1 = k0_off22 b 0#32 0#32 1).trans (hbV b hb)) ((by simp only [k0_off2, k0_off22, Matrix.cons_val] : k0_off2 a b c 2 = k0_off22 c 0#32 0#32 1).trans (hbV c hc))
theorem off44_eq (a b c : BitVec 32) (hb : b.toNat ≤ 430) (hc : c.toNat ≤ 430) : k0_off44 a b c = ![a.toNat, hbf b, hbf c] :=
  vec3 rfl ((by simp only [k0_off22, k0_off44, Matrix.cons_val] : k0_off44 a b c 1 = k0_off22 b 0#32 0#32 1).trans (hbV b hb)) ((by simp only [k0_off22, k0_off44, Matrix.cons_val] : k0_off44 a b c 2 = k0_off22 c 0#32 0#32 1).trans (hbV c hc))
theorem off22_eq (a b c : BitVec 32) (ha : a.toNat ≤ 430) (hb : b.toNat ≤ 430) : k0_off22 a b c = ![c.toNat, hbf a, hbf b] :=
  vec3 rfl ((by simp only [k0_off22, Matrix.cons_val] : k0_off22 a b c 1 = k0_off22 a 0#32 0#32 1).trans (hbV a ha)) ((by simp only [k0_off22, Matrix.cons_val] : k0_off22 a b c 2 = k0_off22 b 0#32 0#32 1).trans (hbV b hb))
theorem off27_0 : ∀ t : Fin grid0.N, 2 ≤ t.val → k0_off27 (grid0.coords t) 0#32 0#32 0 = 53 + (t.val - 2) := by decide +kernel
theorem off27_eq (t : Fin grid0.N) (h : 2 ≤ t.val) (a b : BitVec 32) (ha : a.toNat ≤ 430) (hb : b.toNat ≤ 430) : k0_off27 (grid0.coords t) a b = ![53 + (t.val - 2), hbf a, hbf b] :=
  vec3 ((by simp only [k0_off27, Matrix.cons_val] : k0_off27 (grid0.coords t) a b 0 = k0_off27 (grid0.coords t) 0#32 0#32 0).trans (off27_0 t h)) ((by simp only [k0_off22, k0_off27, Matrix.cons_val] : k0_off27 (grid0.coords t) a b 1 = k0_off22 a 0#32 0#32 1).trans (hbV a ha)) ((by simp only [k0_off22, k0_off27, Matrix.cons_val] : k0_off27 (grid0.coords t) a b 2 = k0_off22 b 0#32 0#32 1).trans (hbV b hb))
theorem off33_0 : ∀ t : Fin grid0.N, k0_off33 (grid0.coords t) 0#32 0#32 0 = 53 + t.val := by decide +kernel
theorem off33_eq (t : Fin grid0.N) (a b : BitVec 32) (ha : a.toNat ≤ 430) (hb : b.toNat ≤ 430) : k0_off33 (grid0.coords t) a b = ![53 + t.val, hbf a, hbf b] :=
  vec3 ((by simp only [k0_off33, Matrix.cons_val] : k0_off33 (grid0.coords t) a b 0 = k0_off33 (grid0.coords t) 0#32 0#32 0).trans (off33_0 t)) ((by simp only [k0_off22, k0_off33, Matrix.cons_val] : k0_off33 (grid0.coords t) a b 1 = k0_off22 a 0#32 0#32 1).trans (hbV a ha)) ((by simp only [k0_off22, k0_off33, Matrix.cons_val] : k0_off33 (grid0.coords t) a b 2 = k0_off22 b 0#32 0#32 1).trans (hbV b hb))
theorem off48_0 : ∀ t : Fin grid0.N, t.val = 63 → k0_off48 (grid0.coords t) 0#32 0#32 0 = 53 + (t.val - 1) := by decide +kernel
theorem off48_eq (t : Fin grid0.N) (h : t.val = 63) (a b : BitVec 32) (ha : a.toNat ≤ 430) (hb : b.toNat ≤ 430) : k0_off48 (grid0.coords t) a b = ![53 + (t.val - 1), hbf a, hbf b] :=
  vec3 ((by simp only [k0_off48, Matrix.cons_val] : k0_off48 (grid0.coords t) a b 0 = k0_off48 (grid0.coords t) 0#32 0#32 0).trans (off48_0 t h)) ((by simp only [k0_off22, k0_off48, Matrix.cons_val] : k0_off48 (grid0.coords t) a b 1 = k0_off22 a 0#32 0#32 1).trans (hbV a ha)) ((by simp only [k0_off22, k0_off48, Matrix.cons_val] : k0_off48 (grid0.coords t) a b 2 = k0_off22 b 0#32 0#32 1).trans (hbV b hb))
theorem off53_0 : ∀ t : Fin grid0.N, t.val = 63 → k0_off53 (grid0.coords t) 0#32 0#32 0 = 53 + t.val := by decide +kernel
theorem off53_eq (t : Fin grid0.N) (h : t.val = 63) (a b : BitVec 32) (ha : a.toNat ≤ 430) (hb : b.toNat ≤ 430) : k0_off53 (grid0.coords t) a b = ![53 + t.val, hbf a, hbf b] :=
  vec3 ((by simp only [k0_off53, Matrix.cons_val] : k0_off53 (grid0.coords t) a b 0 = k0_off53 (grid0.coords t) 0#32 0#32 0).trans (off53_0 t h)) ((by simp only [k0_off22, k0_off53, Matrix.cons_val] : k0_off53 (grid0.coords t) a b 1 = k0_off22 a 0#32 0#32 1).trans (hbV a ha)) ((by simp only [k0_off22, k0_off53, Matrix.cons_val] : k0_off53 (grid0.coords t) a b 2 = k0_off22 b 0#32 0#32 1).trans (hbV b hb))
theorem off35_eq (t : Fin grid0.N) (a : BitVec 32) (ha : a.toNat ≤ 430) : k0_off35 (grid0.coords t) a = ![53 + t.val, za (hbf a), 0] :=
  vec3 ((by simp only [k0_off33, k0_off35, Matrix.cons_val] : k0_off35 (grid0.coords t) a 0 = k0_off33 (grid0.coords t) 0#32 0#32 0).trans (off33_0 t)) ((by simp only [k0_off35, Matrix.cons_val] : k0_off35 (grid0.coords t) a 1 = k0_off35 (grid0.coords p0) a 1).trans (zaV a ha)) rfl
theorem off36_eq (t : Fin grid0.N) (a : BitVec 32) (ha : a.toNat ≤ 430) : k0_off36 (grid0.coords t) a = ![53 + t.val, zb (hbf a), 0] :=
  vec3 ((by simp only [k0_off33, k0_off36, Matrix.cons_val] : k0_off36 (grid0.coords t) a 0 = k0_off33 (grid0.coords t) 0#32 0#32 0).trans (off33_0 t)) ((by simp only [k0_off36, Matrix.cons_val] : k0_off36 (grid0.coords t) a 1 = k0_off36 (grid0.coords p0) a 1).trans (zbV a ha)) rfl
theorem off37_eq (t : Fin grid0.N) (a b : BitVec 32) (ha : a.toNat ≤ 430) (hb : b.toNat ≤ 430) : k0_off37 (grid0.coords t) a b = ![53 + t.val, hbf b, za (hbf a)] :=
  vec3 ((by simp only [k0_off33, k0_off37, Matrix.cons_val] : k0_off37 (grid0.coords t) a b 0 = k0_off33 (grid0.coords t) 0#32 0#32 0).trans (off33_0 t)) ((by simp only [k0_off22, k0_off37, Matrix.cons_val] : k0_off37 (grid0.coords t) a b 1 = k0_off22 b 0#32 0#32 1).trans (hbV b hb)) ((by simp only [k0_off35, k0_off37, Matrix.cons_val] : k0_off37 (grid0.coords t) a b 2 = k0_off35 (grid0.coords p0) a 1).trans (zaV a ha))
theorem off38_eq (t : Fin grid0.N) (a b : BitVec 32) (ha : a.toNat ≤ 430) (hb : b.toNat ≤ 430) : k0_off38 (grid0.coords t) a b = ![53 + t.val, hbf b, zb (hbf a)] :=
  vec3 ((by simp only [k0_off33, k0_off38, Matrix.cons_val] : k0_off38 (grid0.coords t) a b 0 = k0_off33 (grid0.coords t) 0#32 0#32 0).trans (off33_0 t)) ((by simp only [k0_off22, k0_off38, Matrix.cons_val] : k0_off38 (grid0.coords t) a b 1 = k0_off22 b 0#32 0#32 1).trans (hbV b hb)) ((by simp only [k0_off36, k0_off38, Matrix.cons_val] : k0_off38 (grid0.coords t) a b 2 = k0_off36 (grid0.coords p0) a 1).trans (zbV a ha))

/-- The counter of slot `k` of the gather ring, of the scatter ring, of the plane ring's fills and of its stores. -/
def cG (k : ℕ) : DmaSem sig := if k = 0 then (2 : Fin 15) else if k = 1 then (3 : Fin 15) else (4 : Fin 15)
def cS (k : ℕ) : DmaSem sig := if k = 0 then (5 : Fin 15) else (6 : Fin 15)
def cZ : DmaSem sig := (7 : Fin 15)
def cW : DmaSem sig := (8 : Fin 15)
def cF (k : ℕ) : DmaSem sig := if k = 0 then (9 : Fin 15) else if k = 1 then (10 : Fin 15) else (11 : Fin 15)
def cC (k : ℕ) : DmaSem sig := if k = 0 then (12 : Fin 15) else if k = 1 then (13 : Fin 15) else (14 : Fin 15)

theorem cG_eq {off : Fin 1 → ℕ} (k : ℕ) (h : off = ![k]) (inb : ∀ a, off a + S1.size a ≤ S3.size a) :
    ((cc0_scratch4.slice (Rect.unit (s := S3) off S1.size inb)).squeeze S_ squeezes_S1_S_).sem = cG k := by
  subst h
  have hk : k < 3 := by have := inb 0; simp [S1, S3] at this; omega
  obtain rfl | rfl | rfl : k = 0 ∨ k = 1 ∨ k = 2 := by omega
  all_goals (revert inb; decide +kernel)
theorem cF_eq {off : Fin 1 → ℕ} (k : ℕ) (h : off = ![k]) (inb : ∀ a, off a + S1.size a ≤ S3.size a) :
    ((cc0_scratch8.slice (Rect.unit (s := S3) off S1.size inb)).squeeze S_ squeezes_S1_S_).sem = cF k := by
  subst h
  have hk : k < 3 := by have := inb 0; simp [S1, S3] at this; omega
  obtain rfl | rfl | rfl : k = 0 ∨ k = 1 ∨ k = 2 := by omega
  all_goals (revert inb; decide +kernel)
theorem cC_eq {off : Fin 1 → ℕ} (k : ℕ) (h : off = ![k]) (inb : ∀ a, off a + S1.size a ≤ S3.size a) :
    ((cc0_scratch9.slice (Rect.unit (s := S3) off S1.size inb)).squeeze S_ squeezes_S1_S_).sem = cC k := by
  subst h
  have hk : k < 3 := by have := inb 0; simp [S1, S3] at this; omega
  obtain rfl | rfl | rfl : k = 0 ∨ k = 1 ∨ k = 2 := by omega
  all_goals (revert inb; decide +kernel)
theorem cS_eq {off : Fin 1 → ℕ} (k : ℕ) (h : off = ![k]) (inb : ∀ a, off a + S1.size a ≤ S2.size a) :
    ((cc0_scratch5.slice (Rect.unit (s := S2) off S1.size inb)).squeeze S_ squeezes_S1_S_).sem = cS k := by
  subst h
  have hk : k < 2 := by have := inb 0; simp [S1, S2] at this; omega
  obtain rfl | rfl : k = 0 ∨ k = 1 := by omega
  all_goals (revert inb; decide +kernel)
theorem cZ_eq : (cc0_scratch6 : DmaSems sig S_).sem = cZ := rfl
theorem cW_eq : (cc0_scratch7 : DmaSems sig S_).sem = cW := rfl

end Cert.KernelIdeal.Hand

end
-- ==== Proof.Base.lean ====
module
public import proofs.«01_k».proof.Proof.Offs
public import Idealize.ShloMosaic.Lib.Pipeline.FrameValue
public import Idealize.ShloMosaic.Lib.Pipeline.FrameBody
public import Idealize.ShloMosaic.Lib.Batch
public import Idealize.ShloMosaic.Lib.Ring
public import Idealize.ShloMosaic.Lib.Tactic
@[expose] public section
set_option maxRecDepth 16384
set_option backward.isDefEq.respectTransparency.types false
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
local notation "𝕄" => MT nD τ sig Unit (Elt F) ℕ (Pipeline.UD sig nD τ) ℕ

/-- The weakest precondition of a piece of the kernel's body on core `c`. -/
abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- The counters the transfers' bookkeeping uses. -/
abbrev EC : UEmb Counters 𝕄 := countersEmb (U := Pipeline.UD sig nD τ)

theorem landed {sp sp' : Space} {s : Shape} {e : EltTy} (S : View sig .tc sp s e) (D : View sig .tc sp' s e)
    (fs : S.ty.Contents (Elt F)) (fd G : D.ty.Contents (Elt F)) (h : D.read (Elt F) G = S.read (Elt F) fs) :
    ∀ i ∈ D.set, D.write (Elt F) fd (S.read (Elt F) fs) Finset.univ i = G i := by
  intro i hi
  obtain ⟨x, -, rfl⟩ := Finset.mem_map.mp hi
  rw [View.write_emb_of_mem _ _ (Finset.mem_univ x), ← h, View.read_apply, cast_cast, cast_eq]

/-- A local transfer issued on a counter at zero: what is written is stated as contents `G` of its own. -/
theorem issue (c : Dev nD) {sp sp' : Space} {s : Shape} {e : EltTy} {src : Memref sig .tc sp s e} {dst : Memref sig .tc sp' s e}
    {sm : SemLoc sig} {hsrc : src.view.WordExact} {hdst : dst.view.WordExact} {hsem : DmaTarget.Typed (nD := nD) (τ := τ) (p := .tc) sp sm (.here dst)}
    {q : PosShare TreeShare} {fs : Buf (Elt F) (src.view.loc (c : Thread nD τ))} {fd G : Buf (Elt F) (dst.view.loc (c : Thread nD τ))}
    (N : ℕ) (hN : dst.view.amount sm = N) (hN0 : 0 < N) (hG : dst.view.read (Elt F) G = src.view.read (Elt F) fs)
    {Q : PUnit → sProp 𝕄} :
    (src.view.loc (c : Thread nD τ) ↦[src.view.set]{q} fs) ∗ (dst.view.loc (c : Thread nD τ) ↦[dst.view.set]{fullShare} fd)
      ∗ semVal ((c : Thread nD τ), sm) 0
      ∗ (Flight EC (c : Thread nD τ) sm () N iprop((dst.view.loc (c : Thread nD τ) ↦[dst.view.set]{fullShare} G)
          ∗ (src.view.loc (c : Thread nD τ) ↦[src.view.set]{q} fs)) -∗ Q ⟨⟩)
      ⊢ WP c (Prog.lift (.enqueueDma src (.here dst) sm hsrc hdst hsem)) Q := by
  iintro ⟨H1, H2, H3, HQ⟩
  unfold WP Prog.lift
  iapply (wp_dmaLocal EC Variants.none (c : Thread nD τ) none () N hN hN0 (Finset.Subset.refl _)) $$ [H1 H2 H3]
  · isplitl [H1]; · iexact H1
    isplitl [H2]; · iexact H2
    iexact H3
  iintro HF
  rw [wp_ret]
  imodintro
  iapply HQ
  rw [pointsTo_congr (landed _ _ _ _ _ hG)]
  iexact HF

/-- The core owes nothing, whatever it has waited for. -/
def owesAny (c : Dev nD) : sProp 𝕄 := iprop(∃ W, owes (c : Thread nD τ) 0 W)

/-- The wait of a single transfer: the counter returns to zero and its delivery arrives. -/
theorem await (c : Dev nD) {sp sp' : Space} {s s' : Shape} {e e' : EltTy} {sem : DmaSem sig} {srcw : Memref sig .tc sp' s' e'}
    {dstw : Memref sig .tc sp s e} {hsrc : srcw.view.WordExact} {hdst : dstw.view.WordExact} (N : ℕ) (hN : dstw.view.dmaCredit = N)
    {D : sProp 𝕄} {Q : PUnit → sProp 𝕄} :
    Flight EC (c : Thread nD τ) (.dma sem) () N D ∗ owesAny (F := F) c
      ∗ (D ∗ semVal ((c : Thread nD τ), .dma sem) 0 ∗ owesAny (F := F) c -∗ Q ⟨⟩)
      ⊢ WP c (Prog.lift (.waitDma2 sem srcw dstw hsrc hdst)) Q := by
  unfold owesAny
  iintro ⟨H1, ⟨%W, H2⟩, HQ⟩
  unfold WP Prog.lift
  iapply (wp_waitLocal EC Variants.none (c : Thread nD τ) none () hN) $$ [H1 H2]
  · isplitl [H1]; · iexact H1
    iexact H2
  iintro ⟨HD, HS, HW⟩
  rw [wp_ret]
  imodintro
  iapply HQ
  isplitl [HD]; · iexact HD
  isplitl [HS]; · iexact HS
  iexists _; iexact HW

/-- One of the `n` transfers of a counter is issued. -/
theorem issueB (c : Dev nD) {sp sp' : Space} {s : Shape} {e : EltTy} {src : Memref sig .tc sp s e} {dst : Memref sig .tc sp' s e}
    {sm : SemLoc sig} {hsrc : src.view.WordExact} {hdst : dst.view.WordExact} {hsem : DmaTarget.Typed (nD := nD) (τ := τ) (p := .tc) sp sm (.here dst)}
    {q : PosShare TreeShare} {fs : Buf (Elt F) (src.view.loc (c : Thread nD τ))} {fd G : Buf (Elt F) (dst.view.loc (c : Thread nD τ))}
    (N : ℕ) (hN : dst.view.amount sm = N) {n : ℕ} {D : Fin n → sProp 𝕄} (j : ℕ) (hj : j < n)
    (hG : dst.view.read (Elt F) G = src.view.read (Elt F) fs)
    (hD : iprop((dst.view.loc (c : Thread nD τ) ↦[dst.view.set]{fullShare} G) ∗ (src.view.loc (c : Thread nD τ) ↦[src.view.set]{q} fs)) ⊢ D ⟨j, hj⟩)
    {Q : PUnit → sProp 𝕄} :
    (src.view.loc (c : Thread nD τ) ↦[src.view.set]{q} fs) ∗ (dst.view.loc (c : Thread nD τ) ↦[dst.view.set]{fullShare} fd)
      ∗ Batch EC (c : Thread nD τ) sm () N D j 0 ∗ (Batch EC (c : Thread nD τ) sm () N D (j + 1) 0 -∗ Q ⟨⟩)
      ⊢ WP c (Prog.lift (.enqueueDma src (.here dst) sm hsrc hdst hsem)) Q := by
  iintro ⟨H1, H2, H3, HQ⟩
  unfold WP Prog.lift
  iapply (wp_dmaBatch EC Variants.none (c : Thread nD τ) none () N hN (Finset.Subset.refl _) hj (Nat.zero_le _) ?_) $$ [H1 H2 H3]
  · refine BIBase.Entails.trans ?_ hD
    rw [pointsTo_congr (landed _ _ _ _ _ hG)]
  · isplitl [H1]; · iexact H1
    isplitl [H2]; · iexact H2
    iexact H3
  iintro HF
  rw [wp_ret]
  imodintro
  iapply HQ
  iexact HF

/-- A wait on a counter of `n` transfers that is not the last one. -/
theorem awaitB (c : Dev nD) {sp sp' : Space} {s s' : Shape} {e e' : EltTy} {sem : DmaSem sig} {srcw : Memref sig .tc sp' s' e'}
    {dstw : Memref sig .tc sp s e} {hsrc : srcw.view.WordExact} {hdst : dstw.view.WordExact} (N : ℕ) (hN : dstw.view.dmaCredit = N)
    {n : ℕ} {D : Fin n → sProp 𝕄} (u : ℕ) (hu : u + N < N * n) {Q : PUnit → sProp 𝕄} :
    Batch EC (c : Thread nD τ) (.dma sem) () N D n u ∗ owesAny (F := F) c
      ∗ (Batch EC (c : Thread nD τ) (.dma sem) () N D n (u + N) ∗ owesAny (F := F) c -∗ Q ⟨⟩)
      ⊢ WP c (Prog.lift (.waitDma2 sem srcw dstw hsrc hdst)) Q := by
  unfold owesAny
  iintro ⟨H1, ⟨%W, H2⟩, HQ⟩
  unfold WP Prog.lift
  iapply (wp_waitBatch EC Variants.none (c : Thread nD τ) none () hN hu) $$ [H1 H2]
  · isplitl [H1]; · iexact H1
    iexact H2
  iintro ⟨HD, HW⟩
  rw [wp_ret]
  imodintro
  iapply HQ
  isplitl [HD]; · iexact HD
  iexists _; iexact HW

/-- The last wait on a counter of `n` transfers: all deliveries arrive and the counter is at zero. -/
theorem awaitBLast (c : Dev nD) {sp sp' : Space} {s s' : Shape} {e e' : EltTy} {sem : DmaSem sig} {srcw : Memref sig .tc sp' s' e'}
    {dstw : Memref sig .tc sp s e} {hsrc : srcw.view.WordExact} {hdst : dstw.view.WordExact} (N : ℕ) (hN : dstw.view.dmaCredit = N) (hN0 : 0 < N)
    {n : ℕ} {D : Fin n → sProp 𝕄} (u : ℕ) (hu : u + N = N * n) {Q : PUnit → sProp 𝕄} :
    Batch EC (c : Thread nD τ) (.dma sem) () N D n u ∗ owesAny (F := F) c
      ∗ (bigSep Finset.univ D ∗ semVal ((c : Thread nD τ), .dma sem) 0 ∗ owesAny (F := F) c -∗ Q ⟨⟩)
      ⊢ WP c (Prog.lift (.waitDma2 sem srcw dstw hsrc hdst)) Q := by
  unfold owesAny
  iintro ⟨H1, ⟨%W, H2⟩, HQ⟩
  unfold WP Prog.lift
  iapply (wp_waitBatchLast EC Variants.none (c : Thread nD τ) none () hN hN0 hu) $$ [H1 H2]
  · isplitl [H1]; · iexact H1
    iexact H2
  iintro ⟨HD, HS, HW⟩
  rw [wp_ret]
  imodintro
  iapply HQ
  isplitl [HD]; · iexact HD
  isplitl [HS]; · iexact HS
  iexists _; iexact HW

/-- An assumed bound that holds. -/
theorem assumed (c : Dev nD) {P : Prop} {d : Decidable P} (h : P) {Q : PLift P → sProp 𝕄} :
    Q ⟨h⟩ ⊢ WP c (Prog.lift (.assume P d)) Q := by
  iintro HQ
  unfold WP Prog.lift
  iapply (wp_assume Variants.none (c : Thread nD τ) none Set.univ h)
  rw [wp_ret]
  imodintro
  iexact HQ

/-- Where an index of a unit-stride box lies: the box's offset plus the index. -/
theorem unit_val {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega

/-- The table's word at row `r` and column `k`. -/
def tx (r k : ℕ) : S8x64.Idx := fun | 0 => ⟨r % 8, Nat.mod_lt _ (by decide)⟩ | 1 => ⟨k % 64, Nat.mod_lt _ (by decide)⟩

/-- A word of the table is read. -/
theorem word (c : Dev nD) {off : Fin 2 → ℕ} (r k : ℕ) (h : off = ![r, k]) {inb : ∀ a, off a + S1x1.size a ≤ S8x64.size a} {h1 : S1x1.numel = 1}
    {hp : (EltTy.i32).packing = 1} {q : PosShare TreeShare} {T : Buf (Elt F) ((c : Thread nD τ).loc main_v44)} {Q : Elt F .i32 → sProp 𝕄} :
    (((c : Thread nD τ).loc main_v44) ↦{q} T) ∗ ((((c : Thread nD τ).loc main_v44) ↦{q} T) -∗ Q (T (tx r k)))
      ⊢ WP c (smemLoad (Memref.whole main_v44) (Rect.unit (s := S8x64) off S1x1.size inb) h1 hp) Q := by
  subst h
  iintro ⟨H, HQ⟩
  unfold WP smemLoad
  iapply (wp_smemLoadElt Variants.none (c : Thread nD τ) none Set.univ (m := Memref.whole main_v44) (r := Rect.unit (s := S8x64) ![r, k] S1x1.size inb) (f := T) (q := q) (Finset.subset_univ _)) $$ [H]
  · iexact H
  iintro H
  rw [wp_ret]
  imodintro
  have hr : r < 8 := by have := inb 0; simp [S1x1, S8x64] at this; omega
  have hk : k < 64 := by have := inb 1; simp [S1x1, S8x64] at this; omega
  have e : ((Memref.whole main_v44 : Memref sig .tc _ _ _).access (Rect.unit (s := S8x64) ![r, k] S1x1.size inb)).read (Elt F) T
      (Shape.Idx.first (h1.symm ▸ Nat.one_pos)) = T (tx r k) := by
    rw [View.read_apply]
    refine congrArg T ?_
    funext a
    refine Fin.ext ?_
    refine (unit_val (s := S8x64) ![r, k] S1x1.size inb _ a).trans ?_
    fin_cases a
    · show r + 0 = r % 8; omega
    · show k + 0 = k % 64; omega
  rw [e]
  iapply HQ
  iexact H

/-- The indices of a box: at least `off`, below `off + sz`, on every axis. -/
def bx {s : Shape} (off sz : Fin s.rank → ℕ) : Finset s.Idx := Finset.univ.filter fun i => ∀ a, off a ≤ (i a : ℕ) ∧ (i a : ℕ) < off a + sz a

theorem mem_bx {s : Shape} {off sz : Fin s.rank → ℕ} {i : s.Idx} : i ∈ bx off sz ↔ ∀ a, off a ≤ (i a : ℕ) ∧ (i a : ℕ) < off a + sz a := by
  simp [bx]

theorem unit_set {s : Shape} {off sz : Fin s.rank → ℕ} {inb} : (Rect.unit off sz inb).set = bx off sz := by
  ext i; rw [Rect.mem_set_unit, mem_bx]

theorem sq_set {b : Ref sig .tc} {off sz : Fin b.ty.shape.rank → ℕ} {inb h} {s' : Shape} {hs} :
    (((Memref.whole b).slice (Rect.unit off sz inb) h).squeeze s' hs).view.set = bx off sz := by
  rw [Memref.set_view_squeeze]
  exact (View.set_slice_whole b _).trans unit_set

theorem sl_set {b : Ref sig .tc} {off sz : Fin b.ty.shape.rank → ℕ} {inb h} :
    ((Memref.whole b).slice (Rect.unit off sz inb) h).view.set = bx off sz :=
  (View.set_slice_whole b _).trans unit_set

theorem ac_set {b : Ref sig .tc} {off sz : Fin b.ty.shape.rank → ℕ} {inb} :
    ((Memref.whole b).access (Rect.unit off sz inb)).set = bx off sz :=
  (View.set_slice_whole b _).trans unit_set

end Cert.KernelIdeal.Hand

end
-- ==== Proof.State.lean ====
/- The kernel's rings: what each slot holds between the body's steps, and the step each transfer and each wait takes. -/
module

public import proofs.«01_k».proof.Proof.Base
public import Idealize.ShloMosaic.Lib.ShareLeaves

@[expose] public section

set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

/-! ## Contents -/

/-- An index of the class planes, of the result. -/
def sx (a y x : ℕ) : S133x512x512.Idx := fun
  | 0 => ⟨a % 133, Nat.mod_lt _ (by decide)⟩ | 1 => ⟨y % 512, Nat.mod_lt _ (by decide)⟩ | 2 => ⟨x % 512, Nat.mod_lt _ (by decide)⟩
/-- An index of a strip. -/
def px (y x : ℕ) : S1x256x256.Idx := fun
  | 0 => ⟨0, by decide⟩ | 1 => ⟨y % 256, Nat.mod_lt _ (by decide)⟩ | 2 => ⟨x % 256, Nat.mod_lt _ (by decide)⟩

/-- The base of a strip as the kernel computes it from the word `v`. -/
def baseW (v : BitVec 32) : BitVec 32 :=
  let d : BitVec 32 := Scalar.divsi v 128#32
  let s : BitVec 32 := Scalar.subi (Scalar.extui (Scalar.cmpi .sgt v 0#32)) (Scalar.extui (Scalar.cmpi .slt v 0#32))
  let u : BitVec 32 := Scalar.subi (Scalar.extui (Scalar.cmpi .sgt (128#32 : BitVec 32) 0#32)) (Scalar.extui (Scalar.cmpi .slt (128#32 : BitVec 32) 0#32))
  let n : BitVec 1 := Scalar.andi (Scalar.cmpi .ne s u) (Scalar.cmpi .ne (Scalar.remsi v 128#32) 0#32)
  Scalar.muli (Scalar.minsi (Scalar.select n (Scalar.subi d 1#32) d) 2#32) 128#32

/-- The strip the kernel stores, from the box's words, the instance's mask and the gathered class plane. -/
def strip (y0 x0 bh bw y2 x2 : Elt F .i32) (mb : Vec F S1x128x128 .f32) (g : Vec F S1x256x256 .f32) : FVec F S1x256x256 .f32 :=
  let d : BitVec 32 := Scalar.divsi y0 128#32
  let s : BitVec 32 := Scalar.subi (Scalar.extui (Scalar.cmpi .sgt y0 0#32)) (Scalar.extui (Scalar.cmpi .slt y0 0#32))
  let u : BitVec 32 := Scalar.subi (Scalar.extui (Scalar.cmpi .sgt (128#32 : BitVec 32) 0#32)) (Scalar.extui (Scalar.cmpi .slt (128#32 : BitVec 32) 0#32))
  k0_pay14
    (k0_pay12 (k0_pay3 x0) (k0_pay5 bw) (k0_pay8 (k0_pay2 y0) (k0_pay4 bh) (k0_pay6 y0 128#32 d s u) (k0_pay7 y0 bh y0 128#32 d s u))
      (k0_pay9 (F := F)) (k0_pay10 x0) (k0_pay11 (k0_pay3 x0) (k0_pay5 bw) x0) mb)
    (k0_pay13 (F := F) y0 x0 y2 x2 (baseW y0) (baseW x0)) g

variable (T : S8x64.Idx → Elt F .i32) (SEM : S133x512x512.Idx → Elt F .f32) (MB : ℕ → Vec F S1x128x128 .f32)

/-- Instance `k`'s class, its strip's base row and base column. -/
def chT (k : ℕ) : ℕ := (T (tx 0 k) : BitVec 32).toNat
def hbT (k : ℕ) : ℕ := hbf (T (tx 1 k) : BitVec 32)
def wbT (k : ℕ) : ℕ := hbf (T (tx 2 k) : BitVec 32)

/-- The table's words are in the kernel's range. -/
def Good : Prop := ∀ k < 64, (T (tx 0 k) : BitVec 32).toNat < 133 ∧ (T (tx 1 k) : BitVec 32).toNat ≤ 430 ∧ (T (tx 2 k) : BitVec 32).toNat ≤ 430

/-- The gathered class plane of instance `k`, and its strip as stored. -/
def gat (k : ℕ) : Vec F S1x256x256 .f32 := fun y => SEM (sx (chT T k) (hbT T k + (y 1 : ℕ)) (wbT T k + (y 2 : ℕ)))
def pay (k : ℕ) : Vec F S1x256x256 .f32 :=
  strip (T (tx 1 k)) (T (tx 2 k)) (T (tx 3 k)) (T (tx 4 k)) (T (tx 5 k)) (T (tx 6 k)) (MB k) (gat T SEM k)

/-- The kernel's zero. -/
def zero : Elt F .f32 := Scalar.ofBits .f32 0x00000000#32

/-- Contents of a slot of the gather ring, of the scatter ring, of the plane ring, whichever slot it is. -/
def GB (k : ℕ) : S3x256x256.Idx → Elt F .f32 := fun i => gat T SEM k (px (i 1 : ℕ) (i 2 : ℕ))
def SB (k : ℕ) : S2x256x256.Idx → Elt F .f32 := fun i => pay T SEM MB k (px (i 1 : ℕ) (i 2 : ℕ))
def CB (k : ℕ) : S3x512x512.Idx → Elt F .f32 := fun i => SEM (sx k (i 1 : ℕ) (i 2 : ℕ))
def ZB : S256x512.Idx → Elt F .f32 := fun _ => zero

/-- What the result ends up holding. -/
def OUT : S117x512x512.Idx → Elt F .f32 := fun i =>
  if (i 0 : ℕ) < 53 then SEM (sx (i 0 : ℕ) (i 1 : ℕ) (i 2 : ℕ))
  else if (hbT T ((i 0 : ℕ) - 53) ≤ (i 1 : ℕ) ∧ (i 1 : ℕ) < hbT T ((i 0 : ℕ) - 53) + 256)
      ∧ (wbT T ((i 0 : ℕ) - 53) ≤ (i 2 : ℕ) ∧ (i 2 : ℕ) < wbT T ((i 0 : ℕ) - 53) + 256) then
    pay T SEM MB ((i 0 : ℕ) - 53) (px ((i 1 : ℕ) - hbT T ((i 0 : ℕ) - 53)) ((i 2 : ℕ) - wbT T ((i 0 : ℕ) - 53)))
  else zero

/-! ## Places -/

/-- A slot of the gather ring, of the scatter ring, of the plane ring. -/
def gS (s : ℕ) : Finset S3x256x256.Idx := bx ![s, 0, 0] S1x256x256.size
def sS (s : ℕ) : Finset S2x256x256.Idx := bx ![s, 0, 0] S1x256x256.size
def pS (s : ℕ) : Finset S3x512x512.Idx := bx ![s, 0, 0] S1x512x512.size
/-- Where instance `k`'s gather reads, where plane `k` lies in the argument and in the result. -/
def gR (k : ℕ) : Finset S133x512x512.Idx := bx ![chT T k, hbT T k, wbT T k] S1x256x256.size
def pR (k : ℕ) : Finset S133x512x512.Idx := bx ![k, 0, 0] S1x512x512.size
def pO (k : ℕ) : Finset S117x512x512.Idx := bx ![k, 0, 0] S1x512x512.size
/-- Instance `k`'s strip in the result. -/
def sO (k : ℕ) : Finset S117x512x512.Idx := bx ![53 + k, hbT T k, wbT T k] S1x256x256.size

/-- The amounts the counters count a transfer by: a gathered strip, a filled plane, a stored plane, a scattered strip,
    a zero zone of rows, a zero zone of columns. -/
def NG : ℕ := Ref.dmaCredit cc0_scratch0 S256x256 .f32
def NF : ℕ := Ref.dmaCredit cc0_scratch3 S512x512 .f32
def NC : ℕ := Ref.dmaCredit main_v45 S512x512 .f32
def NS : ℕ := Ref.dmaCredit main_v45 S256x256 .f32
def NZ : ℕ := Ref.dmaCredit main_v45 S128x512 .f32
def NW : ℕ := Ref.dmaCredit main_v45 S256x128 .f32

theorem NG_pos : 0 < NG := sig.dmaCredit_pos _ _ _ _ _ (by decide)
theorem NF_pos : 0 < NF := sig.dmaCredit_pos _ _ _ _ _ (by decide)
theorem NC_pos : 0 < NC := sig.dmaCredit_pos _ _ _ _ _ (by decide)
theorem NS_pos : 0 < NS := sig.dmaCredit_pos _ _ _ _ _ (by decide)
theorem NZ_pos : 0 < NZ := sig.dmaCredit_pos _ _ _ _ _ (by decide)
theorem NW_pos : 0 < NW := sig.dmaCredit_pos _ _ _ _ _ (by decide)

/-- The share of the class planes a ring's slot holds while idle. -/
def tok (i : Fin 8) : PosShare TreeShare := ShareLeaves.leaf 3 fullShare i
def tokG (k : ℕ) : PosShare TreeShare := tok ⟨k % 3, by omega⟩
def tokF (k : ℕ) : PosShare TreeShare := tok ⟨3 + k % 3, by omega⟩

variable (c : Dev nD)

/-- An index of a box of the class planes by its coordinates. -/
theorem sx_emb {o : Fin 3 → ℕ} {sz : Fin 3 → ℕ} {inb} {y : (Rect.unit (s := S133x512x512) o sz inb).shape.Idx} {b d : ℕ} (h0 : (y 0 : ℕ) = 0)
    (h1 : o 1 + (y 1 : ℕ) = b) (h2 : o 2 + (y 2 : ℕ) = d) : sx (o 0) b d = (Rect.unit (s := S133x512x512) o sz inb).emb y := by
  funext a
  refine Fin.ext ?_
  rw [unit_val]
  have i0 := inb 0; have i1 := inb 1; have i2 := inb 2
  have y0 : (y 0 : ℕ) < sz 0 := (y 0).isLt; have y1 : (y 1 : ℕ) < sz 1 := (y 1).isLt; have y2 : (y 2 : ℕ) < sz 2 := (y 2).isLt
  change o 0 + sz 0 ≤ 133 at i0; change o 1 + sz 1 ≤ 512 at i1; change o 2 + sz 2 ≤ 512 at i2
  fin_cases a
  · show o 0 % 133 = o 0 + (y 0 : ℕ); omega
  · show b % 512 = o 1 + (y 1 : ℕ); omega
  · show d % 512 = o 2 + (y 2 : ℕ); omega

/-! ## The gather ring -/

/-- Slot of gather `k`, idle. -/
def Gidle (k : ℕ) : sProp 𝕄 := iprop(semVal ((c : Thread nD τ), .dma (cG (k % 3))) 0
  ∗ (∃ f : Buf (Elt F) ((c : Thread nD τ).loc cc0_scratch0), ((c : Thread nD τ).loc cc0_scratch0) ↦[gS (k % 3)]{fullShare} f)
  ∗ (((c : Thread nD τ).loc main_v0) ↦{tokG k} SEM))
/-- Gather `k` landed. -/
def Ghas (k : ℕ) : sProp 𝕄 := iprop(semVal ((c : Thread nD τ), .dma (cG (k % 3))) 0
  ∗ (((c : Thread nD τ).loc cc0_scratch0) ↦[gS (k % 3)]{fullShare} GB T SEM k)
  ∗ (((c : Thread nD τ).loc main_v0) ↦{tokG k} SEM))
/-- Gather `k` in flight (past the last instance: the slot idle). -/
def Gfly (k : ℕ) : sProp 𝕄 := if k < 64 then iprop(Flight EC (c : Thread nD τ) (.dma (cG (k % 3))) () NG
    iprop((((c : Thread nD τ).loc cc0_scratch0) ↦[gS (k % 3)]{fullShare} GB T SEM k) ∗ (((c : Thread nD τ).loc main_v0) ↦[gR T k]{tokG k} SEM))
    ∗ (((c : Thread nD τ).loc main_v0) ↦[Finset.univ \ gR T k]{tokG k} SEM)) else Gidle SEM c k

theorem Ghas_idle (k : ℕ) : Ghas T SEM c k ⊢ Gidle SEM c k := by
  unfold Ghas Gidle
  iintro ⟨H1, H2, H3⟩
  isplitl [H1]; · iexact H1
  isplitl [H2]; · iexists _; iexact H2
  iexact H3

theorem gIssue (k : ℕ) (hk : k < 64) {sem : DmaSem sig} (hsem : sem = cG (k % 3)) {so : Fin 3 → ℕ} (hso : so = ![chT T k, hbT T k, wbT T k])
    {d : Fin 3 → ℕ} (hd : d = ![k % 3, 0, 0]) {ins : ∀ a, so a + S1x256x256.size a ≤ S133x512x512.size a}
    {ind : ∀ a, d a + S1x256x256.size a ≤ S3x256x256.size a} {hs hdd ht} {Q : PUnit → sProp 𝕄} :
    Gidle SEM c k ∗ (Gfly T SEM c k -∗ Q ⟨⟩)
      ⊢ WP c (Prog.lift (.enqueueDma (((Memref.whole main_v0).slice (Rect.unit (s := S133x512x512) so S1x256x256.size ins) (fun _ => rfl)).squeeze S256x256 squeezes_S1x256x256_S256x256)
          (.here (((Memref.whole cc0_scratch0).slice (Rect.unit (s := S3x256x256) d S1x256x256.size ind) (fun _ => rfl)).squeeze S256x256 squeezes_S1x256x256_S256x256)) (.dma sem) hs hdd ht)) Q := by
  subst hsem; subst hso; subst hd
  unfold Gidle Gfly
  rw [if_pos hk]
  iintro ⟨⟨H1, ⟨%f, H2⟩, H3⟩, HQ⟩
  ihave H3 := (pointsTo_split_subset (I := gR T k) (Finset.subset_univ _)).1 $$ H3
  icases H3 with ⟨H3, H4⟩
  have es := sq_set (b := main_v0) (inb := ins) (h := fun _ => rfl) (hs := squeezes_S1x256x256_S256x256)
  have ed := sq_set (b := cc0_scratch0) (inb := ind) (h := fun _ => rfl) (hs := squeezes_S1x256x256_S256x256)
  iapply (issue c NG rfl NG_pos (fs := SEM) (fd := f) (G := GB T SEM k) (q := tokG k) ?_)
  rotate_right
  · rw [es, ed]
    isplitl [H3]; · iexact H3
    isplitl [H2]; · iexact H2
    isplitl [H1]; · iexact H1
    iintro HF
    iapply HQ
    isplitl [HF]; · iexact HF
    iexact H4
  · funext x
    show GB T SEM k ((Rect.unit (s := S3x256x256) ![k % 3, 0, 0] S1x256x256.size ind).emb (Shape.reshapeEquiv squeezes_S1x256x256_S256x256.numel_eq x))
      = SEM ((Rect.unit (s := S133x512x512) ![chT T k, hbT T k, wbT T k] S1x256x256.size ins).emb (Shape.reshapeEquiv squeezes_S1x256x256_S256x256.numel_eq x))
    generalize Shape.reshapeEquiv squeezes_S1x256x256_S256x256.numel_eq x = y
    have y0 : (y 0 : ℕ) < 1 := (y 0).isLt; have y1 : (y 1 : ℕ) < 256 := (y 1).isLt; have y2 : (y 2 : ℕ) < 256 := (y 2).isLt
    unfold GB gat
    refine congrArg SEM ?_
    have e1 : ((px (((Rect.unit (s := S3x256x256) ![k % 3, 0, 0] S1x256x256.size ind).emb y 1 : ℕ)) (((Rect.unit (s := S3x256x256) ![k % 3, 0, 0] S1x256x256.size ind).emb y 2 : ℕ))) 1 : ℕ) = (y 1 : ℕ) := by
      rw [unit_val, unit_val]; show (0 + (y 1 : ℕ)) % 256 = _; omega
    have e2 : ((px (((Rect.unit (s := S3x256x256) ![k % 3, 0, 0] S1x256x256.size ind).emb y 1 : ℕ)) (((Rect.unit (s := S3x256x256) ![k % 3, 0, 0] S1x256x256.size ind).emb y 2 : ℕ))) 2 : ℕ) = (y 2 : ℕ) := by
      rw [unit_val, unit_val]; show (0 + (y 2 : ℕ)) % 256 = _; omega
    rw [e1, e2]
    exact sx_emb (o := ![chT T k, hbT T k, wbT T k]) (by omega) rfl rfl

end Cert.KernelIdeal.Hand

end
-- ==== Proof.Rings.lean ====
/- The kernel's other transfers: the rings of the planes and of the strips, and the zero zones around each strip. -/
module

public import proofs.«01_k».proof.Proof.State

@[expose] public section

set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

/-- A gather's wait. -/
theorem gWait (k : ℕ) (hk : k < 64) {sem : DmaSem sig} (hsem : sem = cG (k % 3)) {sp sp' : Space} {s s' : Shape} {e e' : EltTy}
    {srcw : Memref sig .tc sp' s' e'} {dstw : Memref sig .tc sp s e} {hs hd} (hN : dstw.view.dmaCredit = NG) {Q : PUnit → sProp 𝕄} :
    Gfly T SEM c k ∗ owesAny (F := F) c ∗ (Ghas T SEM c k ∗ owesAny (F := F) c -∗ Q ⟨⟩)
      ⊢ WP c (Prog.lift (.waitDma2 sem srcw dstw hs hd)) Q := by
  subst hsem
  unfold Gfly Ghas
  rw [if_pos hk]
  iintro ⟨⟨HF, HR⟩, HO, HQ⟩
  iapply (await c NG hN) $$ [HF HO HR HQ]
  isplitl [HF]; · iexact HF
  isplitl [HO]; · iexact HO
  iintro ⟨⟨HD, HS⟩, HV, HO⟩
  iapply HQ
  isplitl [HD HS HV HR]
  · isplitl [HV]; · iexact HV
    isplitl [HD]; · iexact HD
    iapply (pointsTo_split_subset (I := gR T k) (Finset.subset_univ _)).2 $$ [HS HR]
    isplitl [HS]; · iexact HS
    iexact HR
  iexact HO

/-! ## The planes -/

/-- Slot of plane `k`, idle. -/
def Cidle (k : ℕ) : sProp 𝕄 := iprop(semVal ((c : Thread nD τ), .dma (cF (k % 3))) 0 ∗ semVal ((c : Thread nD τ), .dma (cC (k % 3))) 0
  ∗ (∃ f : Buf (Elt F) ((c : Thread nD τ).loc cc0_scratch3), ((c : Thread nD τ).loc cc0_scratch3) ↦[pS (k % 3)]{fullShare} f)
  ∗ (((c : Thread nD τ).loc main_v0) ↦{tokF k} SEM))
/-- Plane `k` on its way in, in its slot, on its way out. -/
def Cfill (k : ℕ) : sProp 𝕄 := iprop(Flight EC (c : Thread nD τ) (.dma (cF (k % 3))) () NF
    iprop((((c : Thread nD τ).loc cc0_scratch3) ↦[pS (k % 3)]{fullShare} CB SEM k) ∗ (((c : Thread nD τ).loc main_v0) ↦[pR k]{tokF k} SEM))
  ∗ semVal ((c : Thread nD τ), .dma (cC (k % 3))) 0
  ∗ (((c : Thread nD τ).loc main_v0) ↦[Finset.univ \ pR k]{tokF k} SEM))
def Chas (k : ℕ) : sProp 𝕄 := iprop(semVal ((c : Thread nD τ), .dma (cF (k % 3))) 0 ∗ semVal ((c : Thread nD τ), .dma (cC (k % 3))) 0
  ∗ (((c : Thread nD τ).loc cc0_scratch3) ↦[pS (k % 3)]{fullShare} CB SEM k)
  ∗ (((c : Thread nD τ).loc main_v0) ↦{tokF k} SEM))
def Cstore (k : ℕ) : sProp 𝕄 := iprop(Flight EC (c : Thread nD τ) (.dma (cC (k % 3))) () NC
    iprop((((c : Thread nD τ).loc main_v45) ↦[pO k]{fullShare} OUT T SEM MB) ∗ (((c : Thread nD τ).loc cc0_scratch3) ↦[pS (k % 3)]{fullShare} CB SEM k))
  ∗ semVal ((c : Thread nD τ), .dma (cF (k % 3))) 0
  ∗ (((c : Thread nD τ).loc main_v0) ↦{tokF k} SEM))

/-- A plane is fetched. -/
theorem fIssue (k : ℕ) (hk : k < 53) {sem : DmaSem sig} (hsem : sem = cF (k % 3)) {so : Fin 3 → ℕ} (hso : so = ![k, 0, 0])
    {d : Fin 3 → ℕ} (hd : d = ![k % 3, 0, 0]) {ins : ∀ a, so a + S1x512x512.size a ≤ S133x512x512.size a}
    {ind : ∀ a, d a + S1x512x512.size a ≤ S3x512x512.size a} {hs hdd ht} {Q : PUnit → sProp 𝕄} :
    Cidle SEM c k ∗ (Cfill SEM c k -∗ Q ⟨⟩)
      ⊢ WP c (Prog.lift (.enqueueDma (((Memref.whole main_v0).slice (Rect.unit (s := S133x512x512) so S1x512x512.size ins) (fun _ => rfl)).squeeze S512x512 squeezes_S1x512x512_S512x512)
          (.here (((Memref.whole cc0_scratch3).slice (Rect.unit (s := S3x512x512) d S1x512x512.size ind) (fun _ => rfl)).squeeze S512x512 squeezes_S1x512x512_S512x512)) (.dma sem) hs hdd ht)) Q := by
  subst hsem; subst hso; subst hd
  unfold Cidle Cfill
  iintro ⟨⟨H1, H1', ⟨%f, H2⟩, H3⟩, HQ⟩
  ihave H3 := (pointsTo_split_subset (I := pR k) (Finset.subset_univ _)).1 $$ H3
  icases H3 with ⟨H3, H4⟩
  have es := sq_set (b := main_v0) (inb := ins) (h := fun _ => rfl) (hs := squeezes_S1x512x512_S512x512)
  have ed := sq_set (b := cc0_scratch3) (inb := ind) (h := fun _ => rfl) (hs := squeezes_S1x512x512_S512x512)
  iapply (issue c NF rfl NF_pos (fs := SEM) (fd := f) (G := CB SEM k) (q := tokF k) ?_)
  rotate_right
  · rw [es, ed]
    isplitl [H3]; · iexact H3
    isplitl [H2]; · iexact H2
    isplitl [H1]; · iexact H1
    iintro HF
    iapply HQ
    isplitl [HF]; · iexact HF
    isplitl [H1']; · iexact H1'
    iexact H4
  · funext x
    show CB SEM k ((Rect.unit (s := S3x512x512) ![k % 3, 0, 0] S1x512x512.size ind).emb (Shape.reshapeEquiv squeezes_S1x512x512_S512x512.numel_eq x))
      = SEM ((Rect.unit (s := S133x512x512) ![k, 0, 0] S1x512x512.size ins).emb (Shape.reshapeEquiv squeezes_S1x512x512_S512x512.numel_eq x))
    generalize Shape.reshapeEquiv squeezes_S1x512x512_S512x512.numel_eq x = y
    have y0 : (y 0 : ℕ) < 1 := (y 0).isLt
    unfold CB
    refine congrArg SEM ?_
    rw [unit_val, unit_val]
    exact sx_emb (o := ![k, 0, 0]) (by omega) rfl rfl

/-- A plane's fetch is waited for. -/
theorem fWait (k : ℕ) {sem : DmaSem sig} (hsem : sem = cF (k % 3)) {sp sp' : Space} {s s' : Shape} {e e' : EltTy}
    {srcw : Memref sig .tc sp' s' e'} {dstw : Memref sig .tc sp s e} {hs hd} (hN : dstw.view.dmaCredit = NF) {Q : PUnit → sProp 𝕄} :
    Cfill SEM c k ∗ owesAny (F := F) c ∗ (Chas SEM c k ∗ owesAny (F := F) c -∗ Q ⟨⟩)
      ⊢ WP c (Prog.lift (.waitDma2 sem srcw dstw hs hd)) Q := by
  subst hsem
  unfold Cfill Chas
  iintro ⟨⟨HF, HC, HR⟩, HO, HQ⟩
  iapply (await c NF hN) $$ [HF HC HO HR HQ]
  isplitl [HF]; · iexact HF
  isplitl [HO]; · iexact HO
  iintro ⟨⟨HD, HS⟩, HV, HO⟩
  iapply HQ
  isplitl [HD HS HV HR HC]
  · isplitl [HV]; · iexact HV
    isplitl [HC]; · iexact HC
    isplitl [HD]; · iexact HD
    iapply (pointsTo_split_subset (I := pR k) (Finset.subset_univ _)).2 $$ [HS HR]
    isplitl [HS]; · iexact HS
    iexact HR
  iexact HO

/-- A plane is stored. -/
theorem cIssue (k : ℕ) (hk : k < 53) {sem : DmaSem sig} (hsem : sem = cC (k % 3)) {so : Fin 3 → ℕ} (hso : so = ![k % 3, 0, 0])
    {d : Fin 3 → ℕ} (hd : d = ![k, 0, 0]) {ins : ∀ a, so a + S1x512x512.size a ≤ S3x512x512.size a}
    {ind : ∀ a, d a + S1x512x512.size a ≤ S117x512x512.size a} {hs hdd ht} {f : S117x512x512.Idx → Elt F .f32} {Q : PUnit → sProp 𝕄} :
    Chas SEM c k ∗ (((c : Thread nD τ).loc main_v45) ↦[pO k]{fullShare} f) ∗ (Cstore T SEM MB c k -∗ Q ⟨⟩)
      ⊢ WP c (Prog.lift (.enqueueDma (((Memref.whole cc0_scratch3).slice (Rect.unit (s := S3x512x512) so S1x512x512.size ins) (fun _ => rfl)).squeeze S512x512 squeezes_S1x512x512_S512x512)
          (.here (((Memref.whole main_v45).slice (Rect.unit (s := S117x512x512) d S1x512x512.size ind) (fun _ => rfl)).squeeze S512x512 squeezes_S1x512x512_S512x512)) (.dma sem) hs hdd ht)) Q := by
  subst hsem; subst hso; subst hd
  unfold Chas Cstore
  iintro ⟨⟨H1', H1, H3, H4⟩, H2, HQ⟩
  have es := sq_set (b := cc0_scratch3) (inb := ins) (h := fun _ => rfl) (hs := squeezes_S1x512x512_S512x512)
  have ed := sq_set (b := main_v45) (inb := ind) (h := fun _ => rfl) (hs := squeezes_S1x512x512_S512x512)
  iapply (issue c NC rfl NC_pos (fs := CB SEM k) (fd := f) (G := OUT T SEM MB) (q := fullShare) ?_)
  rotate_right
  · rw [es, ed]
    isplitl [H3]; · iexact H3
    isplitl [H2]; · iexact H2
    isplitl [H1]; · iexact H1
    iintro HF
    iapply HQ
    isplitl [HF]; · iexact HF
    isplitl [H1']; · iexact H1'
    iexact H4
  · funext x
    show OUT T SEM MB ((Rect.unit (s := S117x512x512) ![k, 0, 0] S1x512x512.size ind).emb (Shape.reshapeEquiv squeezes_S1x512x512_S512x512.numel_eq x))
      = CB SEM k ((Rect.unit (s := S3x512x512) ![k % 3, 0, 0] S1x512x512.size ins).emb (Shape.reshapeEquiv squeezes_S1x512x512_S512x512.numel_eq x))
    generalize Shape.reshapeEquiv squeezes_S1x512x512_S512x512.numel_eq x = y
    have y0 : (y 0 : ℕ) < 1 := (y 0).isLt
    have e0 : ((Rect.unit (s := S117x512x512) ![k, 0, 0] S1x512x512.size ind).emb y 0 : ℕ) = k := by
      rw [unit_val]; show k + (y 0 : ℕ) = k; omega
    unfold OUT CB
    rw [e0, if_pos hk]
    simp only [unit_val]
    rfl

/-- A plane's store is waited for. -/
theorem cWait (k : ℕ) {sem : DmaSem sig} (hsem : sem = cC (k % 3)) {sp sp' : Space} {s s' : Shape} {e e' : EltTy}
    {srcw : Memref sig .tc sp' s' e'} {dstw : Memref sig .tc sp s e} {hs hd} (hN : dstw.view.dmaCredit = NC) {Q : PUnit → sProp 𝕄} :
    Cstore T SEM MB c k ∗ owesAny (F := F) c
        ∗ ((((c : Thread nD τ).loc main_v45) ↦[pO k]{fullShare} OUT T SEM MB) ∗ Cidle SEM c k ∗ owesAny (F := F) c -∗ Q ⟨⟩)
      ⊢ WP c (Prog.lift (.waitDma2 sem srcw dstw hs hd)) Q := by
  subst hsem
  unfold Cstore Cidle
  iintro ⟨⟨HF, HC, HR⟩, HO, HQ⟩
  iapply (await c NC hN) $$ [HF HC HO HR HQ]
  isplitl [HF]; · iexact HF
  isplitl [HO]; · iexact HO
  iintro ⟨⟨HD, HS⟩, HV, HO⟩
  iapply HQ
  isplitl [HD]; · iexact HD
  isplitl [HS HV HR HC]
  · isplitl [HC]; · iexact HC
    isplitl [HV]; · iexact HV
    isplitl [HS]; · iexists _; iexact HS
    iexact HR
  iexact HO

/-! ## The strips -/

/-- Slot of strip `k`, idle, filled, on its way out. -/
def Sidle (k : ℕ) : sProp 𝕄 := iprop(semVal ((c : Thread nD τ), .dma (cS (k % 2))) 0
  ∗ (∃ f : Buf (Elt F) ((c : Thread nD τ).loc cc0_scratch1), ((c : Thread nD τ).loc cc0_scratch1) ↦[sS (k % 2)]{fullShare} f))
def Shas (k : ℕ) : sProp 𝕄 := iprop(semVal ((c : Thread nD τ), .dma (cS (k % 2))) 0
  ∗ (((c : Thread nD τ).loc cc0_scratch1) ↦[sS (k % 2)]{fullShare} SB T SEM MB k))
def Sfly (k : ℕ) : sProp 𝕄 := Flight EC (c : Thread nD τ) (.dma (cS (k % 2))) () NS
    iprop((((c : Thread nD τ).loc main_v45) ↦[sO T k]{fullShare} OUT T SEM MB) ∗ (((c : Thread nD τ).loc cc0_scratch1) ↦[sS (k % 2)]{fullShare} SB T SEM MB k))

/-- The result on a strip. -/
theorem OUT_strip (k : ℕ) (y1 y2 : ℕ) (h1 : y1 < 256) (h2 : y2 < 256) (i : S117x512x512.Idx) (i0 : (i 0 : ℕ) = 53 + k)
    (i1 : (i 1 : ℕ) = hbT T k + y1) (i2 : (i 2 : ℕ) = wbT T k + y2) : OUT T SEM MB i = pay T SEM MB k (px y1 y2) := by
  unfold OUT
  rw [i0, i1, i2, if_neg (by omega), Nat.add_sub_cancel_left, if_pos ⟨⟨by omega, by omega⟩, by omega, by omega⟩, Nat.add_sub_cancel_left, Nat.add_sub_cancel_left]

/-- A strip is scattered. -/
theorem sIssue (k : ℕ) {sem : DmaSem sig} (hsem : sem = cS (k % 2)) {so : Fin 3 → ℕ} (hso : so = ![k % 2, 0, 0])
    {d : Fin 3 → ℕ} (hd : d = ![53 + k, hbT T k, wbT T k]) {ins : ∀ a, so a + S1x256x256.size a ≤ S2x256x256.size a}
    {ind : ∀ a, d a + S1x256x256.size a ≤ S117x512x512.size a} {hs hdd ht} {f : S117x512x512.Idx → Elt F .f32} {Q : PUnit → sProp 𝕄} :
    Shas T SEM MB c k ∗ (((c : Thread nD τ).loc main_v45) ↦[sO T k]{fullShare} f) ∗ (Sfly T SEM MB c k -∗ Q ⟨⟩)
      ⊢ WP c (Prog.lift (.enqueueDma (((Memref.whole cc0_scratch1).slice (Rect.unit (s := S2x256x256) so S1x256x256.size ins) (fun _ => rfl)).squeeze S256x256 squeezes_S1x256x256_S256x256)
          (.here (((Memref.whole main_v45).slice (Rect.unit (s := S117x512x512) d S1x256x256.size ind) (fun _ => rfl)).squeeze S256x256 squeezes_S1x256x256_S256x256)) (.dma sem) hs hdd ht)) Q := by
  subst hsem; subst hso; subst hd
  unfold Shas Sfly
  iintro ⟨⟨H1, H3⟩, H2, HQ⟩
  have es := sq_set (b := cc0_scratch1) (inb := ins) (h := fun _ => rfl) (hs := squeezes_S1x256x256_S256x256)
  have ed := sq_set (b := main_v45) (inb := ind) (h := fun _ => rfl) (hs := squeezes_S1x256x256_S256x256)
  iapply (issue c NS rfl NS_pos (fs := SB T SEM MB k) (fd := f) (G := OUT T SEM MB) (q := fullShare) ?_)
  rotate_right
  · rw [es, ed]
    isplitl [H3]; · iexact H3
    isplitl [H2]; · iexact H2
    isplitl [H1]; · iexact H1
    iintro HF
    iapply HQ
    iexact HF
  · funext x
    show OUT T SEM MB ((Rect.unit (s := S117x512x512) ![53 + k, hbT T k, wbT T k] S1x256x256.size ind).emb (Shape.reshapeEquiv squeezes_S1x256x256_S256x256.numel_eq x))
      = SB T SEM MB k ((Rect.unit (s := S2x256x256) ![k % 2, 0, 0] S1x256x256.size ins).emb (Shape.reshapeEquiv squeezes_S1x256x256_S256x256.numel_eq x))
    generalize Shape.reshapeEquiv squeezes_S1x256x256_S256x256.numel_eq x = y
    have y0 : (y 0 : ℕ) < 1 := (y 0).isLt; have y1 : (y 1 : ℕ) < 256 := (y 1).isLt; have y2 : (y 2 : ℕ) < 256 := (y 2).isLt
    refine (OUT_strip T SEM MB k (y 1) (y 2) y1 y2 _ ?_ ?_ ?_).trans ?_
    · rw [unit_val]; show 53 + k + (y 0 : ℕ) = _; omega
    · rw [unit_val]; rfl
    · rw [unit_val]; rfl
    · unfold SB
      refine congrArg _ ?_
      simp only [unit_val]
      show px (y 1 : ℕ) (y 2 : ℕ) = px (0 + (y 1 : ℕ)) (0 + (y 2 : ℕ))
      rw [Nat.zero_add, Nat.zero_add]

/-- A strip's scatter is waited for. -/
theorem sWait (k : ℕ) {sem : DmaSem sig} (hsem : sem = cS (k % 2)) {sp sp' : Space} {s s' : Shape} {e e' : EltTy}
    {srcw : Memref sig .tc sp' s' e'} {dstw : Memref sig .tc sp s e} {hs hd} (hN : dstw.view.dmaCredit = NS) {Q : PUnit → sProp 𝕄} :
    Sfly T SEM MB c k ∗ owesAny (F := F) c
        ∗ ((((c : Thread nD τ).loc main_v45) ↦[sO T k]{fullShare} OUT T SEM MB) ∗ Sidle c k ∗ owesAny (F := F) c -∗ Q ⟨⟩)
      ⊢ WP c (Prog.lift (.waitDma2 sem srcw dstw hs hd)) Q := by
  subst hsem
  unfold Sfly Sidle
  iintro ⟨HF, HO, HQ⟩
  iapply (await c NS hN) $$ [HF HO HQ]
  isplitl [HF]; · iexact HF
  isplitl [HO]; · iexact HO
  iintro ⟨⟨HD, HS⟩, HV, HO⟩
  iapply HQ
  isplitl [HD]; · iexact HD
  isplitl [HS HV]
  · isplitl [HV]; · iexact HV
    iexists _; iexact HS
  iexact HO

/-! ## The zero zones: two of rows and two of columns around each strip -/

/-- The zones' transfers go by twos: transfer `j` clears for instance `j / 2`. -/
def zRo (j : ℕ) : Fin 3 → ℕ := ![53 + j / 2, if j % 2 = 0 then za (hbT T (j / 2)) else zb (hbT T (j / 2)), 0]
def zCo (j : ℕ) : Fin 3 → ℕ := ![53 + j / 2, hbT T (j / 2), if j % 2 = 0 then za (wbT T (j / 2)) else zb (wbT T (j / 2))]
def zR (j : ℕ) : Finset S117x512x512.Idx := bx (zRo T j) S1x128x512.size
def zC (j : ℕ) : Finset S117x512x512.Idx := bx (zCo T j) S1x256x128.size
/-- Where they read the zeroes. -/
def zRs : Finset S256x512.Idx := bx ![0, 0] S128x512.size
def zCs : Finset S256x512.Idx := bx ![0, 0] S256x128.size

/-- What each delivers, and the shares of the zeroes still to be handed out. -/
def DR (j : Fin (2 ^ 7)) : sProp 𝕄 := iprop((((c : Thread nD τ).loc main_v45) ↦[zR T j]{fullShare} OUT T SEM MB)
  ∗ (((c : Thread nD τ).loc cc0_scratch2) ↦[zRs]{ShareLeaves.leaf 7 fullShare.left j} (ZB (F := F))))
def DC (j : Fin (2 ^ 7)) : sProp 𝕄 := iprop((((c : Thread nD τ).loc main_v45) ↦[zC T j]{fullShare} OUT T SEM MB)
  ∗ (((c : Thread nD τ).loc cc0_scratch2) ↦[zCs]{ShareLeaves.leaf 7 fullShare.right j} (ZB (F := F))))
def LR (n : ℕ) : sProp 𝕄 := bigSep (Finset.univ.filter fun j : Fin (2 ^ 7) => n ≤ j.val) fun j =>
  ((c : Thread nD τ).loc cc0_scratch2) ↦[zRs]{ShareLeaves.leaf 7 fullShare.left j} (ZB (F := F))
def LC (n : ℕ) : sProp 𝕄 := bigSep (Finset.univ.filter fun j : Fin (2 ^ 7) => n ≤ j.val) fun j =>
  ((c : Thread nD τ).loc cc0_scratch2) ↦[zCs]{ShareLeaves.leaf 7 fullShare.right j} (ZB (F := F))
/-- `j` of the zones' transfers are under way. -/
def ZR (j : ℕ) : sProp 𝕄 := iprop(Batch EC (c : Thread nD τ) (.dma cZ) () NZ (DR T SEM MB c) j 0 ∗ LR c j)
def ZC (j : ℕ) : sProp 𝕄 := iprop(Batch EC (c : Thread nD τ) (.dma cW) () NW (DC T SEM MB c) j 0 ∗ LC c j)

/-- The least of those left is handed out. -/
theorem leaves_step (Φ : Fin (2 ^ 7) → sProp 𝕄) (n : ℕ) (hn : n < 2 ^ 7) :
    bigSep (Finset.univ.filter fun j : Fin (2 ^ 7) => n ≤ j.val) Φ
      ⊢ iprop(Φ ⟨n, hn⟩ ∗ bigSep (Finset.univ.filter fun j : Fin (2 ^ 7) => n + 1 ≤ j.val) Φ) := by
  have e : (Finset.univ.filter fun j : Fin (2 ^ 7) => n ≤ j.val) = insert ⟨n, hn⟩ (Finset.univ.filter fun j : Fin (2 ^ 7) => n + 1 ≤ j.val) := by
    ext j
    simp only [Finset.mem_filter, Finset.mem_univ, true_and, Finset.mem_insert, Fin.ext_iff]
    omega
  rw [e]
  rw [bigSep_insert (by simp [Finset.mem_filter])]
  exact .rfl

theorem za_zb (v : BitVec 32) : (za (hbf v) + 128 ≤ hbf v ∨ hbf v + 256 ≤ za (hbf v)) ∧ (zb (hbf v) + 128 ≤ hbf v ∨ hbf v + 256 ≤ zb (hbf v)) := by
  rcases hbf_cases v with h | h | h <;> rw [h] <;> decide

/-- Off the strip, the result is zero. -/
theorem OUT_zero (k : ℕ) (i : S117x512x512.Idx) (i0 : (i 0 : ℕ) = 53 + k)
    (h : (i 1 : ℕ) < hbT T k ∨ hbT T k + 256 ≤ (i 1 : ℕ) ∨ (i 2 : ℕ) < wbT T k ∨ wbT T k + 256 ≤ (i 2 : ℕ)) : OUT T SEM MB i = zero := by
  unfold OUT
  rw [i0, if_neg (by omega), Nat.add_sub_cancel_left, if_neg (by omega)]

/-- The amount of a zone's transfer, of its wait. -/
theorem amtR {d ind} {sem : DmaSem sig} : (((Memref.whole main_v45).slice (Rect.unit (s := S117x512x512) d S1x128x512.size ind) (fun _ => rfl)).squeeze S128x512 squeezes_S1x128x512_S128x512).view.amount (.dma sem) = NZ := by
  unfold NZ; rfl
theorem crdR {d ind} : (((Memref.whole main_v45).slice (Rect.unit (s := S117x512x512) d S1x128x512.size ind) (fun _ => rfl)).squeeze S128x512 squeezes_S1x128x512_S128x512).view.dmaCredit = NZ := by
  unfold NZ; rfl

/-- A zone of rows is cleared. -/
theorem zRIssue (j : ℕ) (hj : j < 2 ^ 7) {sem : DmaSem sig} (hsem : sem = cZ)
    {d : Fin 3 → ℕ} (hd : d = zRo T j) {ins : ∀ a, ![0, 0] a + S128x512.size a ≤ S256x512.size a}
    {ind : ∀ a, d a + S1x128x512.size a ≤ S117x512x512.size a} {hs hdd ht} {f : S117x512x512.Idx → Elt F .f32} {Q : PUnit → sProp 𝕄} :
    ZR T SEM MB c j ∗ (((c : Thread nD τ).loc main_v45) ↦[zR T j]{fullShare} f) ∗ (ZR T SEM MB c (j + 1) -∗ Q ⟨⟩)
      ⊢ WP c (Prog.lift (.enqueueDma ((Memref.whole cc0_scratch2).slice (Rect.unit (s := S256x512) ![0, 0] S128x512.size ins) (fun _ => rfl))
          (.here (((Memref.whole main_v45).slice (Rect.unit (s := S117x512x512) d S1x128x512.size ind) (fun _ => rfl)).squeeze S128x512 squeezes_S1x128x512_S128x512)) (.dma sem) hs hdd ht)) Q := by
  subst hsem; subst hd
  unfold ZR
  iintro ⟨⟨H1, HL⟩, H2, HQ⟩
  ihave HL := (leaves_step (fun j => ((c : Thread nD τ).loc cc0_scratch2) ↦[zRs]{ShareLeaves.leaf 7 fullShare.left j} (ZB (F := F))) j hj) $$ [HL]
  · unfold LR; iexact HL
  icases HL with ⟨H3, HL⟩
  have es := sl_set (b := cc0_scratch2) (inb := ins) (h := fun _ => rfl)
  have ed := sq_set (b := main_v45) (inb := ind) (h := fun _ => rfl) (hs := squeezes_S1x128x512_S128x512)
  iapply (issueB c NZ amtR (fs := (ZB (F := F))) (fd := f) (G := OUT T SEM MB) (q := ShareLeaves.leaf 7 fullShare.left ⟨j, hj⟩) (D := DR T SEM MB c) j hj ?_ ?_)
  rotate_right
  · rw [es, ed]
    isplitl [H3]; · iexact H3
    isplitl [H2]; · iexact H2
    isplitl [H1]; · iexact H1
    iintro HF
    iapply HQ
    isplitl [HF]; · iexact HF
    unfold LR; iexact HL
  · funext x
    show OUT T SEM MB ((Rect.unit (s := S117x512x512) (zRo T j) S1x128x512.size ind).emb (Shape.reshapeEquiv squeezes_S1x128x512_S128x512.numel_eq x)) = zero
    generalize Shape.reshapeEquiv squeezes_S1x128x512_S128x512.numel_eq x = y
    have y0 : (y 0 : ℕ) < 1 := (y 0).isLt
    refine OUT_zero T SEM MB (j / 2) _ ?_ ?_
    · rw [unit_val]; show 53 + j / 2 + (y 0 : ℕ) = _; omega
    have z := za_zb (T (tx 1 (j / 2)))
    have e1 : ((Rect.unit (s := S117x512x512) (zRo T j) S1x128x512.size ind).emb y 1 : ℕ) = zRo T j 1 + (y 1 : ℕ) := unit_val _ _ _ _ _
    change _ = (if j % 2 = 0 then za (hbT T (j / 2)) else zb (hbT T (j / 2))) + (y 1 : ℕ) at e1
    have y1 : (y 1 : ℕ) < 128 := (y 1).isLt
    unfold hbT at *
    split at e1 <;> omega
  · rw [es, ed]
    exact .rfl

/-- The amount of a zone's transfer, of its wait. -/
theorem amtC {d ind} {sem : DmaSem sig} : (((Memref.whole main_v45).slice (Rect.unit (s := S117x512x512) d S1x256x128.size ind) (fun _ => rfl)).squeeze S256x128 squeezes_S1x256x128_S256x128).view.amount (.dma sem) = NW := by
  unfold NW; rfl
theorem crdC {d ind} : (((Memref.whole main_v45).slice (Rect.unit (s := S117x512x512) d S1x256x128.size ind) (fun _ => rfl)).squeeze S256x128 squeezes_S1x256x128_S256x128).view.dmaCredit = NW := by
  unfold NW; rfl

/-- A zone of columns is cleared. -/
theorem zCIssue (j : ℕ) (hj : j < 2 ^ 7) {sem : DmaSem sig} (hsem : sem = cW)
    {d : Fin 3 → ℕ} (hd : d = zCo T j) {ins : ∀ a, ![0, 0] a + S256x128.size a ≤ S256x512.size a}
    {ind : ∀ a, d a + S1x256x128.size a ≤ S117x512x512.size a} {hs hdd ht} {f : S117x512x512.Idx → Elt F .f32} {Q : PUnit → sProp 𝕄} :
    ZC T SEM MB c j ∗ (((c : Thread nD τ).loc main_v45) ↦[zC T j]{fullShare} f) ∗ (ZC T SEM MB c (j + 1) -∗ Q ⟨⟩)
      ⊢ WP c (Prog.lift (.enqueueDma ((Memref.whole cc0_scratch2).slice (Rect.unit (s := S256x512) ![0, 0] S256x128.size ins) (fun _ => rfl))
          (.here (((Memref.whole main_v45).slice (Rect.unit (s := S117x512x512) d S1x256x128.size ind) (fun _ => rfl)).squeeze S256x128 squeezes_S1x256x128_S256x128)) (.dma sem) hs hdd ht)) Q := by
  subst hsem; subst hd
  unfold ZC
  iintro ⟨⟨H1, HL⟩, H2, HQ⟩
  ihave HL := (leaves_step (fun j => ((c : Thread nD τ).loc cc0_scratch2) ↦[zCs]{ShareLeaves.leaf 7 fullShare.right j} (ZB (F := F))) j hj) $$ [HL]
  · unfold LC; iexact HL
  icases HL with ⟨H3, HL⟩
  have es := sl_set (b := cc0_scratch2) (inb := ins) (h := fun _ => rfl)
  have ed := sq_set (b := main_v45) (inb := ind) (h := fun _ => rfl) (hs := squeezes_S1x256x128_S256x128)
  iapply (issueB c NW amtC (fs := (ZB (F := F))) (fd := f) (G := OUT T SEM MB) (q := ShareLeaves.leaf 7 fullShare.right ⟨j, hj⟩) (D := DC T SEM MB c) j hj ?_ ?_)
  rotate_right
  · rw [es, ed]
    isplitl [H3]; · iexact H3
    isplitl [H2]; · iexact H2
    isplitl [H1]; · iexact H1
    iintro HF
    iapply HQ
    isplitl [HF]; · iexact HF
    unfold LC; iexact HL
  · funext x
    show OUT T SEM MB ((Rect.unit (s := S117x512x512) (zCo T j) S1x256x128.size ind).emb (Shape.reshapeEquiv squeezes_S1x256x128_S256x128.numel_eq x)) = zero
    generalize Shape.reshapeEquiv squeezes_S1x256x128_S256x128.numel_eq x = y
    have y0 : (y 0 : ℕ) < 1 := (y 0).isLt
    refine OUT_zero T SEM MB (j / 2) _ ?_ ?_
    · rw [unit_val]; show 53 + j / 2 + (y 0 : ℕ) = _; omega
    have z := za_zb (T (tx 2 (j / 2)))
    have e1 : ((Rect.unit (s := S117x512x512) (zCo T j) S1x256x128.size ind).emb y 2 : ℕ) = zCo T j 2 + (y 2 : ℕ) := unit_val _ _ _ _ _
    change _ = (if j % 2 = 0 then za (wbT T (j / 2)) else zb (wbT T (j / 2))) + (y 2 : ℕ) at e1
    have y1 : (y 2 : ℕ) < 128 := (y 2).isLt
    unfold wbT at *
    split at e1 <;> omega
  · rw [es, ed]
    exact .rfl

end Cert.KernelIdeal.Hand

end
-- ==== Proof.Steps.lean ====
/- The kernel's loads and stores of its buffers, and the bounds it assumes. -/
module

public import proofs.«01_k».proof.Proof.Rings

@[expose] public section

set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

/-- What one half of a program leaves is what the other starts from. -/
theorem cut {α : Type} {p : Prog (TpuEff nD τ sig (Elt F) Λ₀ .tc) α} {P : sProp 𝕄} {R Q : α → sProp 𝕄} (h : P ⊢ WP c p R) :
    P ∗ (∀ a, R a -∗ Q a) ⊢ WP c p Q := by
  iintro ⟨HP, HQ⟩
  ihave H := h $$ HP
  ihave H := (wp_frame_r (Fr := frame) (wpE := wpE (defs₀ (F := F)) Variants.none (c : Thread nD τ) none) (Q := R) (R := iprop(∀ a, R a -∗ Q a))) $$ [H HQ]
  · isplitl [H]; · iexact H
    iexact HQ
  iapply (wp_mono (Fr := frame) (wpE := wpE (defs₀ (F := F)) Variants.none (c : Thread nD τ) none) ?_) $$ H
  intro a
  iintro ⟨HR, HQ⟩
  iapply HQ
  iexact HR

/-- A load of a box held whole. -/
theorem loadR {cs : CoreSpace} {s : Shape} {e : EltTy} {m : Memref sig .tc cs s e} {r : Rect s} {hl : m.view.LoadsAt r.toLoadRect}
    {S : Finset (Idx ((m.access r).loc (c : Thread nD τ)))} {q : PosShare TreeShare} {f : Buf (Elt F) ((m.access r).loc (c : Thread nD τ))}
    {v : r.shape.Idx → Elt F e} (hS : (m.access r).set ⊆ S) (hv : (m.access r).read (Elt F) f = v) {Q : (r.shape.Idx → Elt F e) → sProp 𝕄} :
    ((m.access r).loc (c : Thread nD τ) ↦[S]{q} f) ∗ (((m.access r).loc (c : Thread nD τ) ↦[S]{q} f) -∗ Q v)
      ⊢ WP c (Prog.lift (.load m r.toLoadRect hl)) Q := by
  subst hv
  iintro ⟨H, HQ⟩
  unfold WP Prog.lift
  iapply (wp_load_rect Variants.none (c : Thread nD τ) none Set.univ hS) $$ H
  iintro H
  rw [wp_ret]
  imodintro
  iapply HQ
  iexact H

/-- A box is written: what it holds is stated as contents `G` of its own. -/
theorem storeR {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {f G : Buf (Elt F) ((m.access r).loc (c : Thread nD τ))} (hG : (m.access r).read (Elt F) G = w) {Q : PUnit → sProp 𝕄} :
    ((m.access r).loc (c : Thread nD τ) ↦[(m.access r).set]{fullShare} f)
        ∗ (((m.access r).loc (c : Thread nD τ) ↦[(m.access r).set]{fullShare} G) -∗ Q ⟨⟩)
      ⊢ WP c (Prog.lift (.store m r w Finset.univ hx hm)) Q := by
  iintro ⟨H, HQ⟩
  unfold WP Prog.lift
  iapply (wp_store Variants.none (c : Thread nD τ) none Set.univ (S := (m.access r).set) (by rw [View.setOn_univ])) $$ H
  iintro H
  rw [wp_ret]
  imodintro
  iapply HQ
  have e : ∀ i ∈ (m.access r).set, (m.access r).write (Elt F) f w Finset.univ i = G i := by
    intro i hi
    obtain ⟨x, -, rfl⟩ := Finset.mem_map.mp hi
    rw [View.write_emb_of_mem _ _ (Finset.mem_univ x), ← hG, View.read_apply, cast_cast, cast_eq]
  rw [pointsTo_congr e]
  exact .rfl

theorem px_self (y : S1x256x256.Idx) : px (0 + (y 1 : ℕ)) (0 + (y 2 : ℕ)) = y := by
  funext a
  have y0 : (y 0 : ℕ) < 1 := (y 0).isLt; have y1 : (y 1 : ℕ) < 256 := (y 1).isLt; have y2 : (y 2 : ℕ) < 256 := (y 2).isLt
  refine Fin.ext ?_
  fin_cases a
  · show 0 = (y 0 : ℕ); omega
  · show (0 + (y 1 : ℕ)) % 256 = (y 1 : ℕ); omega
  · show (0 + (y 2 : ℕ)) % 256 = (y 2 : ℕ); omega

/-- The gathered class plane is loaded. -/
theorem gLoad (k : ℕ) {off : Fin 3 → ℕ} (h : off = ![k % 3, 0, 0]) {inb : ∀ a, off a + S1x256x256.size a ≤ S3x256x256.size a} {hl}
    {Q : Vec F S1x256x256 .f32 → sProp 𝕄} :
    Ghas T SEM c k ∗ (Ghas T SEM c k -∗ Q (gat T SEM k))
      ⊢ WP c (Prog.lift (.load (Memref.whole cc0_scratch0) (Rect.unit (s := S3x256x256) off S1x256x256.size inb).toLoadRect hl)) Q := by
  subst h
  unfold Ghas
  iintro ⟨⟨H1, H2, H3⟩, HQ⟩
  iapply (loadR c (m := Memref.whole cc0_scratch0) (r := Rect.unit (s := S3x256x256) ![k % 3, 0, 0] S1x256x256.size inb) (q := fullShare) (f := GB T SEM k) (v := gat T SEM k) (S := gS (k % 3)) ?_ ?_)
  rotate_right
  · isplitl [H2]; · iexact H2
    iintro H2
    iapply HQ
    isplitl [H1]; · iexact H1
    isplitl [H2]; · iexact H2
    iexact H3
  · exact (ac_set (b := cc0_scratch0) (inb := inb)).subset
  · funext y
    show GB T SEM k ((Rect.unit (s := S3x256x256) ![k % 3, 0, 0] S1x256x256.size inb).emb y) = gat T SEM k y
    unfold GB
    refine congrArg _ ?_
    rw [unit_val, unit_val]
    exact px_self y

/-- The strip's slot is loaded (what it held is not used). -/
theorem sLoad (k : ℕ) {off : Fin 3 → ℕ} (h : off = ![k % 2, 0, 0]) {inb : ∀ a, off a + S1x256x256.size a ≤ S2x256x256.size a} {hl}
    {Q : Vec F S1x256x256 .f32 → sProp 𝕄} :
    Sidle c k ∗ (∀ v, Sidle c k -∗ Q v)
      ⊢ WP c (Prog.lift (.load (Memref.whole cc0_scratch1) (Rect.unit (s := S2x256x256) off S1x256x256.size inb).toLoadRect hl)) Q := by
  subst h
  unfold Sidle
  iintro ⟨⟨H1, ⟨%f, H2⟩⟩, HQ⟩
  iapply (loadR c (m := Memref.whole cc0_scratch1) (r := Rect.unit (s := S2x256x256) ![k % 2, 0, 0] S1x256x256.size inb) (q := fullShare) (f := f) (S := sS (k % 2)) ?_ rfl)
  rotate_right
  · isplitl [H2]; · iexact H2
    iintro H2
    iapply HQ
    isplitl [H1]; · iexact H1
    iexists _; iexact H2
  · exact (ac_set (b := cc0_scratch1) (inb := inb)).subset

/-- The strip is stored in its slot. -/
theorem sStore (k : ℕ) {off : Fin 3 → ℕ} (h : off = ![k % 2, 0, 0]) {inb : ∀ a, off a + S1x256x256.size a ≤ S2x256x256.size a} {hx hm}
    {w : Vec F S1x256x256 .f32} (hw : pay T SEM MB k = w) {Q : PUnit → sProp 𝕄} :
    Sidle c k ∗ (Shas T SEM MB c k -∗ Q ⟨⟩)
      ⊢ WP c (Prog.lift (.store (Memref.whole cc0_scratch1) (Rect.unit (s := S2x256x256) off S1x256x256.size inb) w Finset.univ hx hm)) Q := by
  subst h
  unfold Sidle Shas
  iintro ⟨⟨H1, ⟨%f, H2⟩⟩, HQ⟩
  have es : ((Memref.whole cc0_scratch1).access (Rect.unit (s := S2x256x256) ![k % 2, 0, 0] S1x256x256.size inb)).set = sS (k % 2) := ac_set (b := cc0_scratch1) (inb := inb)
  iapply (storeR c (m := Memref.whole cc0_scratch1) (r := Rect.unit (s := S2x256x256) ![k % 2, 0, 0] S1x256x256.size inb) (f := f) (G := SB T SEM MB k) ?_)
  rotate_right
  · rw [es]
    isplitl [H2]; · iexact H2
    iintro H2
    iapply HQ
    isplitl [H1]; · iexact H1
    iexact H2
  · subst hw
    funext y
    show SB T SEM MB k ((Rect.unit (s := S2x256x256) ![k % 2, 0, 0] S1x256x256.size inb).emb y) = pay T SEM MB k y
    unfold SB
    refine congrArg _ ?_
    rw [unit_val, unit_val]
    exact px_self y

theorem zset {inb : ∀ a, ![0, 0] a + S256x512.size a ≤ S256x512.size a} :
    ((Memref.whole cc0_scratch2).access (Rect.unit (s := S256x512) ![0, 0] S256x512.size inb)).set = Finset.univ := by
  refine (ac_set (b := cc0_scratch2) (inb := inb)).trans ?_
  ext i
  rw [mem_bx]
  refine ⟨fun _ => Finset.mem_univ _, fun _ a => ?_⟩
  have h := (i a).isLt
  fin_cases a
  · exact ⟨Nat.zero_le _, by show _ < 0 + 256; exact (Nat.zero_add 256).symm ▸ h⟩
  · exact ⟨Nat.zero_le _, by show _ < 0 + 512; exact (Nat.zero_add 512).symm ▸ h⟩

/-- The buffer of zeroes is loaded (what it held is not used), then cleared. -/
theorem zLoad {inb : ∀ a, ![0, 0] a + S256x512.size a ≤ S256x512.size a} {hl} {f : S256x512.Idx → Elt F .f32} {Q : Vec F S256x512 .f32 → sProp 𝕄} :
    (((c : Thread nD τ).loc cc0_scratch2) ↦{fullShare} f) ∗ (∀ v, (((c : Thread nD τ).loc cc0_scratch2) ↦{fullShare} f) -∗ Q v)
      ⊢ WP c (Prog.lift (.load (Memref.whole cc0_scratch2) (Rect.unit (s := S256x512) ![0, 0] S256x512.size inb).toLoadRect hl)) Q := by
  iintro ⟨H2, HQ⟩
  iapply (loadR c (m := Memref.whole cc0_scratch2) (r := Rect.unit (s := S256x512) ![0, 0] S256x512.size inb) (q := fullShare) (f := f) (S := Finset.univ) (Finset.subset_univ _) rfl)
  isplitl [H2]; · iexact H2
  iintro H2
  iapply HQ
  iexact H2

theorem zStore {inb : ∀ a, ![0, 0] a + S256x512.size a ≤ S256x512.size a} {hx hm} {f : S256x512.Idx → Elt F .f32} {Q : PUnit → sProp 𝕄} :
    (((c : Thread nD τ).loc cc0_scratch2) ↦{fullShare} f) ∗ ((((c : Thread nD τ).loc cc0_scratch2) ↦{fullShare} (ZB (F := F))) -∗ Q ⟨⟩)
      ⊢ WP c (Prog.lift (.store (Memref.whole cc0_scratch2) (Rect.unit (s := S256x512) ![0, 0] S256x512.size inb) (k0_pay1 (F := F)) Finset.univ hx hm)) Q := by
  iintro ⟨H2, HQ⟩
  iapply (storeR c (m := Memref.whole cc0_scratch2) (r := Rect.unit (s := S256x512) ![0, 0] S256x512.size inb) (f := f) (G := (ZB (F := F))) ?_)
  rotate_right
  · rw [zset]
    isplitl [H2]; · iexact H2
    iintro H2
    iapply HQ
    iexact H2
  · funext y
    show zero = k0_pay1 (F := F) y
    rfl

/-- The mask's window is loaded. -/
theorem mLoad {m3 : Memref sig .tc .vmem S1x128x128 .f32} {v : Vec F S1x128x128 .f32} {inb : ∀ a, ![0, 0, 0] a + S1x128x128.size a ≤ S1x128x128.size a} {hl}
    {Q : Vec F S1x128x128 .f32 → sProp 𝕄} :
    owns (c : Thread nD τ) m3 fullShare v ∗ (owns (c : Thread nD τ) m3 fullShare v -∗ Q v)
      ⊢ WP c (Prog.lift (.load m3 (Rect.unit (s := S1x128x128) ![0, 0, 0] S1x128x128.size inb).toLoadRect hl)) Q := by
  unfold owns
  iintro ⟨⟨%f, %hf, H2⟩, HQ⟩
  iapply (loadR c (m := m3) (r := Rect.unit (s := S1x128x128) ![0, 0, 0] S1x128x128.size inb) (q := fullShare) (f := f) (S := m3.view.set) (v := v) ?_ ?_)
  rotate_right
  · isplitl [H2]; · iexact H2
    iintro H2
    iapply HQ
    iexists f
    isplitr; · ipureintro; exact hf
    iexact H2
  · exact View.set_slice_subset _ _
  · subst hf
    funext y
    show m3.view.read (Elt F) f ((Rect.unit (s := S1x128x128) ![0, 0, 0] S1x128x128.size inb).emb y) = m3.view.read (Elt F) f y
    refine congrArg _ ?_
    funext a
    refine Fin.ext ?_
    rw [unit_val]
    fin_cases a <;> exact Nat.zero_add _

/-! ## The bounds -/

variable {T} in
theorem chk_sem (hT : Good T) (k : ℕ) (hk : k < 64) : ∀ a, ![chT T k, hbT T k, wbT T k] a + S1x256x256.size a ≤ S133x512x512.size a := by
  obtain ⟨h0, h1, h2⟩ := hT k hk
  intro a
  have b1 : hbT T k ≤ 256 := by unfold hbT; rcases hbf_cases (T (tx 1 k) : BitVec 32) with h | h | h <;> rw [h] <;> decide
  have b2 : wbT T k ≤ 256 := by unfold wbT; rcases hbf_cases (T (tx 2 k) : BitVec 32) with h | h | h <;> rw [h] <;> decide
  fin_cases a
  · show chT T k + 1 ≤ 133; unfold chT; omega
  · show hbT T k + 256 ≤ 512; omega
  · show wbT T k + 256 ≤ 512; omega

variable {T} in
theorem chk_out (k : ℕ) (hk : k < 64) : ∀ a, ![53 + k, hbT T k, wbT T k] a + S1x256x256.size a ≤ S117x512x512.size a := by
  intro a
  have b1 : hbT T k ≤ 256 := by unfold hbT; rcases hbf_cases (T (tx 1 k) : BitVec 32) with h | h | h <;> rw [h] <;> decide
  have b2 : wbT T k ≤ 256 := by unfold wbT; rcases hbf_cases (T (tx 2 k) : BitVec 32) with h | h | h <;> rw [h] <;> decide
  fin_cases a
  · show 53 + k + 1 ≤ 117; omega
  · show hbT T k + 256 ≤ 512; omega
  · show wbT T k + 256 ≤ 512; omega

theorem z_le (v : BitVec 32) : hbf v ≤ 256 ∧ za (hbf v) ≤ 384 ∧ zb (hbf v) ≤ 384 := by
  rcases hbf_cases v with h | h | h <;> rw [h] <;> decide

theorem chk6_ok (hT : Good T) (t : Fin grid0.N) (ht : t.val < 64) : k0_chk6 (grid0.coords t) (T (tx 1 t.val)) := by
  obtain ⟨h0, h1, h2⟩ := hT t.val ht
  have z := z_le (T (tx 1 t.val))
  refine ⟨?_, ?_⟩
  · rw [off35_eq t _ h1]
    intro a
    fin_cases a
    · show 53 + t.val + 1 ≤ 117; omega
    · show za (hbf (T (tx 1 t.val))) + 128 ≤ 512; omega
    · show 0 + 512 ≤ 512; omega
  · rw [off36_eq t _ h1]
    intro a
    fin_cases a
    · show 53 + t.val + 1 ≤ 117; omega
    · show zb (hbf (T (tx 1 t.val))) + 128 ≤ 512; omega
    · show 0 + 512 ≤ 512; omega

theorem chk7_ok (hT : Good T) (t : Fin grid0.N) (ht : t.val < 64) : k0_chk7 (grid0.coords t) (T (tx 2 t.val)) (T (tx 1 t.val)) := by
  obtain ⟨h0, h1, h2⟩ := hT t.val ht
  have z := z_le (T (tx 1 t.val))
  have z' := z_le (T (tx 2 t.val))
  refine ⟨?_, ?_⟩
  · rw [off37_eq t _ _ h2 h1]
    intro a
    fin_cases a
    · show 53 + t.val + 1 ≤ 117; omega
    · show hbf (T (tx 1 t.val)) + 256 ≤ 512; omega
    · show za (hbf (T (tx 2 t.val))) + 128 ≤ 512; omega
  · rw [off38_eq t _ _ h2 h1]
    intro a
    fin_cases a
    · show 53 + t.val + 1 ≤ 117; omega
    · show hbf (T (tx 1 t.val)) + 256 ≤ 512; omega
    · show zb (hbf (T (tx 2 t.val))) + 128 ≤ 512; omega

theorem chk3_ok (hT : Good T) (k : ℕ) (hk : k < 64) : k0_chk3 (T (tx 1 k)) (T (tx 2 k)) (T (tx 0 k)) := by
  obtain ⟨h0, h1, h2⟩ := hT k hk
  unfold k0_chk3
  rw [off22_eq _ _ _ h1 h2]
  exact chk_sem hT k hk

theorem chk8_ok (hT : Good T) (i : grid0.Coords) (k : ℕ) (hk : k < 64) : k0_chk8 i (T (tx 0 k)) (T (tx 1 k)) (T (tx 2 k)) := by
  obtain ⟨h0, h1, h2⟩ := hT k hk
  intro _
  rw [off44_eq _ _ _ h1 h2]
  exact chk_sem hT k hk

theorem chk1_ok (hT : Good T) (i : grid0.Coords) : k0_chk1 i (T (tx 0 0)) (T (tx 1 0)) (T (tx 2 0)) := by
  obtain ⟨h0, h1, h2⟩ := hT 0 (by decide)
  intro _
  rw [off1_eq _ _ _ h1 h2]
  exact chk_sem hT 0 (by decide)

theorem chk2_ok (hT : Good T) (i : grid0.Coords) : k0_chk2 i (T (tx 0 1)) (T (tx 1 1)) (T (tx 2 1)) := by
  obtain ⟨h0, h1, h2⟩ := hT 1 (by decide)
  intro _
  rw [off2_eq _ _ _ h1 h2]
  exact chk_sem hT 1 (by decide)

theorem chk5_ok (hT : Good T) (t : Fin grid0.N) (ht : t.val < 64) : k0_chk5 (grid0.coords t) (T (tx 1 t.val)) (T (tx 2 t.val)) := by
  obtain ⟨h0, h1, h2⟩ := hT t.val ht
  unfold k0_chk5
  rw [off33_eq t _ _ h1 h2]
  exact chk_out t.val ht

theorem chk4_ok (hT : Good T) (t : Fin grid0.N) (ht : t.val < 64) (h : 2 ≤ t.val) : k0_chk4 (grid0.coords t) (T (tx 1 (t.val - 2))) (T (tx 2 (t.val - 2))) := by
  obtain ⟨h0, h1, h2⟩ := hT (t.val - 2) (by omega)
  intro _
  rw [off27_eq t h _ _ h1 h2]
  exact chk_out (t.val - 2) (by omega)

theorem chk9_ok (hT : Good T) (t : Fin grid0.N) (h : t.val = 63) : k0_chk9 (grid0.coords t) (T (tx 1 62)) (T (tx 2 62)) := by
  obtain ⟨h0, h1, h2⟩ := hT 62 (by omega)
  intro _
  rw [off48_eq t h _ _ h1 h2, h]
  exact chk_out 62 (by omega)

theorem chk10_ok (hT : Good T) (t : Fin grid0.N) (h : t.val = 63) : k0_chk10 (grid0.coords t) (T (tx 1 63)) (T (tx 2 63)) := by
  obtain ⟨h0, h1, h2⟩ := hT 63 (by omega)
  intro _
  rw [off53_eq t h _ _ h1 h2, h]
  exact chk_out 63 (by omega)

end Cert.KernelIdeal.Hand

end
-- ==== Proof.Head.lean ====
/- The body's first part: the first fetches, and the planes copied through. -/
module

public import proofs.«01_k».proof.Proof.Steps

@[expose] public section

set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

/-! ## The invariant's pieces at point `n` -/

/-- The table. -/
def tab : sProp 𝕄 := ((c : Thread nD τ).loc main_v44) ↦{fullShare.right} T

/-- The three slots of planes. -/
def Cst (n : ℕ) : sProp 𝕄 :=
  if n = 0 then iprop(Cfill SEM c 0 ∗ Cfill SEM c 1 ∗ Cidle SEM c 2)
  else if n ≤ 51 then iprop(Cfill SEM c n ∗ Cfill SEM c (n + 1) ∗ Cstore T SEM MB c (n - 1))
  else if n = 52 then iprop(Cfill SEM c 52 ∗ Cstore T SEM MB c 50 ∗ Cstore T SEM MB c 51)
  else iprop(Cstore T SEM MB c 50 ∗ Cstore T SEM MB c 51 ∗ Cstore T SEM MB c 52)
/-- The same once the next plane is asked for. -/
def CstB (n : ℕ) : sProp 𝕄 :=
  if n + 2 < 53 then iprop(Cfill SEM c n ∗ Cfill SEM c (n + 1) ∗ Cfill SEM c (n + 2)) else Cst T SEM MB c n

/-- Planes not yet stored; planes stored and waited for. -/
def poS (n : ℕ) : Finset S117x512x512.Idx := Finset.univ.filter fun i => n ≤ (i 0 : ℕ) ∧ (i 0 : ℕ) < 53
def PO (n : ℕ) : sProp 𝕄 := iprop(∃ f : S117x512x512.Idx → Elt F .f32, ((c : Thread nD τ).loc main_v45) ↦[poS n]{fullShare} f)
def dpS (n : ℕ) : Finset S117x512x512.Idx := Finset.univ.filter fun i => (i 0 : ℕ) < n
def DP (n : ℕ) : sProp 𝕄 := ((c : Thread nD τ).loc main_v45) ↦[dpS (min (n - 1) 50)]{fullShare} OUT T SEM MB

theorem mem_pO {k : ℕ} {i : S117x512x512.Idx} : i ∈ pO k ↔ (i 0 : ℕ) = k := by
  unfold pO
  rw [mem_bx]
  constructor
  · intro h
    have h0 := h 0
    change k ≤ (i 0 : ℕ) ∧ (i 0 : ℕ) < k + 1 at h0
    omega
  · intro h a
    have h1 : (i 1 : ℕ) < 512 := (i 1).isLt
    have h2 : (i 2 : ℕ) < 512 := (i 2).isLt
    fin_cases a
    · show k ≤ (i 0 : ℕ) ∧ (i 0 : ℕ) < k + 1; omega
    · show 0 ≤ (i 1 : ℕ) ∧ (i 1 : ℕ) < 0 + 512; omega
    · show 0 ≤ (i 2 : ℕ) ∧ (i 2 : ℕ) < 0 + 512; omega

theorem PO_step (n : ℕ) (hn : n < 53) : PO (F := F) c n ⊢ iprop((∃ f : S117x512x512.Idx → Elt F .f32, ((c : Thread nD τ).loc main_v45) ↦[pO n]{fullShare} f) ∗ PO (F := F) c (n + 1)) := by
  unfold PO
  iintro ⟨%f, H⟩
  ihave H := (pointsTo_split_subset (I := pO n) (fun i hi => by
    have := mem_pO.1 hi
    simp only [poS, Finset.mem_filter, Finset.mem_univ, true_and]; omega)).1 $$ H
  icases H with ⟨H1, H2⟩
  have e : poS n \ pO n = poS (n + 1) := by
    ext i
    simp only [poS, Finset.mem_sdiff, mem_pO, Finset.mem_filter, Finset.mem_univ, true_and]; omega
  rw [e]
  isplitl [H1]; · iexists f; iexact H1
  iexists f; iexact H2

theorem PO_late (n : ℕ) (hn : 53 ≤ n) : PO (F := F) c n ⊢ PO (F := F) c (n + 1) := by
  have e : poS n = poS (n + 1) := by
    ext i
    simp only [poS, Finset.mem_filter, Finset.mem_univ, true_and]; omega
  unfold PO
  rw [e]

theorem dp_join (k : ℕ) : iprop((((c : Thread nD τ).loc main_v45) ↦[dpS k]{fullShare} OUT T SEM MB) ∗ (((c : Thread nD τ).loc main_v45) ↦[pO k]{fullShare} OUT T SEM MB))
    ⊢ ((((c : Thread nD τ).loc main_v45) ↦[dpS (k + 1)]{fullShare} OUT T SEM MB) : sProp 𝕄) := by
  have e : dpS (k + 1) = dpS k ∪ pO k := by
    ext i
    simp only [dpS, Finset.mem_union, mem_pO, Finset.mem_filter, Finset.mem_univ, true_and]; omega
  rw [e]
  refine (pointsTo_union ?_).2
  rw [Finset.disjoint_left]
  intro i hi hi'
  have := mem_pO.1 hi'
  simp only [dpS, Finset.mem_filter, Finset.mem_univ, true_and] at hi
  omega

/-- The zeroes not lent to the zones. -/
def ZX : sProp 𝕄 := iprop((((c : Thread nD τ).loc cc0_scratch2) ↦[Finset.univ \ zRs]{fullShare.left} (ZB (F := F)))
  ∗ (((c : Thread nD τ).loc cc0_scratch2) ↦[Finset.univ \ zCs]{fullShare.right} (ZB (F := F))))

/-- What the body starts from at point `n`, apart from the result, and before anything is asked for. -/
def Head (n : ℕ) : sProp 𝕄 := iprop(tab T c ∗ (Gfly T SEM c n ∗ Gfly T SEM c (n + 1) ∗ Gidle SEM c (n + 2)) ∗ Cst T SEM MB c n
  ∗ ZR T SEM MB c (2 * n) ∗ ZC T SEM MB c (2 * n) ∗ ZX (F := F) c)
def Head0 : sProp 𝕄 := iprop(tab T c ∗ (Gidle SEM c 0 ∗ Gidle SEM c 1 ∗ Gidle SEM c 2) ∗ (Cidle SEM c 0 ∗ Cidle SEM c 1 ∗ Cidle SEM c 2)
  ∗ semVal ((c : Thread nD τ), .dma cZ) 0 ∗ semVal ((c : Thread nD τ), .dma cW) 0
  ∗ (∃ f : S256x512.Idx → Elt F .f32, ((c : Thread nD τ).loc cc0_scratch2) ↦{fullShare} f))

theorem leavesAll (Φ : Fin (2 ^ 7) → sProp 𝕄) : bigSep Finset.univ Φ ⊢ bigSep (Finset.univ.filter fun j : Fin (2 ^ 7) => 2 * 0 ≤ j.val) Φ := by
  have e : (Finset.univ.filter fun j : Fin (2 ^ 7) => 2 * 0 ≤ j.val) = Finset.univ := by
    ext j; simp
  rw [e]

instance storR (j : Fin (2 ^ 7)) : Storable (upEmb : UEmb _ 𝕄) (DR T SEM MB c j) := by unfold DR; infer_instance
instance storC (j : Fin (2 ^ 7)) : Storable (upEmb : UEmb _ 𝕄) (DC T SEM MB c j) := by unfold DC; infer_instance

/-- The zones' transfers are set up once the zeroes are there. -/
theorem zones0 {α : Type} {p : Prog (TpuEff nD τ sig (Elt F) Λ₀ .tc) α} {Q : α → sProp 𝕄} : iprop(semVal ((c : Thread nD τ), .dma cZ) 0 ∗ semVal ((c : Thread nD τ), .dma cW) 0
    ∗ (((c : Thread nD τ).loc cc0_scratch2) ↦{fullShare} (ZB (F := F))) ∗ (ZR T SEM MB c (2 * 0) ∗ ZC T SEM MB c (2 * 0) ∗ ZX (F := F) c -∗ WP c p Q))
    ⊢ WP c p Q := by
  iintro ⟨HZ, HW, H, HQ⟩
  unfold WP
  ihave H := (pointsTo_share (PosShare.mem_left_op_right fullShare)).1 $$ H
  icases H with ⟨HL, HR⟩
  ihave HL := (pointsTo_split_subset (I := zRs) (Finset.subset_univ _)).1 $$ HL
  icases HL with ⟨HL, HL'⟩
  ihave HR := (pointsTo_split_subset (I := zCs) (Finset.subset_univ _)).1 $$ HR
  icases HR with ⟨HR, HR'⟩
  imod (batch_alloc' EC (c : Thread nD τ) () NZ (DR T SEM MB c) (E := Set.univ)) $$ HZ with HZ
  imod (batch_alloc' EC (c : Thread nD τ) () NW (DC T SEM MB c) (E := Set.univ)) $$ HW with HW
  iapply HQ
  unfold ZR ZC ZX LR LC
  isplitl [HZ HL]
  · isplitl [HZ]; · iexact HZ
    iapply (leavesAll _)
    iapply (Entails.of_eq (ShareLeaves.pointsTo_leaves (ℓ := (c : Thread nD τ).loc cc0_scratch2) zRs (ZB (F := F)) 7 fullShare.left)) $$ HL
  isplitl [HW HR]
  · isplitl [HW]; · iexact HW
    iapply (leavesAll _)
    iapply (Entails.of_eq (ShareLeaves.pointsTo_leaves (ℓ := (c : Thread nD τ).loc cc0_scratch2) zCs (ZB (F := F)) 7 fullShare.right)) $$ HR
  isplitl [HL']; · iexact HL'
  iexact HR'

end Cert.KernelIdeal.Hand

end
-- ==== Proof.PartA.lean ====
/- The body's first part runs: what it starts from, what it leaves. -/
module

public import proofs.«01_k».proof.Proof.Head

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

/-- The amounts of the waits. -/
theorem crdF {d ind} : (((Memref.whole cc0_scratch3).slice (Rect.unit (s := S3x512x512) d S1x512x512.size ind) (fun _ => rfl)).squeeze S512x512 squeezes_S1x512x512_S512x512).view.dmaCredit = NF := by
  unfold NF; rfl
theorem crdC' {d ind} : (((Memref.whole main_v45).slice (Rect.unit (s := S117x512x512) d S1x512x512.size ind) (fun _ => rfl)).squeeze S512x512 squeezes_S1x512x512_S512x512).view.dmaCredit = NC := by
  unfold NC; rfl

/-- Slots go by threes, by twos. -/
theorem Cidle_mod {k k' : ℕ} (h : k % 3 = k' % 3) : Cidle SEM c k ⊢ Cidle SEM c k' := by
  have e : tokF k = tokF k' := by unfold tokF; congr 2; rw [h]
  unfold Cidle
  rw [e, h]
theorem Gidle_mod {k k' : ℕ} (h : k % 3 = k' % 3) : Gidle SEM c k ⊢ Gidle SEM c k' := by
  have e : tokG k = tokG k' := by unfold tokG; congr 2
  unfold Gidle
  rw [e, h]
theorem Sidle_mod {k k' : ℕ} (h : k % 2 = k' % 2) : Sidle (F := F) c k ⊢ Sidle (F := F) c k' := by
  unfold Sidle
  rw [h]

set_option maxHeartbeats 2000000 in
variable {T} in
/-- The body's first part at point `t`: the first fetches at the first point, the planes copied through, the words read. -/
theorem part11 (hT : Good T) (t : Fin grid0.N) (ht : t.val < 64) {m3 : Memref sig .tc .vmem S1x128x128 .f32} {hm3 : m3.IsWhole} {Q : (Σ' (arg0 : BitVec 32) (v11 : Elt F .i32) (k0_hw6 : k0_chk6 (grid0.coords t) v11) (v13 : Elt F .i32) (v15 : Elt F .i32) (v17 : Elt F .i32) (v19 : Elt F .i32) (v21 : Elt F .i32) (v23 : Elt F .i32) (k0_hw7 : k0_chk7 (grid0.coords t) v13 v23) (c128_i32 : BitVec 32) (v24 : BitVec 32) (v29 : BitVec 32), BitVec 32) → sProp 𝕄} :
    (if t.val = 0 then Head0 T SEM c else Head T SEM MB c t.val) ∗ PO (F := F) c t.val ∗ DP T SEM MB c t.val ∗ owesAny (F := F) c
        ∗ (tab T c ∗ (Gfly T SEM c t.val ∗ Gfly T SEM c (t.val + 1) ∗ Gidle SEM c (t.val + 2)) ∗ Cst T SEM MB c (t.val + 1)
            ∗ ZR T SEM MB c (2 * t.val) ∗ ZC T SEM MB c (2 * t.val) ∗ ZX (F := F) c
            ∗ PO (F := F) c (t.val + 1) ∗ DP T SEM MB c (t.val + 1) ∗ owesAny (F := F) c
          -∗ Q ⟨BitVec.ofNat 32 (grid0.coords t 0).val, T (tx 1 t.val), chk6_ok T hT t ht, T (tx 2 t.val), T (tx 3 t.val), T (tx 4 t.val), T (tx 5 t.val), T (tx 6 t.val),
              T (tx 1 t.val), chk7_ok T hT t ht, (128#32 : BitVec 32), Scalar.divsi (T (tx 1 t.val)) 128#32,
              Scalar.subi (Scalar.extui (Scalar.cmpi .sgt (T (tx 1 t.val)) 0#32)) (Scalar.extui (Scalar.cmpi .slt (T (tx 1 t.val)) 0#32)),
              Scalar.subi (Scalar.extui (Scalar.cmpi .sgt (128#32 : BitVec 32) 0#32)) (Scalar.extui (Scalar.cmpi .slt (128#32 : BitVec 32) 0#32))⟩)
      ⊢ WP c (k0_part11 (F := F) (grid0.coords t) (Memref.whole main_v44) (Memref.isWhole_whole _) (Memref.whole main_v0) (Memref.isWhole_whole _) m3 hm3 (Memref.whole main_v45) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Q := by
  rw [k0_part11_eq_skeleton]
  unfold k0_part11_skel WP
  try dsimp only [Pure.pure]
  rcases (by omega : t.val = 0 ∨ (1 ≤ t.val ∧ t.val ≤ 50) ∨ (51 ≤ t.val ∧ t.val ≤ 52) ∨ 53 ≤ t.val) with h0 | h0 | h0 | h0
  · rw [if_pos h0, dif_pos ((cond1_iff t).2 (by omega))]
    unfold Head0 tab
    iintro ⟨⟨HT, ⟨HG0, HG1, HG2⟩, ⟨HF0, HF1, HF2⟩, HZ, HW, ⟨%fz, HX⟩⟩, HP, HD, HO, HQ⟩
    rw [wp_bind]
    rw [k0_part1_eq_skeleton]
    unfold k0_part1_skel
    try dsimp only [Pure.pure]
    rw [wp_bind]
    iapply (zLoad c)
    isplitl [HX]; · iexact HX
    iintro %_ HX
    rw [wp_bind]
    iapply (zStore c)
    isplitl [HX]; · iexact HX
    iintro HX
    iapply (zones0 T SEM MB c)
    isplitl [HZ]; · iexact HZ
    isplitl [HW]; · iexact HW
    isplitl [HX]; · iexact HX
    iintro ⟨HZ, HW, HX⟩
    unfold WP
    rw [wp_bind]
    iapply (word c 0 0 rfl)
    isplitl [HT]; · iexact HT
    iintro HT
    rw [wp_bind]
    iapply (word c 1 0 rfl)
    isplitl [HT]; · iexact HT
    iintro HT
    rw [wp_bind]
    iapply (word c 2 0 rfl)
    isplitl [HT]; · iexact HT
    iintro HT
    rw [wp_bind]
    iapply (assumed c (chk1_ok T hT _))
    try dsimp only [Pure.pure]
    rw [wp_ret]
    imodintro
    try dsimp only
    rw [wp_bind]
    rw [k0_part2_eq_skeleton]
    unfold k0_part2_skel
    try dsimp only [Pure.pure]
    rw [wp_bind]
    iapply (gIssue T SEM c 0 (by decide) (cG_eq 0 rfl _) (off1_eq _ _ _ (hT 0 (by decide)).2.1 (hT 0 (by decide)).2.2) rfl)
    isplitl [HG0]; · iexact HG0
    iintro HG0
    rw [wp_bind]
    iapply (word c 0 1 rfl)
    isplitl [HT]; · iexact HT
    iintro HT
    rw [wp_bind]
    iapply (word c 1 1 rfl)
    isplitl [HT]; · iexact HT
    iintro HT
    try dsimp only [Pure.pure]
    rw [wp_ret]
    imodintro
    try dsimp only
    rw [wp_bind]
    rw [k0_part3_eq_skeleton]
    unfold k0_part3_skel
    try dsimp only [Pure.pure]
    rw [wp_bind]
    iapply (word c 2 1 rfl)
    isplitl [HT]; · iexact HT
    iintro HT
    rw [wp_bind]
    iapply (assumed c (chk2_ok T hT _))
    rw [wp_bind]
    iapply (gIssue T SEM c 1 (by decide) (cG_eq 1 rfl _) (off2_eq _ _ _ (hT 1 (by decide)).2.1 (hT 1 (by decide)).2.2) rfl)
    isplitl [HG1]; · iexact HG1
    iintro HG1
    rw [wp_bind]
    iapply (fIssue SEM c 0 (by decide) (cF_eq 0 rfl _) rfl rfl)
    isplitl [HF0]; · iexact HF0
    iintro HF0
    try dsimp only [Pure.pure]
    rw [wp_ret]
    imodintro
    try dsimp only
    rw [wp_bind]
    iapply (fIssue SEM c 1 (by decide) (cF_eq 1 rfl _) rfl rfl)
    isplitl [HF1]; · iexact HF1
    iintro HF1
    rw [dif_pos ((cond2_iff t).2 (by omega)), dif_neg (fun h => by have := (cond3_iff t).1 h; omega)]
    rw [wp_bind]
    iapply (fIssue SEM c 2 (by decide) ((cF_eq 2 ((off6_eq t).trans (by rw [h0])) _)) ((off8_eq t).trans (by rw [h0])) ((off7_eq t).trans (by rw [h0])))
    isplitl [HF2]; · iexact HF2
    iintro HF2
    ihave HF : Cfill SEM c t.val $$ [HF0]
    · rw [h0]; iexact HF0
    rw [dif_pos ((cond4_iff t).2 (by omega))]
    rw [wp_bind]
    rw [k0_part4_eq_skeleton]
    unfold k0_part4_skel
    try dsimp only [Pure.pure]
    rw [wp_bind]
    iapply (fWait SEM c t.val (cF_eq (t.val % 3) (off9_eq t) _) crdF)
    isplitl [HF]; · iexact HF
    isplitl [HO]; · iexact HO
    iintro ⟨HF, HO⟩
    try dsimp only [Pure.pure]
    rw [wp_ret]
    imodintro
    ihave HP := (PO_step c t.val (by omega)) $$ HP
    icases HP with ⟨⟨%fo, HPk⟩, HP⟩
    rw [wp_bind]
    iapply (cIssue T SEM MB c t.val (by omega) (cC_eq (t.val % 3) (off9_eq t) _) (off10_eq t) (off12_eq t))
    isplitl [HF]; · iexact HF
    isplitl [HPk]; · iexact HPk
    iintro HN
    ihave HC : Cst T SEM MB c (t.val + 1) $$ [HF1 HF2 HN]
    · unfold Cst
      rw [h0, if_neg (by omega), if_pos (by omega)]
      isplitl [HF1]; · iexact HF1
      isplitl [HF2]; · iexact HF2
      iexact HN
    ihave HD : DP T SEM MB c (t.val + 1) $$ [HD]
    · rw [h0]; unfold DP; iexact HD
    ihave HG : (iprop(Gfly T SEM c t.val ∗ Gfly T SEM c (t.val + 1) ∗ Gidle SEM c (t.val + 2)) : sProp 𝕄) $$ [HG0 HG1 HG2]
    · rw [h0]
      isplitl [HG0]; · iexact HG0
      isplitl [HG1]; · iexact HG1
      iexact HG2
    ihave HZ : ZR T SEM MB c (2 * t.val) $$ [HZ]
    · rw [h0]; iexact HZ
    ihave HW : ZC T SEM MB c (2 * t.val) $$ [HW]
    · rw [h0]; iexact HW
    rw [wp_bind]
    iapply (word c 1 t.val (off13_eq t))
    isplitl [HT]; · iexact HT
    iintro HT
    rw [wp_bind]
    iapply (assumed c (chk6_ok T hT t ht))
    rw [wp_bind]
    iapply (word c 2 t.val (off14_eq t))
    isplitl [HT]; · iexact HT
    iintro HT
    rw [wp_bind]
    iapply (word c 3 t.val (off15_eq t))
    isplitl [HT]; · iexact HT
    iintro HT
    rw [wp_bind]
    iapply (word c 4 t.val (off16_eq t))
    isplitl [HT]; · iexact HT
    iintro HT
    rw [wp_bind]
    iapply (word c 5 t.val (off17_eq t))
    isplitl [HT]; · iexact HT
    iintro HT
    rw [wp_bind]
    iapply (word c 6 t.val (off18_eq t))
    isplitl [HT]; · iexact HT
    iintro HT
    rw [wp_bind]
    iapply (word c 1 t.val (off13_eq t))
    isplitl [HT]; · iexact HT
    iintro HT
    rw [wp_bind]
    iapply (assumed c (chk7_ok T hT t ht))
    try dsimp only [Pure.pure]
    rw [wp_ret]
    imodintro
    iapply HQ
    isplitl [HT]; · iexact HT
    isplitl [HG]; · iexact HG
    isplitl [HC]; · iexact HC
    isplitl [HZ]; · iexact HZ
    isplitl [HW]; · iexact HW
    isplitl [HX]; · iexact HX
    isplitl [HP]; · iexact HP
    isplitl [HD]; · iexact HD
    iexact HO
  · rw [if_neg (by omega), dif_neg (fun h => by have := (cond1_iff t).1 h; omega), dif_pos ((cond2_iff t).2 (by omega)), dif_pos ((cond3_iff t).2 (by omega))]
    unfold Head tab
    iintro ⟨⟨HT, HG, HC, HZ, HW, HX⟩, HP, HD, HO, HQ⟩
    have hC : Cst T SEM MB c t.val ⊢ (iprop(Cfill SEM c t.val ∗ Cfill SEM c (t.val + 1) ∗ Cstore T SEM MB c (t.val - 1)) : sProp 𝕄) := by
      unfold Cst
      rw [if_neg (by omega), if_pos (by omega)]
    ihave HC := hC $$ HC
    icases HC with ⟨HF, HF1, HN⟩
    rw [wp_bind]
    iapply (cWait T SEM MB c (t.val - 1) (cC_eq ((t.val - 1) % 3) (off3_eq t (by omega)) _) crdC')
    isplitl [HN]; · iexact HN
    isplitl [HO]; · iexact HO
    iintro ⟨HDk, HI, HO⟩
    rw [wp_bind]
    ihave HI := (Cidle_mod SEM c (k' := t.val + 2) (by omega)) $$ HI
    iapply (fIssue SEM c (t.val + 2) (by omega) (cF_eq ((t.val + 2) % 3) (off6_eq t) _) (off8_eq t) (off7_eq t))
    isplitl [HI]; · iexact HI
    iintro HF2
    rw [dif_pos ((cond4_iff t).2 (by omega))]
    rw [wp_bind]
    rw [k0_part4_eq_skeleton]
    unfold k0_part4_skel
    try dsimp only [Pure.pure]
    rw [wp_bind]
    iapply (fWait SEM c t.val (cF_eq (t.val % 3) (off9_eq t) _) crdF)
    isplitl [HF]; · iexact HF
    isplitl [HO]; · iexact HO
    iintro ⟨HF, HO⟩
    try dsimp only [Pure.pure]
    rw [wp_ret]
    imodintro
    ihave HP := (PO_step c t.val (by omega)) $$ HP
    icases HP with ⟨⟨%fo, HPk⟩, HP⟩
    rw [wp_bind]
    iapply (cIssue T SEM MB c t.val (by omega) (cC_eq (t.val % 3) (off9_eq t) _) (off10_eq t) (off12_eq t))
    isplitl [HF]; · iexact HF
    isplitl [HPk]; · iexact HPk
    iintro HN
    ihave HC : Cst T SEM MB c (t.val + 1) $$ [HF1 HF2 HN]
    · unfold Cst
      rw [if_neg (by omega)]
      by_cases h51 : t.val + 1 ≤ 51
      · rw [if_pos h51]
        isplitl [HF1]; · iexact HF1
        isplitl [HF2]; · iexact HF2
        iexact HN
      · exact absurd (by omega : t.val + 1 ≤ 51) h51
    ihave HD : DP T SEM MB c (t.val + 1) $$ [HD HDk]
    · unfold DP
      have e3 : min (t.val - 1) 50 = t.val - 1 := by omega
      have e4 : min (t.val + 1 - 1) 50 = (t.val - 1) + 1 := by omega
      rw [e3, e4]
      iapply (dp_join T SEM MB c (t.val - 1))
      isplitl [HD]; · iexact HD
      iexact HDk
    rw [wp_bind]
    iapply (word c 1 t.val (off13_eq t))
    isplitl [HT]; · iexact HT
    iintro HT
    rw [wp_bind]
    iapply (assumed c (chk6_ok T hT t ht))
    rw [wp_bind]
    iapply (word c 2 t.val (off14_eq t))
    isplitl [HT]; · iexact HT
    iintro HT
    rw [wp_bind]
    iapply (word c 3 t.val (off15_eq t))
    isplitl [HT]; · iexact HT
    iintro HT
    rw [wp_bind]
    iapply (word c 4 t.val (off16_eq t))
    isplitl [HT]; · iexact HT
    iintro HT
    rw [wp_bind]
    iapply (word c 5 t.val (off17_eq t))
    isplitl [HT]; · iexact HT
    iintro HT
    rw [wp_bind]
    iapply (word c 6 t.val (off18_eq t))
    isplitl [HT]; · iexact HT
    iintro HT
    rw [wp_bind]
    iapply (word c 1 t.val (off13_eq t))
    isplitl [HT]; · iexact HT
    iintro HT
    rw [wp_bind]
    iapply (assumed c (chk7_ok T hT t ht))
    try dsimp only [Pure.pure]
    rw [wp_ret]
    imodintro
    iapply HQ
    isplitl [HT]; · iexact HT
    isplitl [HG]; · iexact HG
    isplitl [HC]; · iexact HC
    isplitl [HZ]; · iexact HZ
    isplitl [HW]; · iexact HW
    isplitl [HX]; · iexact HX
    isplitl [HP]; · iexact HP
    isplitl [HD]; · iexact HD
    iexact HO
  · rw [if_neg (by omega), dif_neg (fun h => by have := (cond1_iff t).1 h; omega), dif_neg (fun h => by have := (cond2_iff t).1 h; omega)]
    unfold Head tab
    iintro ⟨⟨HT, HG, HC, HZ, HW, HX⟩, HP, HD, HO, HQ⟩
    have hC : Cst T SEM MB c t.val ⊢ (iprop(Cfill SEM c t.val ∗ (Cstore T SEM MB c t.val -∗ Cst T SEM MB c (t.val + 1))) : sProp 𝕄) := by
      skip
      rcases (by omega : t.val = 51 ∨ t.val = 52) with h1 | h1
      · rw [h1]
        unfold Cst
        rw [if_neg (by decide), if_pos (by decide), if_neg (by decide), if_neg (by decide), if_pos (by decide)]
        iintro ⟨H1, H2, H3⟩
        isplitl [H1]; · iexact H1
        iintro H
        isplitl [H2]; · iexact H2
        isplitl [H3]; · iexact H3
        iexact H
      · rw [h1]
        unfold Cst
        rw [if_neg (by decide), if_neg (by decide), if_pos (by decide), if_neg (by decide), if_neg (by decide), if_neg (by decide)]
        iintro ⟨H1, H2, H3⟩
        isplitl [H1]; · iexact H1
        iintro H
        isplitl [H2]; · iexact H2
        isplitl [H3]; · iexact H3
        iexact H
    ihave HC := hC $$ HC
    icases HC with ⟨HF, HC⟩
    rw [dif_pos ((cond4_iff t).2 (by omega))]
    rw [wp_bind]
    rw [k0_part4_eq_skeleton]
    unfold k0_part4_skel
    try dsimp only [Pure.pure]
    rw [wp_bind]
    iapply (fWait SEM c t.val (cF_eq (t.val % 3) (off9_eq t) _) crdF)
    isplitl [HF]; · iexact HF
    isplitl [HO]; · iexact HO
    iintro ⟨HF, HO⟩
    try dsimp only [Pure.pure]
    rw [wp_ret]
    imodintro
    ihave HP := (PO_step c t.val (by omega)) $$ HP
    icases HP with ⟨⟨%fo, HPk⟩, HP⟩
    rw [wp_bind]
    iapply (cIssue T SEM MB c t.val (by omega) (cC_eq (t.val % 3) (off9_eq t) _) (off10_eq t) (off12_eq t))
    isplitl [HF]; · iexact HF
    isplitl [HPk]; · iexact HPk
    iintro HN
    ispecialize HC $$ [HN]
    · iexact HN
    ihave HD : DP T SEM MB c (t.val + 1) $$ [HD]
    · unfold DP
      have e3 : min (t.val - 1) 50 = min (t.val + 1 - 1) 50 := by omega
      rw [e3]; iexact HD
    rw [wp_bind]
    iapply (word c 1 t.val (off13_eq t))
    isplitl [HT]; · iexact HT
    iintro HT
    rw [wp_bind]
    iapply (assumed c (chk6_ok T hT t ht))
    rw [wp_bind]
    iapply (word c 2 t.val (off14_eq t))
    isplitl [HT]; · iexact HT
    iintro HT
    rw [wp_bind]
    iapply (word c 3 t.val (off15_eq t))
    isplitl [HT]; · iexact HT
    iintro HT
    rw [wp_bind]
    iapply (word c 4 t.val (off16_eq t))
    isplitl [HT]; · iexact HT
    iintro HT
    rw [wp_bind]
    iapply (word c 5 t.val (off17_eq t))
    isplitl [HT]; · iexact HT
    iintro HT
    rw [wp_bind]
    iapply (word c 6 t.val (off18_eq t))
    isplitl [HT]; · iexact HT
    iintro HT
    rw [wp_bind]
    iapply (word c 1 t.val (off13_eq t))
    isplitl [HT]; · iexact HT
    iintro HT
    rw [wp_bind]
    iapply (assumed c (chk7_ok T hT t ht))
    try dsimp only [Pure.pure]
    rw [wp_ret]
    imodintro
    iapply HQ
    isplitl [HT]; · iexact HT
    isplitl [HG]; · iexact HG
    isplitl [HC]; · iexact HC
    isplitl [HZ]; · iexact HZ
    isplitl [HW]; · iexact HW
    isplitl [HX]; · iexact HX
    isplitl [HP]; · iexact HP
    isplitl [HD]; · iexact HD
    iexact HO
  · rw [if_neg (by omega), dif_neg (fun h => by have := (cond1_iff t).1 h; omega), dif_neg (fun h => by have := (cond2_iff t).1 h; omega), dif_neg (fun h => by have := (cond4_iff t).1 h; omega)]
    unfold Head tab
    iintro ⟨⟨HT, HG, HC, HZ, HW, HX⟩, HP, HD, HO, HQ⟩
    have hC : Cst T SEM MB c t.val ⊢ Cst T SEM MB c (t.val + 1) := by
      unfold Cst
      rw [if_neg (by omega), if_neg (by omega), if_neg (by omega), if_neg (by omega), if_neg (by omega), if_neg (by omega)]
    ihave HC := hC $$ HC
    ihave HD : DP T SEM MB c (t.val + 1) $$ [HD]
    · unfold DP
      have e3 : min (t.val - 1) 50 = min (t.val + 1 - 1) 50 := by omega
      rw [e3]; iexact HD
    ihave HP := (PO_late c t.val h0) $$ HP
    rw [wp_bind]
    iapply (word c 1 t.val (off13_eq t))
    isplitl [HT]; · iexact HT
    iintro HT
    rw [wp_bind]
    iapply (assumed c (chk6_ok T hT t ht))
    rw [wp_bind]
    iapply (word c 2 t.val (off14_eq t))
    isplitl [HT]; · iexact HT
    iintro HT
    rw [wp_bind]
    iapply (word c 3 t.val (off15_eq t))
    isplitl [HT]; · iexact HT
    iintro HT
    rw [wp_bind]
    iapply (word c 4 t.val (off16_eq t))
    isplitl [HT]; · iexact HT
    iintro HT
    rw [wp_bind]
    iapply (word c 5 t.val (off17_eq t))
    isplitl [HT]; · iexact HT
    iintro HT
    rw [wp_bind]
    iapply (word c 6 t.val (off18_eq t))
    isplitl [HT]; · iexact HT
    iintro HT
    rw [wp_bind]
    iapply (word c 1 t.val (off13_eq t))
    isplitl [HT]; · iexact HT
    iintro HT
    rw [wp_bind]
    iapply (assumed c (chk7_ok T hT t ht))
    try dsimp only [Pure.pure]
    rw [wp_ret]
    imodintro
    iapply HQ
    isplitl [HT]; · iexact HT
    isplitl [HG]; · iexact HG
    isplitl [HC]; · iexact HC
    isplitl [HZ]; · iexact HZ
    isplitl [HW]; · iexact HW
    isplitl [HX]; · iexact HX
    isplitl [HP]; · iexact HP
    isplitl [HD]; · iexact HD
    iexact HO

end Cert.KernelIdeal.Hand

end
-- ==== Proof.Pieces.lean ====
/- The result's pieces: strips, zones, what is left of it. -/
module

public import proofs.«01_k».proof.Proof.Head

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

/-- Where the strips and the zones lie. -/
theorem mem_sO {k : ℕ} {i : S117x512x512.Idx} : i ∈ sO T k ↔ (i 0 : ℕ) = 53 + k ∧ (hbT T k ≤ (i 1 : ℕ) ∧ (i 1 : ℕ) < hbT T k + 256)
    ∧ (wbT T k ≤ (i 2 : ℕ) ∧ (i 2 : ℕ) < wbT T k + 256) := by
  unfold sO
  rw [mem_bx]
  constructor
  · intro h
    have h0 := h 0; have h1 := h 1; have h2 := h 2
    change 53 + k ≤ (i 0 : ℕ) ∧ (i 0 : ℕ) < 53 + k + 1 at h0
    exact ⟨by omega, h1, h2⟩
  · rintro ⟨h0, h1, h2⟩ a
    fin_cases a
    · show 53 + k ≤ (i 0 : ℕ) ∧ (i 0 : ℕ) < 53 + k + 1; omega
    · exact h1
    · exact h2
theorem mem_zR {j : ℕ} {i : S117x512x512.Idx} : i ∈ zR T j ↔ (i 0 : ℕ) = 53 + j / 2
    ∧ ((if j % 2 = 0 then za (hbT T (j / 2)) else zb (hbT T (j / 2))) ≤ (i 1 : ℕ) ∧ (i 1 : ℕ) < (if j % 2 = 0 then za (hbT T (j / 2)) else zb (hbT T (j / 2))) + 128) := by
  unfold zR
  rw [mem_bx]
  constructor
  · intro h
    have h0 := h 0; have h1 := h 1
    change 53 + j / 2 ≤ (i 0 : ℕ) ∧ (i 0 : ℕ) < 53 + j / 2 + 1 at h0
    exact ⟨by omega, h1⟩
  · rintro ⟨h0, h1⟩ a
    have h2 : (i 2 : ℕ) < 512 := (i 2).isLt
    fin_cases a
    · show 53 + j / 2 ≤ (i 0 : ℕ) ∧ (i 0 : ℕ) < 53 + j / 2 + 1; omega
    · exact h1
    · show 0 ≤ (i 2 : ℕ) ∧ (i 2 : ℕ) < 0 + 512; omega
theorem mem_zC {j : ℕ} {i : S117x512x512.Idx} : i ∈ zC T j ↔ (i 0 : ℕ) = 53 + j / 2
    ∧ (hbT T (j / 2) ≤ (i 1 : ℕ) ∧ (i 1 : ℕ) < hbT T (j / 2) + 256)
    ∧ ((if j % 2 = 0 then za (wbT T (j / 2)) else zb (wbT T (j / 2))) ≤ (i 2 : ℕ) ∧ (i 2 : ℕ) < (if j % 2 = 0 then za (wbT T (j / 2)) else zb (wbT T (j / 2))) + 128) := by
  unfold zC
  rw [mem_bx]
  constructor
  · intro h
    have h0 := h 0; have h1 := h 1; have h2 := h 2
    change 53 + j / 2 ≤ (i 0 : ℕ) ∧ (i 0 : ℕ) < 53 + j / 2 + 1 at h0
    exact ⟨by omega, h1, h2⟩
  · rintro ⟨h0, h1, h2⟩ a
    fin_cases a
    · show 53 + j / 2 ≤ (i 0 : ℕ) ∧ (i 0 : ℕ) < 53 + j / 2 + 1; omega
    · exact h1
    · exact h2

/-- The strip's base and the two blocks off it. -/
theorem blocks (v : BitVec 32) : (hbf v = 0 ∧ za (hbf v) = 256 ∧ zb (hbf v) = 384) ∨ (hbf v = 128 ∧ za (hbf v) = 0 ∧ zb (hbf v) = 384)
    ∨ (hbf v = 256 ∧ za (hbf v) = 0 ∧ zb (hbf v) = 128) := by
  rcases hbf_cases v with h | h | h <;> rw [h] <;> decide

/-- The instances' planes not yet begun. -/
def pzS (n : ℕ) : Finset S117x512x512.Idx := Finset.univ.filter fun i => 53 + n ≤ (i 0 : ℕ)
def PZ (n : ℕ) : sProp 𝕄 := iprop(∃ f : S117x512x512.Idx → Elt F .f32, ((c : Thread nD τ).loc main_v45) ↦[pzS n]{fullShare} f)
/-- The strips written and waited for: those of the first `m` instances. -/
def dsS (m : ℕ) : Finset S117x512x512.Idx := Finset.univ.filter fun i => (i 0 : ℕ) < 53 + m ∧ i ∈ sO T ((i 0 : ℕ) - 53) ∧ 53 ≤ (i 0 : ℕ)
def DS (m : ℕ) : sProp 𝕄 := ((c : Thread nD τ).loc main_v45) ↦[dsS T m]{fullShare} OUT T SEM MB
/-- The scatter ring's slot that instance `j` uses, on coming to it. -/
def SS (j : ℕ) : sProp 𝕄 := if 2 ≤ j then Sfly T SEM MB c (j - 2) else Sidle c j

theorem ds_join (k : ℕ) : iprop(DS T SEM MB c k ∗ (((c : Thread nD τ).loc main_v45) ↦[sO T k]{fullShare} OUT T SEM MB)) ⊢ DS T SEM MB c (k + 1) := by
  have e : dsS T (k + 1) = dsS T k ∪ sO T k := by
    ext i
    simp only [dsS, Finset.mem_union, Finset.mem_filter, Finset.mem_univ, true_and]
    constructor
    · rintro ⟨h0, h1, h2⟩
      by_cases h : (i 0 : ℕ) < 53 + k
      · exact Or.inl ⟨h, h1, h2⟩
      · have e : (i 0 : ℕ) - 53 = k := by omega
        rw [e] at h1
        exact Or.inr h1
    · rintro (⟨h0, h1, h2⟩ | h)
      · exact ⟨by omega, h1, h2⟩
      · have h0 := (mem_sO T |>.1 h).1
        have e : (i 0 : ℕ) - 53 = k := by omega
        exact ⟨by omega, by rw [e]; exact h, by omega⟩
  unfold DS
  rw [e]
  refine (pointsTo_union ?_).2
  rw [Finset.disjoint_left]
  intro i hi hi'
  have := (mem_sO T |>.1 hi').1
  simp only [dsS, Finset.mem_filter, Finset.mem_univ, true_and] at hi
  omega

set_option maxHeartbeats 1000000 in
/-- An instance's plane comes apart into its strip and its four zones. -/
theorem PZ_step (n : ℕ) : PZ (F := F) c n ⊢ iprop((∃ f : S117x512x512.Idx → Elt F .f32, (((c : Thread nD τ).loc main_v45) ↦[sO T n]{fullShare} f)
    ∗ (((c : Thread nD τ).loc main_v45) ↦[zR T (2 * n)]{fullShare} f) ∗ (((c : Thread nD τ).loc main_v45) ↦[zR T (2 * n + 1)]{fullShare} f)
    ∗ (((c : Thread nD τ).loc main_v45) ↦[zC T (2 * n)]{fullShare} f) ∗ (((c : Thread nD τ).loc main_v45) ↦[zC T (2 * n + 1)]{fullShare} f)) ∗ PZ (F := F) c (n + 1)) := by
  have q0 : 2 * n / 2 = n := by omega
  have q1 : (2 * n + 1) / 2 = n := by omega
  have r0 : 2 * n % 2 = 0 := by omega
  have r1 : (2 * n + 1) % 2 ≠ 0 := by omega
  have key : ∀ i : S117x512x512.Idx, (i ∈ sO T n ↔ (i 0 : ℕ) = 53 + n ∧ (hbT T n ≤ (i 1 : ℕ) ∧ (i 1 : ℕ) < hbT T n + 256) ∧ (wbT T n ≤ (i 2 : ℕ) ∧ (i 2 : ℕ) < wbT T n + 256))
      ∧ (i ∈ zR T (2 * n) ↔ (i 0 : ℕ) = 53 + n ∧ (za (hbT T n) ≤ (i 1 : ℕ) ∧ (i 1 : ℕ) < za (hbT T n) + 128))
      ∧ (i ∈ zR T (2 * n + 1) ↔ (i 0 : ℕ) = 53 + n ∧ (zb (hbT T n) ≤ (i 1 : ℕ) ∧ (i 1 : ℕ) < zb (hbT T n) + 128))
      ∧ (i ∈ zC T (2 * n) ↔ (i 0 : ℕ) = 53 + n ∧ (hbT T n ≤ (i 1 : ℕ) ∧ (i 1 : ℕ) < hbT T n + 256) ∧ (za (wbT T n) ≤ (i 2 : ℕ) ∧ (i 2 : ℕ) < za (wbT T n) + 128))
      ∧ (i ∈ zC T (2 * n + 1) ↔ (i 0 : ℕ) = 53 + n ∧ (hbT T n ≤ (i 1 : ℕ) ∧ (i 1 : ℕ) < hbT T n + 256) ∧ (zb (wbT T n) ≤ (i 2 : ℕ) ∧ (i 2 : ℕ) < zb (wbT T n) + 128)) := by
    intro i
    refine ⟨mem_sO T, ?_, ?_, ?_, ?_⟩
    · rw [mem_zR, q0, if_pos r0]
    · rw [mem_zR, q1, if_neg r1]
    · rw [mem_zC, q0, if_pos r0]
    · rw [mem_zC, q1, if_neg r1]
  have fh : (hbT T n = 0 ∧ za (hbT T n) = 256 ∧ zb (hbT T n) = 384) ∨ (hbT T n = 128 ∧ za (hbT T n) = 0 ∧ zb (hbT T n) = 384)
    ∨ (hbT T n = 256 ∧ za (hbT T n) = 0 ∧ zb (hbT T n) = 128) := blocks (T (tx 1 n))
  have fw : (wbT T n = 0 ∧ za (wbT T n) = 256 ∧ zb (wbT T n) = 384) ∨ (wbT T n = 128 ∧ za (wbT T n) = 0 ∧ zb (wbT T n) = 384)
    ∨ (wbT T n = 256 ∧ za (wbT T n) = 0 ∧ zb (wbT T n) = 128) := blocks (T (tx 2 n))
  have e : pzS n = sO T n ∪ (zR T (2 * n) ∪ (zR T (2 * n + 1) ∪ (zC T (2 * n) ∪ (zC T (2 * n + 1) ∪ pzS (n + 1))))) := by
    ext i
    obtain ⟨k1, k2, k3, k4, k5⟩ := key i
    have i1 : (i 1 : ℕ) < 512 := (i 1).isLt
    have i2 : (i 2 : ℕ) < 512 := (i 2).isLt
    simp only [pzS, Finset.mem_union, Finset.mem_filter, Finset.mem_univ, true_and, k1, k2, k3, k4, k5]
    generalize (i 0 : ℕ) = x0 at *; generalize (i 1 : ℕ) = x1 at *; generalize (i 2 : ℕ) = x2 at *
    clear k1 k2 k3 k4 k5
    rcases fh with ⟨e1, e2, e3⟩ | ⟨e1, e2, e3⟩ | ⟨e1, e2, e3⟩ <;> rcases fw with ⟨e4, e5, e6⟩ | ⟨e4, e5, e6⟩ | ⟨e4, e5, e6⟩ <;>
      rw [e2, e3, e5, e6, e1, e4] <;> omega
  have d1 : Disjoint (sO T n) (zR T (2 * n) ∪ (zR T (2 * n + 1) ∪ (zC T (2 * n) ∪ (zC T (2 * n + 1) ∪ pzS (n + 1))))) := by
    rw [Finset.disjoint_left]
    intro i
    obtain ⟨k1, k2, k3, k4, k5⟩ := key i
    simp only [pzS, Finset.mem_union, Finset.mem_filter, Finset.mem_univ, true_and, k1, k2, k3, k4, k5]
    generalize (i 0 : ℕ) = x0 at *; generalize (i 1 : ℕ) = x1 at *; generalize (i 2 : ℕ) = x2 at *
    clear k1 k2 k3 k4 k5
    rcases fh with ⟨e1, e2, e3⟩ | ⟨e1, e2, e3⟩ | ⟨e1, e2, e3⟩ <;> rcases fw with ⟨e4, e5, e6⟩ | ⟨e4, e5, e6⟩ | ⟨e4, e5, e6⟩ <;>
      rw [e2, e3, e5, e6, e1, e4] <;> omega
  have d2 : Disjoint (zR T (2 * n)) (zR T (2 * n + 1) ∪ (zC T (2 * n) ∪ (zC T (2 * n + 1) ∪ pzS (n + 1)))) := by
    rw [Finset.disjoint_left]
    intro i
    obtain ⟨k1, k2, k3, k4, k5⟩ := key i
    simp only [pzS, Finset.mem_union, Finset.mem_filter, Finset.mem_univ, true_and, k1, k2, k3, k4, k5]
    generalize (i 0 : ℕ) = x0 at *; generalize (i 1 : ℕ) = x1 at *; generalize (i 2 : ℕ) = x2 at *
    clear k1 k2 k3 k4 k5
    omega
  have d3 : Disjoint (zR T (2 * n + 1)) (zC T (2 * n) ∪ (zC T (2 * n + 1) ∪ pzS (n + 1))) := by
    rw [Finset.disjoint_left]
    intro i
    obtain ⟨k1, k2, k3, k4, k5⟩ := key i
    simp only [pzS, Finset.mem_union, Finset.mem_filter, Finset.mem_univ, true_and, k1, k2, k3, k4, k5]
    generalize (i 0 : ℕ) = x0 at *; generalize (i 1 : ℕ) = x1 at *; generalize (i 2 : ℕ) = x2 at *
    clear k1 k2 k3 k4 k5
    omega
  have d4 : Disjoint (zC T (2 * n)) (zC T (2 * n + 1) ∪ pzS (n + 1)) := by
    rw [Finset.disjoint_left]
    intro i
    obtain ⟨k1, k2, k3, k4, k5⟩ := key i
    simp only [pzS, Finset.mem_union, Finset.mem_filter, Finset.mem_univ, true_and, k1, k2, k3, k4, k5]
    generalize (i 0 : ℕ) = x0 at *; generalize (i 1 : ℕ) = x1 at *; generalize (i 2 : ℕ) = x2 at *
    clear k1 k2 k3 k4 k5
    omega
  have d5 : Disjoint (zC T (2 * n + 1)) (pzS (n + 1)) := by
    rw [Finset.disjoint_left]
    intro i
    obtain ⟨k1, k2, k3, k4, k5⟩ := key i
    simp only [pzS, Finset.mem_union, Finset.mem_filter, Finset.mem_univ, true_and, k1, k2, k3, k4, k5]
    generalize (i 0 : ℕ) = x0 at *; generalize (i 1 : ℕ) = x1 at *; generalize (i 2 : ℕ) = x2 at *
    clear k1 k2 k3 k4 k5
    omega
  unfold PZ
  rw [e]
  iintro ⟨%f, H⟩
  ihave H := (pointsTo_union d1).1 $$ H
  icases H with ⟨H1, H⟩
  ihave H := (pointsTo_union d2).1 $$ H
  icases H with ⟨H2, H⟩
  ihave H := (pointsTo_union d3).1 $$ H
  icases H with ⟨H3, H⟩
  ihave H := (pointsTo_union d4).1 $$ H
  icases H with ⟨H4, H⟩
  ihave H := (pointsTo_union d5).1 $$ H
  icases H with ⟨H5, H⟩
  isplitr [H]
  · iexists f
    isplitl [H1]; · iexact H1
    isplitl [H2]; · iexact H2
    isplitl [H3]; · iexact H3
    isplitl [H4]; · iexact H4
    iexact H5
  iexists f
  iexact H

end Cert.KernelIdeal.Hand

end
-- ==== Proof.Drain.lean ====
/- The last point's drain: the planes' stores, then the zones by their counts. -/
module

public import proofs.«01_k».proof.Proof.PartA

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

/-- The last wait's count. -/
theorem last (N k : ℕ) (hk : k < 128) (h : ¬ k + 1 < 128) : N * k + N = N * 2 ^ 7 := by
  have e : k = 127 := by omega
  subst e; omega
theorem notlast (N k : ℕ) (hN : 0 < N) (h : k + 1 < 128) : N * k + N < N * 2 ^ 7 := by
  have : N * (k + 1) < N * 2 ^ 7 := Nat.mul_lt_mul_of_pos_left (by omega) hN
  rw [Nat.mul_add, Nat.mul_one] at this
  exact this

/-- So many of the zones' waits are done. -/
def Dr1 (k : ℕ) : sProp 𝕄 := if k < 128 then iprop(Batch EC (c : Thread nD τ) (.dma cZ) () NZ (DR T SEM MB c) (2 ^ 7) (NZ * k) ∗ owesAny (F := F) c)
  else iprop(bigSep Finset.univ (DR T SEM MB c) ∗ semVal ((c : Thread nD τ), .dma cZ) 0 ∗ owesAny (F := F) c)

theorem trips1 : k0_t1_loop.trips = 128 := by decide +kernel

/-- A counted loop of waits takes the zones' transfers in. -/
theorem drain1 (i : grid0.Coords) (h7 : k0_cond7 i = 1#1) (arg0 : BitVec 32) {m3 : Memref sig .tc .vmem S1x128x128 .f32} {hm3 : m3.IsWhole} {Q : Unit → sProp 𝕄} :
    iprop(Batch EC (c : Thread nD τ) (.dma cZ) () NZ (DR T SEM MB c) (2 ^ 7) 0 ∗ owesAny (F := F) c
        ∗ (bigSep Finset.univ (DR T SEM MB c) ∗ semVal ((c : Thread nD τ), .dma cZ) 0 ∗ owesAny (F := F) c -∗ Q ⟨⟩))
      ⊢ WP c (Scf.Loop.for k0_t1_loop (k0_t1_ok i h7) ⟨⟩ (k0_t1_body (F := F) i (Memref.whole main_v44) (Memref.isWhole_whole _) (Memref.whole main_v0) (Memref.isWhole_whole _) m3 hm3 (Memref.whole main_v45) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 arg0 h7)) Q := by
  iintro ⟨HB, HO, HQ⟩
  unfold WP
  iapply (Scf.wp_for (Fr := frame) (wpE := wpE (defs₀ (F := F)) Variants.none (c : Thread nD τ) none) (Es := Set.univ) (I := fun k (_ : Unit) => Dr1 T SEM MB c k) (hbody := ?_))
  rotate_right
  · isplitl [HB HO]
    · unfold Dr1
      rw [if_pos (by decide)]
      isplitl [HB]; · iexact HB
      iexact HO
    iintro %_ H
    have e : Dr1 T SEM MB c (Scf.trips k0_t1_loop.lb k0_t1_loop.ub k0_t1_loop.st)
        ⊢ iprop(bigSep Finset.univ (DR T SEM MB c) ∗ semVal ((c : Thread nD τ), .dma cZ) 0 ∗ owesAny (F := F) c) := by
      have e' : Scf.trips k0_t1_loop.lb k0_t1_loop.ub k0_t1_loop.st = 128 := trips1
      unfold Dr1
      rw [e', if_neg (by decide)]
    ihave H := e $$ H
    iapply HQ
    iexact H
  · intro k _
    unfold k0_t1_body
    dsimp only [Pure.pure]
    have hk : k.val < 128 := lt_of_lt_of_eq k.isLt trips1
    rw [wp_bind]
    unfold Dr1
    rw [if_pos hk]
    by_cases h : k.val + 1 < 128
    · rw [if_pos h]
      iintro ⟨HB, HO⟩
      iapply (awaitB c NZ crdR (NZ * k.val) (notlast NZ k.val NZ_pos h))
      isplitl [HB]; · iexact HB
      isplitl [HO]; · iexact HO
      iintro ⟨HB, HO⟩
      rw [wp_ret]
      imodintro
      isplitl [HB]; · iexact HB
      iexact HO
    · rw [if_neg h]
      iintro ⟨HB, HO⟩
      iapply (awaitBLast c NZ crdR NZ_pos (NZ * k.val) (last NZ k.val hk h))
      isplitl [HB]; · iexact HB
      isplitl [HO]; · iexact HO
      iintro H
      rw [wp_ret]
      imodintro
      iexact H

/-- So many of the zones' waits are done. -/
def Dr2 (k : ℕ) : sProp 𝕄 := if k < 128 then iprop(Batch EC (c : Thread nD τ) (.dma cW) () NW (DC T SEM MB c) (2 ^ 7) (NW * k) ∗ owesAny (F := F) c)
  else iprop(bigSep Finset.univ (DC T SEM MB c) ∗ semVal ((c : Thread nD τ), .dma cW) 0 ∗ owesAny (F := F) c)

theorem trips2 : k0_t2_loop.trips = 128 := by decide +kernel

/-- A counted loop of waits takes the zones' transfers in. -/
theorem drain2 (i : grid0.Coords) (h7 : k0_cond7 i = 1#1) (arg0 : BitVec 32) {m3 : Memref sig .tc .vmem S1x128x128 .f32} {hm3 : m3.IsWhole} {Q : Unit → sProp 𝕄} :
    iprop(Batch EC (c : Thread nD τ) (.dma cW) () NW (DC T SEM MB c) (2 ^ 7) 0 ∗ owesAny (F := F) c
        ∗ (bigSep Finset.univ (DC T SEM MB c) ∗ semVal ((c : Thread nD τ), .dma cW) 0 ∗ owesAny (F := F) c -∗ Q ⟨⟩))
      ⊢ WP c (Scf.Loop.for k0_t2_loop (k0_t2_ok i h7) ⟨⟩ (k0_t2_body (F := F) i (Memref.whole main_v44) (Memref.isWhole_whole _) (Memref.whole main_v0) (Memref.isWhole_whole _) m3 hm3 (Memref.whole main_v45) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 arg0 h7)) Q := by
  iintro ⟨HB, HO, HQ⟩
  unfold WP
  iapply (Scf.wp_for (Fr := frame) (wpE := wpE (defs₀ (F := F)) Variants.none (c : Thread nD τ) none) (Es := Set.univ) (I := fun k (_ : Unit) => Dr2 T SEM MB c k) (hbody := ?_))
  rotate_right
  · isplitl [HB HO]
    · unfold Dr2
      rw [if_pos (by decide)]
      isplitl [HB]; · iexact HB
      iexact HO
    iintro %_ H
    have e : Dr2 T SEM MB c (Scf.trips k0_t2_loop.lb k0_t2_loop.ub k0_t2_loop.st)
        ⊢ iprop(bigSep Finset.univ (DC T SEM MB c) ∗ semVal ((c : Thread nD τ), .dma cW) 0 ∗ owesAny (F := F) c) := by
      have e' : Scf.trips k0_t2_loop.lb k0_t2_loop.ub k0_t2_loop.st = 128 := trips2
      unfold Dr2
      rw [e', if_neg (by decide)]
    ihave H := e $$ H
    iapply HQ
    iexact H
  · intro k _
    unfold k0_t2_body
    dsimp only [Pure.pure]
    have hk : k.val < 128 := lt_of_lt_of_eq k.isLt trips2
    rw [wp_bind]
    unfold Dr2
    rw [if_pos hk]
    by_cases h : k.val + 1 < 128
    · rw [if_pos h]
      iintro ⟨HB, HO⟩
      iapply (awaitB c NW crdC (NW * k.val) (notlast NW k.val NW_pos h))
      isplitl [HB]; · iexact HB
      isplitl [HO]; · iexact HO
      iintro ⟨HB, HO⟩
      rw [wp_ret]
      imodintro
      isplitl [HB]; · iexact HB
      iexact HO
    · rw [if_neg h]
      iintro ⟨HB, HO⟩
      iapply (awaitBLast c NW crdC NW_pos (NW * k.val) (last NW k.val hk h))
      isplitl [HB]; · iexact HB
      isplitl [HO]; · iexact HO
      iintro H
      rw [wp_ret]
      imodintro
      iexact H

end Cert.KernelIdeal.Hand

end
-- ==== Proof.PartB.lean ====
/- The body at a point: the strip computed and scattered, the zones cleared, the next gather. -/
module

public import proofs.«01_k».proof.Proof.PartA
public import proofs.«01_k».proof.Proof.Pieces
public import proofs.«01_k».proof.Proof.Drain

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

theorem crdG {d ind} : (((Memref.whole cc0_scratch0).slice (Rect.unit (s := S3x256x256) d S1x256x256.size ind) (fun _ => rfl)).squeeze S256x256 squeezes_S1x256x256_S256x256).view.dmaCredit = NG := by
  unfold NG; rfl
theorem crdS {d ind} : (((Memref.whole main_v45).slice (Rect.unit (s := S117x512x512) d S1x256x256.size ind) (fun _ => rfl)).squeeze S256x256 squeezes_S1x256x256_S256x256).view.dmaCredit = NS := by
  unfold NS; rfl

/-- A word read off the table. -/
theorem wordT {off : Fin 2 → ℕ} (r k : ℕ) (h : off = ![r, k]) {inb : ∀ a, off a + S1x1.size a ≤ S8x64.size a} {h1 : S1x1.numel = 1}
    {hp : (EltTy.i32).packing = 1} {Q : Elt F .i32 → sProp 𝕄} :
    tab T c ∗ (tab T c -∗ Q (T (tx r k)))
      ⊢ WP c (smemLoad (Memref.whole main_v44) (Rect.unit (s := S8x64) off S1x1.size inb) h1 hp) Q := by
  unfold tab
  exact word c r k h

theorem zRo_even (n : ℕ) : zRo T (2 * n) = ![53 + n, za (hbT T n), 0] := by
  unfold zRo
  rw [show 2 * n / 2 = n by omega, if_pos (by omega)]
theorem zRo_odd (n : ℕ) : zRo T (2 * n + 1) = ![53 + n, zb (hbT T n), 0] := by
  unfold zRo
  rw [show (2 * n + 1) / 2 = n by omega, if_neg (by omega)]
theorem zCo_even (n : ℕ) : zCo T (2 * n) = ![53 + n, hbT T n, za (wbT T n)] := by
  unfold zCo
  rw [show 2 * n / 2 = n by omega, if_pos (by omega)]
theorem zCo_odd (n : ℕ) : zCo T (2 * n + 1) = ![53 + n, hbT T n, zb (wbT T n)] := by
  unfold zCo
  rw [show (2 * n + 1) / 2 = n by omega, if_neg (by omega)]

variable {T}
set_option maxHeartbeats 2000000 in
/-- The strip is stored in its slot, once the slot's last scatter has been waited for. -/
theorem part16 (hT : Good T) (t : Fin grid0.N) (ht : t.val < 64) (arg0 v208 v209 : BitVec 32) (v161 : FVec F S256x256 .f32) (v206 : IVec S256x256 1) (v210 v211 v212 : BitVec 1)
    {m3 : Memref sig .tc .vmem S1x128x128 .f32} {hm3 : m3.IsWhole} (hw : pay T SEM MB t.val = k0_pay14 v161 v206 (gat T SEM t.val)) {Q : PUnit → sProp 𝕄} :
    tab T c ∗ Ghas T SEM c t.val ∗ SS T SEM MB c t.val ∗ DS T SEM MB c (t.val - 2) ∗ owesAny (F := F) c
        ∗ (tab T c ∗ Ghas T SEM c t.val ∗ Shas T SEM MB c t.val ∗ DS T SEM MB c (t.val + 1 - 2) ∗ owesAny (F := F) c -∗ Q ⟨⟩)
      ⊢ WP c (k0_part16 (F := F) (grid0.coords t) (Memref.whole main_v44) (Memref.isWhole_whole _) (Memref.whole main_v0) (Memref.isWhole_whole _) m3 hm3 (Memref.whole main_v45) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 arg0 v161 v206 v208 v209 v210 v211 v212) Q := by
  rw [k0_part16_eq_skeleton]
  unfold k0_part16_skel WP
  dsimp only [Pure.pure]
  iintro ⟨HT, HG, HS, HD, HO, HQ⟩
  rw [wp_bind]
  iapply (gLoad T SEM c t.val (off23_eq t))
  isplitl [HG]; · iexact HG
  iintro HG
  by_cases h2 : 2 ≤ t.val
  · have hS : SS T SEM MB c t.val ⊢ Sfly T SEM MB c (t.val - 2) := by unfold SS; rw [if_pos h2]
    ihave HS := hS $$ HS
    rw [dif_pos ((cond5_iff t).2 h2)]
    rw [wp_bind]
    rw [k0_part5_eq_skeleton]
    unfold k0_part5_skel
    dsimp only [Pure.pure]
    rw [wp_bind]
    iapply (wordT T c 1 (t.val - 2) (off24_eq t h2))
    isplitl [HT]; · iexact HT
    iintro HT
    rw [wp_bind]
    iapply (wordT T c 2 (t.val - 2) (off25_eq t h2))
    isplitl [HT]; · iexact HT
    iintro HT
    rw [wp_bind]
    iapply (assumed c (chk4_ok T hT t ht h2))
    try dsimp only [Pure.pure]
    rw [wp_ret]
    imodintro
    try dsimp only
    rw [wp_bind]
    iapply (sWait T SEM MB c (t.val - 2) (cS_eq ((t.val - 2) % 2) (off26_eq t h2) _) crdS)
    isplitl [HS]; · iexact HS
    isplitl [HO]; · iexact HO
    iintro ⟨HK, HS, HO⟩
    ihave HS := (Sidle_mod (F := F) c (k' := t.val) (by omega)) $$ HS
    have e3 : t.val + 1 - 2 = (t.val - 2) + 1 := by omega
    rw [e3]
    ihave HD := (ds_join T SEM MB c (t.val - 2)) $$ [HD HK]
    · isplitl [HD]; · iexact HD
      iexact HK
    rw [wp_bind]
    iapply (sLoad c t.val (off29_eq t))
    isplitl [HS]; · iexact HS
    iintro %_ HS
    rw [wp_bind]
    iapply (sStore T SEM MB c t.val (off29_eq t) hw)
    isplitl [HS]; · iexact HS
    iintro HS
    rw [wp_ret]
    imodintro
    iapply HQ
    isplitl [HT]; · iexact HT
    isplitl [HG]; · iexact HG
    isplitl [HS]; · iexact HS
    isplitl [HD]; · iexact HD
    iexact HO
  · have hS : SS T SEM MB c t.val ⊢ Sidle c t.val := by unfold SS; rw [if_neg h2]
    ihave HS := hS $$ HS
    rw [dif_neg (fun h => h2 ((cond5_iff t).1 h))]
    have e3 : t.val + 1 - 2 = t.val - 2 := by omega
    rw [e3]
    rw [wp_bind]
    iapply (sLoad c t.val (off29_eq t))
    isplitl [HS]; · iexact HS
    iintro %_ HS
    rw [wp_bind]
    iapply (sStore T SEM MB c t.val (off29_eq t) hw)
    isplitl [HS]; · iexact HS
    iintro HS
    rw [wp_ret]
    imodintro
    iapply HQ
    isplitl [HT]; · iexact HT
    isplitl [HG]; · iexact HG
    isplitl [HS]; · iexact HS
    isplitl [HD]; · iexact HD
    iexact HO

/-- The state between points. -/
def Mid (n : ℕ) : sProp 𝕄 := iprop(Head T SEM MB c n ∗ PO (F := F) c n ∗ DP T SEM MB c n ∗ PZ (F := F) c n ∗ DS T SEM MB c (n - 2) ∗ SS T SEM MB c n ∗ SS T SEM MB c (n + 1))
def Mid0 : sProp 𝕄 := iprop(Head0 T SEM c ∗ PO (F := F) c 0 ∗ DP T SEM MB c 0 ∗ PZ (F := F) c 0 ∗ DS T SEM MB c (0 - 2) ∗ SS T SEM MB c 0 ∗ SS T SEM MB c (0 + 1))

/-- The pieces the state between points is made of. -/
theorem Mid_intro (n : ℕ) : tab T c ∗ (Gfly T SEM c n ∗ Gfly T SEM c (n + 1) ∗ Gidle SEM c (n + 2)) ∗ Cst T SEM MB c n ∗ ZR T SEM MB c (2 * n) ∗ ZC T SEM MB c (2 * n) ∗ ZX (F := F) c
    ∗ PO (F := F) c n ∗ DP T SEM MB c n ∗ PZ (F := F) c n ∗ DS T SEM MB c (n - 2) ∗ SS T SEM MB c n ∗ SS T SEM MB c (n + 1) ⊢ Mid (T := T) SEM MB c n := by
  unfold Mid Head
  iintro ⟨HT, HG, HC, HZ, HW, HX, HP⟩
  isplitr [HP]
  · isplitl [HT]; · iexact HT
    isplitl [HG]; · iexact HG
    isplitl [HC]; · iexact HC
    isplitl [HZ]; · iexact HZ
    isplitl [HW]; · iexact HW
    iexact HX
  iexact HP

set_option maxHeartbeats 4000000 in
/-- The body at a point other than the last. -/
theorem body_mid (hT : Good T) (t : Fin grid0.N) (ht : t.val < 64) (h63 : t.val ≠ 63) {m3 : Memref sig .tc .vmem S1x128x128 .f32} {hm3 : m3.IsWhole} {Q : PUnit → sProp 𝕄} :
    (if t.val = 0 then Mid0 (T := T) SEM MB c else Mid (T := T) SEM MB c t.val) ∗ owns (c : Thread nD τ) m3 fullShare (MB t.val) ∗ owesAny (F := F) c
        ∗ (Mid (T := T) SEM MB c (t.val + 1) ∗ owns (c : Thread nD τ) m3 fullShare (MB t.val) ∗ owesAny (F := F) c -∗ Q ⟨⟩)
      ⊢ WP c (cc0__body (F := F) (grid0.coords t) (Memref.whole main_v44) (Memref.isWhole_whole _) (Memref.whole main_v0) (Memref.isWhole_whole _) m3 hm3 (Memref.whole main_v45) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Q := by
  rw [cc0__body_eq_skeleton]
  unfold cc0__body_skel WP
  dsimp only [Pure.pure]
  have hM : (if t.val = 0 then Mid0 (T := T) SEM MB c else Mid (T := T) SEM MB c t.val) ⊢ (if t.val = 0 then Head0 T SEM c else Head T SEM MB c t.val) ∗ PO (F := F) c t.val ∗ DP T SEM MB c t.val ∗ PZ (F := F) c t.val
      ∗ DS T SEM MB c (t.val - 2) ∗ SS T SEM MB c t.val ∗ SS T SEM MB c (t.val + 1) := by
    by_cases h : t.val = 0
    · rw [if_pos h, if_pos h, h]; unfold Mid0; exact .rfl
    · rw [if_neg h, if_neg h]; unfold Mid; exact .rfl
  iintro ⟨HM, HMask, HO, HQ⟩
  ihave HM := hM $$ HM
  icases HM with ⟨HH, HP, HD, HPZ, HDS, HS0, HS1⟩
  rw [wp_bind]
  iapply (part11 SEM MB c hT t ht)
  isplitl [HH]; · iexact HH
  isplitl [HP]; · iexact HP
  isplitl [HD]; · iexact HD
  isplitl [HO]; · iexact HO
  iintro ⟨HT, ⟨HG0, HG1, HG2⟩, HC, HZ, HW, HX, HP, HD, HO⟩
  try dsimp only
  rw [wp_bind]
  rw [k0_part12_eq_skeleton]
  unfold k0_part12_skel
  try dsimp only [Pure.pure]
  try dsimp only [Pure.pure]
  rw [wp_ret]
  imodintro
  try dsimp only
  rw [wp_bind]
  rw [k0_part13_eq_skeleton]
  unfold k0_part13_skel
  try dsimp only [Pure.pure]
  rw [wp_bind]
  iapply (wordT T c 2 t.val (off14_eq t))
  isplitl [HT]; · iexact HT
  iintro HT
  try dsimp only [Pure.pure]
  rw [wp_ret]
  imodintro
  try dsimp only
  rw [wp_bind]
  rw [k0_part14_eq_skeleton]
  unfold k0_part14_skel
  try dsimp only [Pure.pure]
  rw [wp_bind]
  iapply (mLoad c)
  isplitl [HMask]; · iexact HMask
  iintro HMask
  rw [wp_bind]
  iapply (wordT T c 0 t.val (off19_eq t))
  isplitl [HT]; · iexact HT
  iintro HT
  rw [wp_bind]
  iapply (assumed c (chk3_ok T hT t.val ht))
  try dsimp only [Pure.pure]
  rw [wp_ret]
  imodintro
  try dsimp only
  rw [wp_bind]
  rw [k0_part15_eq_skeleton]
  unfold k0_part15_skel
  try dsimp only [Pure.pure]
  rw [wp_bind]
  iapply (gWait T SEM c t.val ht (cG_eq (t.val % 3) (off20_eq t) _) crdG)
  isplitl [HG0]; · iexact HG0
  isplitl [HO]; · iexact HO
  iintro ⟨HG0, HO⟩
  try dsimp only [Pure.pure]
  rw [wp_ret]
  imodintro
  try dsimp only
  rw [wp_bind]
  iapply (part16 SEM MB c hT t ht _ _ _ _ _ _ _ _ ?hw)
  case hw => rfl
  isplitl [HT]; · iexact HT
  isplitl [HG0]; · iexact HG0
  isplitl [HS0]; · iexact HS0
  isplitl [HDS]; · iexact HDS
  isplitl [HO]; · iexact HO
  iintro ⟨HT, HG0, HS0, HDS, HO⟩
  ihave HG0 := (Ghas_idle T SEM c t.val) $$ HG0
  ihave HG0 := (Gidle_mod SEM c (k' := t.val + 3) (by omega)) $$ HG0
  rw [wp_bind]
  rw [k0_part17_eq_skeleton]
  unfold k0_part17_skel
  try dsimp only [Pure.pure]
  rw [wp_bind]
  iapply (wordT T c 1 t.val (off30_eq t))
  isplitl [HT]; · iexact HT
  iintro HT
  rw [wp_bind]
  iapply (wordT T c 2 t.val (off31_eq t))
  isplitl [HT]; · iexact HT
  iintro HT
  rw [wp_bind]
  iapply (assumed c (chk5_ok T hT t ht))
  try dsimp only [Pure.pure]
  rw [wp_ret]
  imodintro
  try dsimp only
  ihave HPZ := (PZ_step T c t.val) $$ HPZ
  icases HPZ with ⟨⟨%fo, HK, HZ0, HZ1, HW0, HW1⟩, HPZ⟩
  rw [wp_bind]
  rw [k0_part18_eq_skeleton]
  unfold k0_part18_skel
  try dsimp only [Pure.pure]
  rw [wp_bind]
  iapply (sIssue T SEM MB c t.val (cS_eq (t.val % 2) (off32_eq t) _) (off34_eq t) (off33_eq t _ _ (hT t.val ht).2.1 (hT t.val ht).2.2))
  isplitl [HS0]; · iexact HS0
  isplitl [HK]; · iexact HK
  iintro HS0
  try dsimp only [Pure.pure]
  rw [wp_ret]
  imodintro
  try dsimp only
  rw [wp_bind]
  rw [k0_part19_eq_skeleton]
  unfold k0_part19_skel
  try dsimp only [Pure.pure]
  rw [wp_bind]
  iapply (zRIssue T SEM MB c (2 * t.val) (by omega) cZ_eq ((off35_eq t _ (hT t.val ht).2.1).trans (zRo_even T t.val).symm))
  isplitl [HZ]; · iexact HZ
  isplitl [HZ0]; · iexact HZ0
  iintro HZ
  rw [wp_bind]
  iapply (zRIssue T SEM MB c (2 * t.val + 1) (by omega) cZ_eq ((off36_eq t _ (hT t.val ht).2.1).trans (zRo_odd T t.val).symm))
  isplitl [HZ]; · iexact HZ
  isplitl [HZ1]; · iexact HZ1
  iintro HZ
  try dsimp only [Pure.pure]
  rw [wp_ret]
  imodintro
  try dsimp only
  rw [wp_bind]
  iapply (zCIssue T SEM MB c (2 * t.val) (by omega) cW_eq ((off37_eq t _ _ (hT t.val ht).2.2 (hT t.val ht).2.1).trans (zCo_even T t.val).symm))
  isplitl [HW]; · iexact HW
  isplitl [HW0]; · iexact HW0
  iintro HW
  rw [wp_bind]
  iapply (zCIssue T SEM MB c (2 * t.val + 1) (by omega) cW_eq ((off38_eq t _ _ (hT t.val ht).2.2 (hT t.val ht).2.1).trans (zCo_odd T t.val).symm))
  isplitl [HW]; · iexact HW
  isplitl [HW1]; · iexact HW1
  iintro HW
  by_cases h6 : t.val + 2 < 64
  · rw [dif_pos ((cond6_iff t).2 h6)]
    rw [wp_bind]
    rw [k0_part6_eq_skeleton]
    unfold k0_part6_skel
    try dsimp only [Pure.pure]
    rw [wp_bind]
    iapply (wordT T c 0 (t.val + 2) (off39_eq t))
    isplitl [HT]; · iexact HT
    iintro HT
    rw [wp_bind]
    iapply (wordT T c 1 (t.val + 2) (off40_eq t))
    isplitl [HT]; · iexact HT
    iintro HT
    rw [wp_bind]
    iapply (wordT T c 2 (t.val + 2) (off41_eq t))
    isplitl [HT]; · iexact HT
    iintro HT
    rw [wp_bind]
    iapply (assumed c (chk8_ok T hT _ (t.val + 2) h6))
    try dsimp only [Pure.pure]
    rw [wp_ret]
    imodintro
    try dsimp only
    rw [wp_bind]
    iapply (gIssue T SEM c (t.val + 2) h6 (cG_eq ((t.val + 2) % 3) (off42_eq t) _) (off44_eq _ _ _ (hT _ h6).2.1 (hT _ h6).2.2) (off43_eq t))
    isplitl [HG2]; · iexact HG2
    iintro HG2
    rw [dif_neg (fun h => h63 ((cond7_iff t).1 h))]
    rw [wp_ret]
    imodintro
    iapply HQ
    isplitr [HMask HO]
    · iapply (Mid_intro SEM MB c (t.val + 1))
      isplitl [HT]; · iexact HT
      isplitl [HG0 HG1 HG2]
      · isplitl [HG1]; · iexact HG1
        isplitl [HG2]; · iexact HG2
        iexact HG0
      isplitl [HC]; · iexact HC
      isplitl [HZ]; · iexact HZ
      isplitl [HW]; · iexact HW
      isplitl [HX]; · iexact HX
      isplitl [HP]; · iexact HP
      isplitl [HD]; · iexact HD
      isplitl [HPZ]; · iexact HPZ
      isplitl [HDS]; · iexact HDS
      isplitl [HS1]; · iexact HS1
      unfold SS
      rw [if_pos (by omega)]
      iexact HS0
    isplitl [HMask]; · iexact HMask
    iexact HO
  · rw [dif_neg (fun h => h6 ((cond6_iff t).1 h))]
    rw [dif_neg (fun h => h63 ((cond7_iff t).1 h))]
    rw [wp_ret]
    imodintro
    have hG : Gidle SEM c (t.val + 2) ⊢ Gfly T SEM c (t.val + 2) := by
      unfold Gfly; rw [if_neg (by omega)]
    ihave HG2 := hG $$ HG2
    iapply HQ
    isplitr [HMask HO]
    · iapply (Mid_intro SEM MB c (t.val + 1))
      isplitl [HT]; · iexact HT
      isplitl [HG0 HG1 HG2]
      · isplitl [HG1]; · iexact HG1
        isplitl [HG2]; · iexact HG2
        iexact HG0
      isplitl [HC]; · iexact HC
      isplitl [HZ]; · iexact HZ
      isplitl [HW]; · iexact HW
      isplitl [HX]; · iexact HX
      isplitl [HP]; · iexact HP
      isplitl [HD]; · iexact HD
      isplitl [HPZ]; · iexact HPZ
      isplitl [HDS]; · iexact HDS
      isplitl [HS1]; · iexact HS1
      unfold SS
      rw [if_pos (by omega)]
      iexact HS0
    isplitl [HMask]; · iexact HMask
    iexact HO

end Cert.KernelIdeal.Hand

end
-- ==== Proof.Collect.lean ====
/- The whole result put together again. -/
module

public import proofs.«01_k».proof.Proof.Pieces
public import proofs.«01_k».proof.Proof.PartA

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

/-- The zones of all instances lie apart. -/
theorem zR_disj (i j : Fin (2 ^ 7)) (h : i ≠ j) : Disjoint (zR T i) (zR T j) := by
  rw [Finset.disjoint_left]
  intro x hx hy
  have ⟨a0, a1⟩ := (mem_zR T).1 hx
  have ⟨b0, b1⟩ := (mem_zR T).1 hy
  have e : (i : ℕ) / 2 = (j : ℕ) / 2 := by omega
  have hij : (i : ℕ) ≠ (j : ℕ) := fun e => h (Fin.ext e)
  rw [← e] at b1
  have fh : (hbT T ((i : ℕ) / 2) = 0 ∧ za (hbT T ((i : ℕ) / 2)) = 256 ∧ zb (hbT T ((i : ℕ) / 2)) = 384) ∨ (hbT T ((i : ℕ) / 2) = 128 ∧ za (hbT T ((i : ℕ) / 2)) = 0 ∧ zb (hbT T ((i : ℕ) / 2)) = 384)
    ∨ (hbT T ((i : ℕ) / 2) = 256 ∧ za (hbT T ((i : ℕ) / 2)) = 0 ∧ zb (hbT T ((i : ℕ) / 2)) = 128) := blocks (T (tx 1 ((i : ℕ) / 2)))
  split_ifs at a1 b1 <;> omega
theorem zC_disj (i j : Fin (2 ^ 7)) (h : i ≠ j) : Disjoint (zC T i) (zC T j) := by
  rw [Finset.disjoint_left]
  intro x hx hy
  have ⟨a0, _, a1⟩ := (mem_zC T).1 hx
  have ⟨b0, _, b1⟩ := (mem_zC T).1 hy
  have e : (i : ℕ) / 2 = (j : ℕ) / 2 := by omega
  have hij : (i : ℕ) ≠ (j : ℕ) := fun e => h (Fin.ext e)
  rw [← e] at b1
  have fh : (wbT T ((i : ℕ) / 2) = 0 ∧ za (wbT T ((i : ℕ) / 2)) = 256 ∧ zb (wbT T ((i : ℕ) / 2)) = 384) ∨ (wbT T ((i : ℕ) / 2) = 128 ∧ za (wbT T ((i : ℕ) / 2)) = 0 ∧ zb (wbT T ((i : ℕ) / 2)) = 384)
    ∨ (wbT T ((i : ℕ) / 2) = 256 ∧ za (wbT T ((i : ℕ) / 2)) = 0 ∧ zb (wbT T ((i : ℕ) / 2)) = 128) := blocks (T (tx 2 ((i : ℕ) / 2)))
  split_ifs at a1 b1 <;> omega

/-- The rows' zones all together; the columns'. -/
def zRU : Finset S117x512x512.Idx := (Finset.univ : Finset (Fin (2 ^ 7))).biUnion fun j => zR T j
def zCU : Finset S117x512x512.Idx := (Finset.univ : Finset (Fin (2 ^ 7))).biUnion fun j => zC T j

theorem joinR : bigSep Finset.univ (DR T SEM MB c) ⊢ iprop((((c : Thread nD τ).loc main_v45) ↦[zRU T]{fullShare} OUT T SEM MB)
    ∗ (((c : Thread nD τ).loc cc0_scratch2) ↦[zRs]{fullShare.left} (ZB (F := F)))) := by
  have e : bigSep Finset.univ (DR T SEM MB c) ⊢ iprop(bigSep Finset.univ (fun j : Fin (2 ^ 7) => (((c : Thread nD τ).loc main_v45) ↦[zR T j]{fullShare} OUT T SEM MB : sProp 𝕄))
      ∗ bigSep Finset.univ (fun j : Fin (2 ^ 7) => (((c : Thread nD τ).loc cc0_scratch2) ↦[zRs]{ShareLeaves.leaf 7 fullShare.left j} (ZB (F := F)) : sProp 𝕄))) := by
    unfold DR
    exact Entails.of_eq (bigSep_sep' _ _ _)
  refine e.trans (BIClass.sep_mono ?_ ?_)
  · exact Entails.of_eq (pointsTo_biUnion (ℓ := (c : Thread nD τ).loc main_v45) _ _ (fun i _ j _ h => zR_disj T i j h)).symm
  · exact Entails.of_eq (ShareLeaves.pointsTo_leaves (ℓ := (c : Thread nD τ).loc cc0_scratch2) zRs (ZB (F := F)) 7 fullShare.left).symm
theorem joinC : bigSep Finset.univ (DC T SEM MB c) ⊢ iprop((((c : Thread nD τ).loc main_v45) ↦[zCU T]{fullShare} OUT T SEM MB)
    ∗ (((c : Thread nD τ).loc cc0_scratch2) ↦[zCs]{fullShare.right} (ZB (F := F)))) := by
  have e : bigSep Finset.univ (DC T SEM MB c) ⊢ iprop(bigSep Finset.univ (fun j : Fin (2 ^ 7) => (((c : Thread nD τ).loc main_v45) ↦[zC T j]{fullShare} OUT T SEM MB : sProp 𝕄))
      ∗ bigSep Finset.univ (fun j : Fin (2 ^ 7) => (((c : Thread nD τ).loc cc0_scratch2) ↦[zCs]{ShareLeaves.leaf 7 fullShare.right j} (ZB (F := F)) : sProp 𝕄))) := by
    unfold DC
    exact Entails.of_eq (bigSep_sep' _ _ _)
  refine e.trans (BIClass.sep_mono ?_ ?_)
  · exact Entails.of_eq (pointsTo_biUnion (ℓ := (c : Thread nD τ).loc main_v45) _ _ (fun i _ j _ h => zC_disj T i j h)).symm
  · exact Entails.of_eq (ShareLeaves.pointsTo_leaves (ℓ := (c : Thread nD τ).loc cc0_scratch2) zCs (ZB (F := F)) 7 fullShare.right).symm

/-- The zeroes again in one piece. -/
theorem joinZ : iprop(ZX (F := F) c ∗ (((c : Thread nD τ).loc cc0_scratch2) ↦[zRs]{fullShare.left} (ZB (F := F))) ∗ (((c : Thread nD τ).loc cc0_scratch2) ↦[zCs]{fullShare.right} (ZB (F := F))))
    ⊢ ((((c : Thread nD τ).loc cc0_scratch2) ↦{fullShare} (ZB (F := F))) : sProp 𝕄) := by
  unfold ZX
  iintro ⟨⟨HL, HR⟩, HL', HR'⟩
  ihave HL := (pointsTo_split_subset (ℓ := (c : Thread nD τ).loc cc0_scratch2) (Finset.subset_univ zRs)).2 $$ [HL HL']
  · isplitl [HL']; · iexact HL'
    iexact HL
  ihave HR := (pointsTo_split_subset (ℓ := (c : Thread nD τ).loc cc0_scratch2) (Finset.subset_univ zCs)).2 $$ [HR HR']
  · isplitl [HR']; · iexact HR'
    iexact HR
  iapply (pointsTo_share (PosShare.mem_left_op_right fullShare)).2
  isplitl [HL]; · iexact HL
  iexact HR

/-- The result in one piece. -/
theorem joinO : iprop((((c : Thread nD τ).loc main_v45) ↦[dpS 53]{fullShare} OUT T SEM MB) ∗ DS T SEM MB c 64
      ∗ (((c : Thread nD τ).loc main_v45) ↦[zRU T]{fullShare} OUT T SEM MB) ∗ (((c : Thread nD τ).loc main_v45) ↦[zCU T]{fullShare} OUT T SEM MB))
    ⊢ ((((c : Thread nD τ).loc main_v45) ↦{fullShare} OUT T SEM MB) : sProp 𝕄) := by
  have mR : ∀ i : S117x512x512.Idx, i ∈ zRU T ↔ ∃ j : Fin (2 ^ 7), i ∈ zR T j := fun i => by
    simp only [zRU, Finset.mem_biUnion, Finset.mem_univ, true_and]
  have mC : ∀ i : S117x512x512.Idx, i ∈ zCU T ↔ ∃ j : Fin (2 ^ 7), i ∈ zC T j := fun i => by
    simp only [zCU, Finset.mem_biUnion, Finset.mem_univ, true_and]
  have e : (Finset.univ : Finset S117x512x512.Idx) = dpS 53 ∪ (dsS T 64 ∪ (zRU T ∪ zCU T)) := by
    ext i
    simp only [Finset.mem_univ, Finset.mem_union, mR, mC, true_iff]
    have i0 : (i 0 : ℕ) < 117 := (i 0).isLt
    have i1 : (i 1 : ℕ) < 512 := (i 1).isLt
    have i2 : (i 2 : ℕ) < 512 := (i 2).isLt
    by_cases h : (i 0 : ℕ) < 53
    · exact Or.inl (by simp only [dpS, Finset.mem_filter, Finset.mem_univ, true_and]; exact h)
    refine Or.inr ?_
    obtain ⟨n, hn⟩ : ∃ n, (i 0 : ℕ) = 53 + n := ⟨(i 0 : ℕ) - 53, by omega⟩
    have fh : (hbT T n = 0 ∧ za (hbT T n) = 256 ∧ zb (hbT T n) = 384) ∨ (hbT T n = 128 ∧ za (hbT T n) = 0 ∧ zb (hbT T n) = 384)
      ∨ (hbT T n = 256 ∧ za (hbT T n) = 0 ∧ zb (hbT T n) = 128) := blocks (T (tx 1 n))
    have fw : (wbT T n = 0 ∧ za (wbT T n) = 256 ∧ zb (wbT T n) = 384) ∨ (wbT T n = 128 ∧ za (wbT T n) = 0 ∧ zb (wbT T n) = 384)
      ∨ (wbT T n = 256 ∧ za (wbT T n) = 0 ∧ zb (wbT T n) = 128) := blocks (T (tx 2 n))
    have q0 : 2 * n / 2 = n := by omega
    have q1 : (2 * n + 1) / 2 = n := by omega
    have r0 : 2 * n % 2 = 0 := by omega
    have r1 : (2 * n + 1) % 2 ≠ 0 := by omega
    by_cases hr : hbT T n ≤ (i 1 : ℕ) ∧ (i 1 : ℕ) < hbT T n + 256
    · by_cases hc : wbT T n ≤ (i 2 : ℕ) ∧ (i 2 : ℕ) < wbT T n + 256
      · refine Or.inl ?_
        simp only [dsS, Finset.mem_filter, Finset.mem_univ, true_and]
        rw [hn, Nat.add_sub_cancel_left]
        exact ⟨by omega, (mem_sO T).2 ⟨hn, hr, hc⟩, by omega⟩
      · refine Or.inr (Or.inr ?_)
        by_cases ha : za (wbT T n) ≤ (i 2 : ℕ) ∧ (i 2 : ℕ) < za (wbT T n) + 128
        · refine ⟨⟨2 * n, by omega⟩, (mem_zC T).2 ?_⟩
          show (i 0 : ℕ) = 53 + 2 * n / 2 ∧ _
          rw [q0, if_pos r0]
          exact ⟨hn, hr, ha⟩
        · refine ⟨⟨2 * n + 1, by omega⟩, (mem_zC T).2 ?_⟩
          show (i 0 : ℕ) = 53 + (2 * n + 1) / 2 ∧ _
          rw [q1, if_neg r1]
          exact ⟨hn, hr, by omega⟩
    · refine Or.inr (Or.inl ?_)
      by_cases ha : za (hbT T n) ≤ (i 1 : ℕ) ∧ (i 1 : ℕ) < za (hbT T n) + 128
      · refine ⟨⟨2 * n, by omega⟩, (mem_zR T).2 ?_⟩
        show (i 0 : ℕ) = 53 + 2 * n / 2 ∧ _
        rw [q0, if_pos r0]
        exact ⟨hn, ha⟩
      · refine ⟨⟨2 * n + 1, by omega⟩, (mem_zR T).2 ?_⟩
        show (i 0 : ℕ) = 53 + (2 * n + 1) / 2 ∧ _
        rw [q1, if_neg r1]
        exact ⟨hn, by omega⟩
  have fw : ∀ n, (hbT T n = 0 ∧ za (hbT T n) = 256 ∧ zb (hbT T n) = 384) ∨ (hbT T n = 128 ∧ za (hbT T n) = 0 ∧ zb (hbT T n) = 384)
      ∨ (hbT T n = 256 ∧ za (hbT T n) = 0 ∧ zb (hbT T n) = 128) := fun n => blocks (T (tx 1 n))
  have fw' : ∀ n, (wbT T n = 0 ∧ za (wbT T n) = 256 ∧ zb (wbT T n) = 384) ∨ (wbT T n = 128 ∧ za (wbT T n) = 0 ∧ zb (wbT T n) = 384)
      ∨ (wbT T n = 256 ∧ za (wbT T n) = 0 ∧ zb (wbT T n) = 128) := fun n => blocks (T (tx 2 n))
  have d3 : Disjoint (zRU T) (zCU T) := by
    rw [Finset.disjoint_left]
    intro i h h'
    obtain ⟨j, hj⟩ := (mR i).1 h
    obtain ⟨j', hj'⟩ := (mC i).1 h'
    obtain ⟨a0, a1⟩ := (mem_zR T).1 hj
    obtain ⟨b0, b1, _⟩ := (mem_zC T).1 hj'
    have e : (j' : ℕ) / 2 = (j : ℕ) / 2 := by omega
    rw [e] at b1
    have := fw ((j : ℕ) / 2)
    split_ifs at a1 <;> omega
  have d2 : Disjoint (dsS T 64) (zRU T ∪ zCU T) := by
    rw [Finset.disjoint_left]
    intro i h h'
    simp only [dsS, Finset.mem_filter, Finset.mem_univ, true_and] at h
    obtain ⟨c0, c1, c2⟩ := (mem_sO T).1 h.2.1
    rcases Finset.mem_union.1 h' with h' | h'
    · obtain ⟨j, hj⟩ := (mR i).1 h'
      obtain ⟨a0, a1⟩ := (mem_zR T).1 hj
      have e : (i 0 : ℕ) - 53 = (j : ℕ) / 2 := by omega
      rw [e] at c1
      have := fw ((j : ℕ) / 2)
      split_ifs at a1 <;> omega
    · obtain ⟨j, hj⟩ := (mC i).1 h'
      obtain ⟨a0, _, a1⟩ := (mem_zC T).1 hj
      have e : (i 0 : ℕ) - 53 = (j : ℕ) / 2 := by omega
      rw [e] at c2
      have := fw' ((j : ℕ) / 2)
      split_ifs at a1 <;> omega
  have d1 : Disjoint (dpS 53) (dsS T 64 ∪ (zRU T ∪ zCU T)) := by
    rw [Finset.disjoint_left]
    intro i h h'
    simp only [dpS, Finset.mem_filter, Finset.mem_univ, true_and] at h
    rcases Finset.mem_union.1 h' with h' | h'
    · simp only [dsS, Finset.mem_filter, Finset.mem_univ, true_and] at h'
      omega
    · rcases Finset.mem_union.1 h' with h' | h'
      · obtain ⟨j, hj⟩ := (mR i).1 h'
        have := ((mem_zR T).1 hj).1
        omega
      · obtain ⟨j, hj⟩ := (mC i).1 h'
        have := ((mem_zC T).1 hj).1
        omega
  unfold DS
  rw [e]
  iintro ⟨H1, H2, H3, H4⟩
  iapply (pointsTo_union d1).2
  isplitl [H1]; · iexact H1
  iapply (pointsTo_union d2).2
  isplitl [H2]; · iexact H2
  iapply (pointsTo_union d3).2
  isplitl [H3]; · iexact H3
  iexact H4

/-- Nothing is left of the planes to be stored, of the instances to be begun. -/
theorem PO_done (n : ℕ) (h : 53 ≤ n) : PO (F := F) c n ⊢ (emp : sProp 𝕄) := by
  have e : poS n = ∅ := by
    ext i
    simp only [poS, Finset.mem_filter, Finset.mem_univ, true_and, Finset.notMem_empty, iff_false]; omega
  unfold PO
  rw [e]
  iintro ⟨%f, H⟩
  iapply (Entails.of_eq pointsTo_empty) $$ H
theorem PZ_done (n : ℕ) (h : 64 ≤ n) : PZ (F := F) c n ⊢ (emp : sProp 𝕄) := by
  have e : pzS n = ∅ := by
    ext i
    have i0 : (i 0 : ℕ) < 117 := (i 0).isLt
    simp only [pzS, Finset.mem_filter, Finset.mem_univ, true_and, Finset.notMem_empty, iff_false]; omega
  unfold PZ
  rw [e]
  iintro ⟨%f, H⟩
  iapply (Entails.of_eq pointsTo_empty) $$ H

theorem dropl (P Q : sProp 𝕄) : P ∗ Q ⊢ Q := by
  iintro ⟨_, H⟩
  iexact H

end Cert.KernelIdeal.Hand

end
-- ==== Proof.PartC.lean ====
/- The body at the last point. -/
module

public import proofs.«01_k».proof.Proof.PartB
public import proofs.«01_k».proof.Proof.Collect

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

variable {T}
/-- The state after the last point. -/
def Last : sProp 𝕄 := iprop(Head0 T SEM c ∗ Sidle (F := F) c 0 ∗ Sidle (F := F) c 1 ∗ (((c : Thread nD τ).loc main_v45) ↦{fullShare} OUT T SEM MB))

set_option maxHeartbeats 4000000 in
/-- The body at the last point, which also drains everything. -/
theorem body63 (hT : Good T) (t : Fin grid0.N) (ht : t.val < 64) (h63 : t.val = 63) {m3 : Memref sig .tc .vmem S1x128x128 .f32} {hm3 : m3.IsWhole} {Q : PUnit → sProp 𝕄} :
    Mid (T := T) SEM MB c t.val ∗ owns (c : Thread nD τ) m3 fullShare (MB t.val) ∗ owesAny (F := F) c
        ∗ (Last (T := T) SEM MB c ∗ owns (c : Thread nD τ) m3 fullShare (MB t.val) ∗ owesAny (F := F) c -∗ Q ⟨⟩)
      ⊢ WP c (cc0__body (F := F) (grid0.coords t) (Memref.whole main_v44) (Memref.isWhole_whole _) (Memref.whole main_v0) (Memref.isWhole_whole _) m3 hm3 (Memref.whole main_v45) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Q := by
  rw [cc0__body_eq_skeleton]
  unfold cc0__body_skel WP
  dsimp only [Pure.pure]
  have hM : Mid (T := T) SEM MB c t.val ⊢ (if t.val = 0 then Head0 T SEM c else Head T SEM MB c t.val) ∗ PO (F := F) c t.val ∗ DP T SEM MB c t.val ∗ PZ (F := F) c t.val
      ∗ DS T SEM MB c (t.val - 2) ∗ SS T SEM MB c t.val ∗ SS T SEM MB c (t.val + 1) := by
    rw [if_neg (by omega)]
    unfold Mid
    exact .rfl
  iintro ⟨HM, HMask, HO, HQ⟩
  ihave HM := hM $$ HM
  icases HM with ⟨HH, HP, HD, HPZ, HDS, HS0, HS1⟩
  rw [wp_bind]
  iapply (part11 SEM MB c hT t ht)
  isplitl [HH]; · iexact HH
  isplitl [HP]; · iexact HP
  isplitl [HD]; · iexact HD
  isplitl [HO]; · iexact HO
  iintro ⟨HT, ⟨HG0, HG1, HG2⟩, HC, HZ, HW, HX, HP, HD, HO⟩
  try dsimp only
  rw [wp_bind]
  rw [k0_part12_eq_skeleton]
  unfold k0_part12_skel
  try dsimp only [Pure.pure]
  try dsimp only [Pure.pure]
  rw [wp_ret]
  imodintro
  try dsimp only
  rw [wp_bind]
  rw [k0_part13_eq_skeleton]
  unfold k0_part13_skel
  try dsimp only [Pure.pure]
  rw [wp_bind]
  iapply (wordT T c 2 t.val (off14_eq t))
  isplitl [HT]; · iexact HT
  iintro HT
  try dsimp only [Pure.pure]
  rw [wp_ret]
  imodintro
  try dsimp only
  rw [wp_bind]
  rw [k0_part14_eq_skeleton]
  unfold k0_part14_skel
  try dsimp only [Pure.pure]
  rw [wp_bind]
  iapply (mLoad c)
  isplitl [HMask]; · iexact HMask
  iintro HMask
  rw [wp_bind]
  iapply (wordT T c 0 t.val (off19_eq t))
  isplitl [HT]; · iexact HT
  iintro HT
  rw [wp_bind]
  iapply (assumed c (chk3_ok T hT t.val ht))
  try dsimp only [Pure.pure]
  rw [wp_ret]
  imodintro
  try dsimp only
  rw [wp_bind]
  rw [k0_part15_eq_skeleton]
  unfold k0_part15_skel
  try dsimp only [Pure.pure]
  rw [wp_bind]
  iapply (gWait T SEM c t.val ht (cG_eq (t.val % 3) (off20_eq t) _) crdG)
  isplitl [HG0]; · iexact HG0
  isplitl [HO]; · iexact HO
  iintro ⟨HG0, HO⟩
  try dsimp only [Pure.pure]
  rw [wp_ret]
  imodintro
  try dsimp only
  rw [wp_bind]
  iapply (part16 SEM MB c hT t ht _ _ _ _ _ _ _ _ ?hw)
  case hw => rfl
  isplitl [HT]; · iexact HT
  isplitl [HG0]; · iexact HG0
  isplitl [HS0]; · iexact HS0
  isplitl [HDS]; · iexact HDS
  isplitl [HO]; · iexact HO
  iintro ⟨HT, HG0, HS0, HDS, HO⟩
  ihave HG0 := (Ghas_idle T SEM c t.val) $$ HG0
  ihave HG0 := (Gidle_mod SEM c (k' := t.val + 3) (by omega)) $$ HG0
  rw [wp_bind]
  rw [k0_part17_eq_skeleton]
  unfold k0_part17_skel
  try dsimp only [Pure.pure]
  rw [wp_bind]
  iapply (wordT T c 1 t.val (off30_eq t))
  isplitl [HT]; · iexact HT
  iintro HT
  rw [wp_bind]
  iapply (wordT T c 2 t.val (off31_eq t))
  isplitl [HT]; · iexact HT
  iintro HT
  rw [wp_bind]
  iapply (assumed c (chk5_ok T hT t ht))
  try dsimp only [Pure.pure]
  rw [wp_ret]
  imodintro
  try dsimp only
  ihave HPZ := (PZ_step T c t.val) $$ HPZ
  icases HPZ with ⟨⟨%fo, HK, HZ0, HZ1, HW0, HW1⟩, HPZ⟩
  rw [wp_bind]
  rw [k0_part18_eq_skeleton]
  unfold k0_part18_skel
  try dsimp only [Pure.pure]
  rw [wp_bind]
  iapply (sIssue T SEM MB c t.val (cS_eq (t.val % 2) (off32_eq t) _) (off34_eq t) (off33_eq t _ _ (hT t.val ht).2.1 (hT t.val ht).2.2))
  isplitl [HS0]; · iexact HS0
  isplitl [HK]; · iexact HK
  iintro HS0
  try dsimp only [Pure.pure]
  rw [wp_ret]
  imodintro
  try dsimp only
  rw [wp_bind]
  rw [k0_part19_eq_skeleton]
  unfold k0_part19_skel
  try dsimp only [Pure.pure]
  rw [wp_bind]
  iapply (zRIssue T SEM MB c (2 * t.val) (by omega) cZ_eq ((off35_eq t _ (hT t.val ht).2.1).trans (zRo_even T t.val).symm))
  isplitl [HZ]; · iexact HZ
  isplitl [HZ0]; · iexact HZ0
  iintro HZ
  rw [wp_bind]
  iapply (zRIssue T SEM MB c (2 * t.val + 1) (by omega) cZ_eq ((off36_eq t _ (hT t.val ht).2.1).trans (zRo_odd T t.val).symm))
  isplitl [HZ]; · iexact HZ
  isplitl [HZ1]; · iexact HZ1
  iintro HZ
  try dsimp only [Pure.pure]
  rw [wp_ret]
  imodintro
  try dsimp only
  rw [wp_bind]
  iapply (zCIssue T SEM MB c (2 * t.val) (by omega) cW_eq ((off37_eq t _ _ (hT t.val ht).2.2 (hT t.val ht).2.1).trans (zCo_even T t.val).symm))
  isplitl [HW]; · iexact HW
  isplitl [HW0]; · iexact HW0
  iintro HW
  rw [wp_bind]
  iapply (zCIssue T SEM MB c (2 * t.val + 1) (by omega) cW_eq ((off38_eq t _ _ (hT t.val ht).2.2 (hT t.val ht).2.1).trans (zCo_odd T t.val).symm))
  isplitl [HW]; · iexact HW
  isplitl [HW1]; · iexact HW1
  iintro HW
  rw [dif_neg (fun h => by have := (cond6_iff t).1 h; omega), dif_pos ((cond7_iff t).2 h63)]
  have hG : Gidle SEM c (t.val + 2) ⊢ Gfly T SEM c (t.val + 2) := by
    unfold Gfly; rw [if_neg (by omega)]
  ihave HG2 := hG $$ HG2
  have hC : Cst T SEM MB c (t.val + 1) ⊢ iprop(Cstore T SEM MB c 50 ∗ Cstore T SEM MB c 51 ∗ Cstore T SEM MB c 52) := by
    unfold Cst
    rw [if_neg (by omega), if_neg (by omega), if_neg (by omega)]
  ihave HC := hC $$ HC
  icases HC with ⟨HC0, HC1, HC2⟩
  have hS : SS T SEM MB c (t.val + 1) ⊢ Sfly T SEM MB c 62 := by
    unfold SS; rw [if_pos (by omega), show t.val + 1 - 2 = 62 by omega]
  ihave HS1 := hS $$ HS1
  have hS' : Sfly T SEM MB c t.val ⊢ Sfly T SEM MB c 63 := by rw [h63]
  ihave HS0 := hS' $$ HS0
  have hD : DS T SEM MB c (t.val + 1 - 2) ⊢ DS T SEM MB c 62 := by rw [h63]
  ihave HDS := hD $$ HDS
  have hZ : ZR T SEM MB c (2 * t.val + 1 + 1) ⊢ iprop(Batch EC (c : Thread nD τ) (.dma cZ) () NZ (DR T SEM MB c) (2 ^ 7) 0 ∗ LR (F := F) c 128) := by rw [h63]; exact .rfl
  have hW : ZC T SEM MB c (2 * t.val + 1 + 1) ⊢ iprop(Batch EC (c : Thread nD τ) (.dma cW) () NW (DC T SEM MB c) (2 ^ 7) 0 ∗ LC (F := F) c 128) := by rw [h63]; exact .rfl
  ihave HZ := hZ $$ HZ
  ihave HW := hW $$ HW
  icases HZ with ⟨HZ, HLR⟩
  icases HW with ⟨HW, HLC⟩
  rw [wp_bind]
  rw [k0_part7_eq_skeleton]
  unfold k0_part7_skel
  try dsimp only [Pure.pure]
  rw [wp_bind]
  iapply (cWait T SEM MB c 50 (cC_eq 2 rfl _) crdC')
  isplitl [HC0]; · iexact HC0
  isplitl [HO]; · iexact HO
  iintro ⟨HK0, HC0, HO⟩
  rw [wp_bind]
  iapply (cWait T SEM MB c 51 (cC_eq 0 rfl _) crdC')
  isplitl [HC1]; · iexact HC1
  isplitl [HO]; · iexact HO
  iintro ⟨HK1, HC1, HO⟩
  rw [wp_bind]
  iapply (cWait T SEM MB c 52 (cC_eq 1 rfl _) crdC')
  isplitl [HC2]; · iexact HC2
  isplitl [HO]; · iexact HO
  iintro ⟨HK2, HC2, HO⟩
  rw [wp_bind]
  iapply (drain1 T SEM MB c (grid0.coords t) ((cond7_iff t).2 h63) _)
  isplitl [HZ]; · iexact HZ
  isplitl [HO]; · iexact HO
  iintro ⟨HZ, HZs, HO⟩
  rw [wp_bind]
  iapply (drain2 T SEM MB c (grid0.coords t) ((cond7_iff t).2 h63) _)
  isplitl [HW]; · iexact HW
  isplitl [HO]; · iexact HO
  iintro ⟨HW, HWs, HO⟩
  try dsimp only [Pure.pure]
  rw [wp_ret]
  imodintro
  try dsimp only
  rw [wp_bind]
  rw [k0_part8_eq_skeleton]
  unfold k0_part8_skel
  try dsimp only [Pure.pure]
  rw [wp_bind]
  iapply (wordT T c 1 62 (off45_eq t h63))
  isplitl [HT]; · iexact HT
  iintro HT
  rw [wp_bind]
  iapply (wordT T c 2 62 (off46_eq t h63))
  isplitl [HT]; · iexact HT
  iintro HT
  rw [wp_bind]
  iapply (assumed c (chk9_ok T hT t h63))
  try dsimp only [Pure.pure]
  rw [wp_ret]
  imodintro
  try dsimp only
  rw [wp_bind]
  rw [k0_part9_eq_skeleton]
  unfold k0_part9_skel
  try dsimp only [Pure.pure]
  rw [wp_bind]
  iapply (sWait T SEM MB c 62 (cS_eq 0 (off47_eq t h63) _) crdS)
  isplitl [HS1]; · iexact HS1
  isplitl [HO]; · iexact HO
  iintro ⟨HK, HS1, HO⟩
  ihave HDS := (ds_join T SEM MB c 62) $$ [HDS HK]
  · isplitl [HDS]; · iexact HDS
    iexact HK
  try dsimp only [Pure.pure]
  rw [wp_ret]
  imodintro
  try dsimp only
  rw [wp_bind]
  rw [k0_part10_eq_skeleton]
  unfold k0_part10_skel
  try dsimp only [Pure.pure]
  rw [wp_bind]
  iapply (wordT T c 1 63 (off50_eq t h63))
  isplitl [HT]; · iexact HT
  iintro HT
  rw [wp_bind]
  iapply (wordT T c 2 63 (off51_eq t h63))
  isplitl [HT]; · iexact HT
  iintro HT
  rw [wp_bind]
  iapply (assumed c (chk10_ok T hT t h63))
  try dsimp only [Pure.pure]
  rw [wp_ret]
  imodintro
  try dsimp only
  rw [wp_bind]
  iapply (sWait T SEM MB c 63 (cS_eq 1 (off52_eq t h63) _) crdS)
  isplitl [HS0]; · iexact HS0
  isplitl [HO]; · iexact HO
  iintro ⟨HK, HS0, HO⟩
  ihave HDS := (ds_join T SEM MB c 63) $$ [HDS HK]
  · isplitl [HDS]; · iexact HDS
    iexact HK
  try dsimp only [Pure.pure]
  rw [wp_ret]
  imodintro
  try dsimp only
  ihave HDP := (Entails.of_eq (show DP T SEM MB c (t.val + 1) = ((((c : Thread nD τ).loc main_v45) ↦[dpS 50]{fullShare} OUT T SEM MB) : sProp 𝕄) by
    unfold DP; rw [show min (t.val + 1 - 1) 50 = 50 by omega])) $$ HD
  ihave HDP := (dp_join T SEM MB c 50) $$ [HDP HK0]
  · isplitl [HDP]; · iexact HDP
    iexact HK0
  ihave HDP := (dp_join T SEM MB c 51) $$ [HDP HK1]
  · isplitl [HDP]; · iexact HDP
    iexact HK1
  ihave HDP := (dp_join T SEM MB c 52) $$ [HDP HK2]
  · isplitl [HDP]; · iexact HDP
    iexact HK2
  ihave HZ := (joinR T SEM MB c) $$ HZ
  icases HZ with ⟨HZ, HZz⟩
  ihave HW := (joinC T SEM MB c) $$ HW
  icases HW with ⟨HW, HWz⟩
  ihave HX := (joinZ (F := F) c) $$ [HX HZz HWz]
  · isplitl [HX]; · iexact HX
    isplitl [HZz]; · iexact HZz
    iexact HWz
  ihave HOUT := (joinO T SEM MB c) $$ [HDP HDS HZ HW]
  · isplitl [HDP]; · iexact HDP
    isplitl [HDS]; · iexact HDS
    isplitl [HZ]; · iexact HZ
    iexact HW
  have g1 : Gfly T SEM c (t.val + 1) ⊢ Gidle SEM c 1 := by
    unfold Gfly
    rw [if_neg (by omega)]
    exact Gidle_mod SEM c (by omega)
  have g2 : Gfly T SEM c (t.val + 2) ⊢ Gidle SEM c 2 := by
    unfold Gfly
    rw [if_neg (by omega)]
    exact Gidle_mod SEM c (by omega)
  ihave HG1 := g1 $$ HG1
  ihave HG2 := g2 $$ HG2
  ihave HG0 := (Gidle_mod SEM c (k' := 0) (by omega)) $$ HG0
  ihave HC0 := (Cidle_mod SEM c (k' := 2) (by omega)) $$ HC0
  ihave HC1 := (Cidle_mod SEM c (k' := 0) (by omega)) $$ HC1
  ihave HC2 := (Cidle_mod SEM c (k' := 1) (by omega)) $$ HC2
  ihave HS1 := (Sidle_mod (F := F) c (k' := 0) (by omega)) $$ HS1
  ihave HS0 := (Sidle_mod (F := F) c (k' := 1) (by omega)) $$ HS0
  iapply HQ
  isplitr [HMask HO]
  · unfold Last Head0
    isplitl [HT HG0 HG1 HG2 HC0 HC1 HC2 HZs HWs HX]
    · isplitl [HT]; · iexact HT
      isplitl [HG0 HG1 HG2]
      · isplitl [HG0]; · iexact HG0
        isplitl [HG1]; · iexact HG1
        iexact HG2
      isplitl [HC0 HC1 HC2]
      · isplitl [HC1]; · iexact HC1
        isplitl [HC2]; · iexact HC2
        iexact HC0
      isplitl [HZs]; · iexact HZs
      isplitl [HWs]; · iexact HWs
      iexists _; iexact HX
    isplitl [HS1]; · iexact HS1
    isplitl [HS0]; · iexact HS0
    iexact HOUT
  isplitl [HMask]; · iexact HMask
  iexact HO

end Cert.KernelIdeal.Hand

end
-- ==== Proof.Entry.lean ====
/- What the launch hands the body is the state before the first grid point, and the state after the last is what the launch takes back. -/
module

public import proofs.«01_k».proof.Proof.PartC

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T : S8x64.Idx → Elt F .i32) (SEM : S133x512x512.Idx → Elt F .f32) (MB : ℕ → Vec F S1x128x128 .f32) (c : Dev nD)

/-- Two disjoint parts of a buffer, each at some contents, are their union at some contents. -/
theorem glue {ℓ : Loc nD τ sig} {A B : Finset (Idx ℓ)} (h : Disjoint A B) :
    iprop((∃ f : Buf (Elt F) ℓ, ℓ ↦[A]{fullShare} f) ∗ (∃ f : Buf (Elt F) ℓ, ℓ ↦[B]{fullShare} f)) ⊢ (iprop(∃ f : Buf (Elt F) ℓ, ℓ ↦[A ∪ B]{fullShare} f) : sProp 𝕄) := by
  iintro ⟨⟨%f, HA⟩, ⟨%g, HB⟩⟩
  ihave H := (pointsTo_join h) $$ [HA HB]
  · isplitl [HA]; · iexact HA
    iexact HB
  iexists _
  iexact H

theorem g3_all : (Finset.univ : Finset S3x256x256.Idx) = gS 0 ∪ (gS 1 ∪ gS 2) := by
  ext i
  have i0 : (i 0 : ℕ) < 3 := (i 0).isLt
  have i1 : (i 1 : ℕ) < 256 := (i 1).isLt
  have i2 : (i 2 : ℕ) < 256 := (i 2).isLt
  simp only [Finset.mem_univ, Finset.mem_union, gS, mem_bx, true_iff]
  obtain e | e | e : (i 0 : ℕ) = 0 ∨ (i 0 : ℕ) = 1 ∨ (i 0 : ℕ) = 2 := by omega
  · left; intro a; fin_cases a <;> simp [S1x256x256, S1x512x512] <;> omega
  · right; left; intro a; fin_cases a <;> simp [S1x256x256, S1x512x512] <;> omega
  · right; right; intro a; fin_cases a <;> simp [S1x256x256, S1x512x512] <;> omega
theorem g3_disj {a b : ℕ} (h : a ≠ b) : Disjoint (gS a) (gS b) := by
  rw [Finset.disjoint_left]
  intro i hi hj
  simp only [gS, mem_bx] at hi hj
  have := hi 0
  have := hj 0
  simp [S1x256x256, S1x512x512] at *
  omega
/-- The buffer's three slots, from the whole and back. -/
theorem g3_split : iprop(∃ f : S3x256x256.Idx → Elt F .f32, ((c : Thread nD τ).loc cc0_scratch0) ↦{fullShare} f) ⊢
    (iprop((∃ f : S3x256x256.Idx → Elt F .f32, ((c : Thread nD τ).loc cc0_scratch0) ↦[gS 0]{fullShare} f) ∗ (∃ f : S3x256x256.Idx → Elt F .f32, ((c : Thread nD τ).loc cc0_scratch0) ↦[gS 1]{fullShare} f)
      ∗ (∃ f : S3x256x256.Idx → Elt F .f32, ((c : Thread nD τ).loc cc0_scratch0) ↦[gS 2]{fullShare} f)) : sProp 𝕄) := by
  have hd : Disjoint (gS 0) (gS 1 ∪ gS 2) := Finset.disjoint_union_right.2 ⟨g3_disj (by omega), g3_disj (by omega)⟩
  iintro ⟨%f, H⟩
  ihave H := (Entails.of_eq (congrArg (fun J => (((c : Thread nD τ).loc cc0_scratch0) ↦[J]{fullShare} f : sProp 𝕄)) g3_all)) $$ H
  ihave H := (pointsTo_union (ℓ := (c : Thread nD τ).loc cc0_scratch0) hd).1 $$ H
  icases H with ⟨H0, H⟩
  ihave H := (pointsTo_union (ℓ := (c : Thread nD τ).loc cc0_scratch0) (g3_disj (show 1 ≠ 2 by omega))).1 $$ H
  icases H with ⟨H1, H2⟩
  isplitl [H0]; · iexists f; iexact H0
  isplitl [H1]; · iexists f; iexact H1
  iexists f; iexact H2
theorem g3_join : iprop((∃ f : S3x256x256.Idx → Elt F .f32, ((c : Thread nD τ).loc cc0_scratch0) ↦[gS 0]{fullShare} f) ∗ (∃ f : S3x256x256.Idx → Elt F .f32, ((c : Thread nD τ).loc cc0_scratch0) ↦[gS 1]{fullShare} f)
      ∗ (∃ f : S3x256x256.Idx → Elt F .f32, ((c : Thread nD τ).loc cc0_scratch0) ↦[gS 2]{fullShare} f)) ⊢
    (iprop(∃ f : S3x256x256.Idx → Elt F .f32, ((c : Thread nD τ).loc cc0_scratch0) ↦{fullShare} f) : sProp 𝕄) := by
  have hd : Disjoint (gS 0) (gS 1 ∪ gS 2) := Finset.disjoint_union_right.2 ⟨g3_disj (by omega), g3_disj (by omega)⟩
  iintro ⟨H0, H1, H2⟩
  ihave H := (glue (F := F) (ℓ := (c : Thread nD τ).loc cc0_scratch0) (g3_disj (show 1 ≠ 2 by omega))) $$ [H1 H2]
  · isplitl [H1]; · iexact H1
    iexact H2
  ihave H := (glue (F := F) (ℓ := (c : Thread nD τ).loc cc0_scratch0) hd) $$ [H0 H]
  · isplitl [H0]; · iexact H0
    iexact H
  icases H with ⟨%f, H⟩
  iexists f
  iapply (Entails.of_eq (congrArg (fun J => (((c : Thread nD τ).loc cc0_scratch0) ↦[J]{fullShare} f : sProp 𝕄)) g3_all.symm)) $$ H

theorem p3_all : (Finset.univ : Finset S3x512x512.Idx) = pS 0 ∪ (pS 1 ∪ pS 2) := by
  ext i
  have i0 : (i 0 : ℕ) < 3 := (i 0).isLt
  have i1 : (i 1 : ℕ) < 512 := (i 1).isLt
  have i2 : (i 2 : ℕ) < 512 := (i 2).isLt
  simp only [Finset.mem_univ, Finset.mem_union, pS, mem_bx, true_iff]
  obtain e | e | e : (i 0 : ℕ) = 0 ∨ (i 0 : ℕ) = 1 ∨ (i 0 : ℕ) = 2 := by omega
  · left; intro a; fin_cases a <;> simp [S1x256x256, S1x512x512] <;> omega
  · right; left; intro a; fin_cases a <;> simp [S1x256x256, S1x512x512] <;> omega
  · right; right; intro a; fin_cases a <;> simp [S1x256x256, S1x512x512] <;> omega
theorem p3_disj {a b : ℕ} (h : a ≠ b) : Disjoint (pS a) (pS b) := by
  rw [Finset.disjoint_left]
  intro i hi hj
  simp only [pS, mem_bx] at hi hj
  have := hi 0
  have := hj 0
  simp [S1x256x256, S1x512x512] at *
  omega
/-- The buffer's three slots, from the whole and back. -/
theorem p3_split : iprop(∃ f : S3x512x512.Idx → Elt F .f32, ((c : Thread nD τ).loc cc0_scratch3) ↦{fullShare} f) ⊢
    (iprop((∃ f : S3x512x512.Idx → Elt F .f32, ((c : Thread nD τ).loc cc0_scratch3) ↦[pS 0]{fullShare} f) ∗ (∃ f : S3x512x512.Idx → Elt F .f32, ((c : Thread nD τ).loc cc0_scratch3) ↦[pS 1]{fullShare} f)
      ∗ (∃ f : S3x512x512.Idx → Elt F .f32, ((c : Thread nD τ).loc cc0_scratch3) ↦[pS 2]{fullShare} f)) : sProp 𝕄) := by
  have hd : Disjoint (pS 0) (pS 1 ∪ pS 2) := Finset.disjoint_union_right.2 ⟨p3_disj (by omega), p3_disj (by omega)⟩
  iintro ⟨%f, H⟩
  ihave H := (Entails.of_eq (congrArg (fun J => (((c : Thread nD τ).loc cc0_scratch3) ↦[J]{fullShare} f : sProp 𝕄)) p3_all)) $$ H
  ihave H := (pointsTo_union (ℓ := (c : Thread nD τ).loc cc0_scratch3) hd).1 $$ H
  icases H with ⟨H0, H⟩
  ihave H := (pointsTo_union (ℓ := (c : Thread nD τ).loc cc0_scratch3) (p3_disj (show 1 ≠ 2 by omega))).1 $$ H
  icases H with ⟨H1, H2⟩
  isplitl [H0]; · iexists f; iexact H0
  isplitl [H1]; · iexists f; iexact H1
  iexists f; iexact H2
theorem p3_join : iprop((∃ f : S3x512x512.Idx → Elt F .f32, ((c : Thread nD τ).loc cc0_scratch3) ↦[pS 0]{fullShare} f) ∗ (∃ f : S3x512x512.Idx → Elt F .f32, ((c : Thread nD τ).loc cc0_scratch3) ↦[pS 1]{fullShare} f)
      ∗ (∃ f : S3x512x512.Idx → Elt F .f32, ((c : Thread nD τ).loc cc0_scratch3) ↦[pS 2]{fullShare} f)) ⊢
    (iprop(∃ f : S3x512x512.Idx → Elt F .f32, ((c : Thread nD τ).loc cc0_scratch3) ↦{fullShare} f) : sProp 𝕄) := by
  have hd : Disjoint (pS 0) (pS 1 ∪ pS 2) := Finset.disjoint_union_right.2 ⟨p3_disj (by omega), p3_disj (by omega)⟩
  iintro ⟨H0, H1, H2⟩
  ihave H := (glue (F := F) (ℓ := (c : Thread nD τ).loc cc0_scratch3) (p3_disj (show 1 ≠ 2 by omega))) $$ [H1 H2]
  · isplitl [H1]; · iexact H1
    iexact H2
  ihave H := (glue (F := F) (ℓ := (c : Thread nD τ).loc cc0_scratch3) hd) $$ [H0 H]
  · isplitl [H0]; · iexact H0
    iexact H
  icases H with ⟨%f, H⟩
  iexists f
  iapply (Entails.of_eq (congrArg (fun J => (((c : Thread nD τ).loc cc0_scratch3) ↦[J]{fullShare} f : sProp 𝕄)) p3_all.symm)) $$ H

theorem s2_all : (Finset.univ : Finset S2x256x256.Idx) = sS 0 ∪ sS 1 := by
  ext i
  have i0 : (i 0 : ℕ) < 2 := (i 0).isLt
  have i1 : (i 1 : ℕ) < 256 := (i 1).isLt
  have i2 : (i 2 : ℕ) < 256 := (i 2).isLt
  simp only [Finset.mem_univ, Finset.mem_union, sS, mem_bx, true_iff]
  obtain e | e : (i 0 : ℕ) = 0 ∨ (i 0 : ℕ) = 1 := by omega
  · left; intro a; fin_cases a <;> simp [S1x256x256] <;> omega
  · right; intro a; fin_cases a <;> simp [S1x256x256] <;> omega
theorem s2_disj {a b : ℕ} (h : a ≠ b) : Disjoint (sS a) (sS b) := by
  rw [Finset.disjoint_left]
  intro i hi hj
  simp only [sS, mem_bx] at hi hj
  have := hi 0
  have := hj 0
  simp [S1x256x256] at *
  omega
/-- The scatter ring's two slots, from the whole and back. -/
theorem s2_split : iprop(∃ f : S2x256x256.Idx → Elt F .f32, ((c : Thread nD τ).loc cc0_scratch1) ↦{fullShare} f) ⊢
    (iprop((∃ f : S2x256x256.Idx → Elt F .f32, ((c : Thread nD τ).loc cc0_scratch1) ↦[sS 0]{fullShare} f) ∗ (∃ f : S2x256x256.Idx → Elt F .f32, ((c : Thread nD τ).loc cc0_scratch1) ↦[sS 1]{fullShare} f)) : sProp 𝕄) := by
  iintro ⟨%f, H⟩
  ihave H := (Entails.of_eq (congrArg (fun J => (((c : Thread nD τ).loc cc0_scratch1) ↦[J]{fullShare} f : sProp 𝕄)) s2_all)) $$ H
  ihave H := (pointsTo_union (ℓ := (c : Thread nD τ).loc cc0_scratch1) (s2_disj (show 0 ≠ 1 by omega))).1 $$ H
  icases H with ⟨H1, H2⟩
  isplitl [H1]; · iexists f; iexact H1
  iexists f; iexact H2
theorem s2_join : iprop((∃ f : S2x256x256.Idx → Elt F .f32, ((c : Thread nD τ).loc cc0_scratch1) ↦[sS 0]{fullShare} f) ∗ (∃ f : S2x256x256.Idx → Elt F .f32, ((c : Thread nD τ).loc cc0_scratch1) ↦[sS 1]{fullShare} f)) ⊢
    (iprop(∃ f : S2x256x256.Idx → Elt F .f32, ((c : Thread nD τ).loc cc0_scratch1) ↦{fullShare} f) : sProp 𝕄) := by
  iintro ⟨H1, H2⟩
  ihave H := (glue (F := F) (ℓ := (c : Thread nD τ).loc cc0_scratch1) (s2_disj (show 0 ≠ 1 by omega))) $$ [H1 H2]
  · isplitl [H1]; · iexact H1
    iexact H2
  icases H with ⟨%f, H⟩
  iexists f
  iapply (Entails.of_eq (congrArg (fun J => (((c : Thread nD τ).loc cc0_scratch1) ↦[J]{fullShare} f : sProp 𝕄)) s2_all.symm)) $$ H

/-- The class planes' buffer in eight shares. -/
theorem toks : ((((c : Thread nD τ).loc main_v0) ↦{fullShare} SEM) : sProp 𝕄) = iprop((((c : Thread nD τ).loc main_v0) ↦{tok 0} SEM) ∗ (((c : Thread nD τ).loc main_v0) ↦{tok 1} SEM)
    ∗ (((c : Thread nD τ).loc main_v0) ↦{tok 2} SEM) ∗ (((c : Thread nD τ).loc main_v0) ↦{tok 3} SEM) ∗ (((c : Thread nD τ).loc main_v0) ↦{tok 4} SEM)
    ∗ (((c : Thread nD τ).loc main_v0) ↦{tok 5} SEM) ∗ (((c : Thread nD τ).loc main_v0) ↦{tok 6} SEM) ∗ (((c : Thread nD τ).loc main_v0) ↦{tok 7} SEM)) := by
  refine (ShareLeaves.pointsTo_leaves (ℓ := (c : Thread nD τ).loc main_v0) Finset.univ SEM 3 fullShare).trans ?_
  exact bigSep_univ_eq_bigSepL [(0 : Fin 8), 1, 2, 3, 4, 5, 6, 7] (by decide) (by decide) _

/-- The kernel's own counters, each at zero. -/
def sems : sProp 𝕄 := iprop(semVal ((c : Thread nD τ), SemLoc.dma (2 : Fin 15)) 0 ∗ semVal ((c : Thread nD τ), SemLoc.dma (3 : Fin 15)) 0 ∗ semVal ((c : Thread nD τ), SemLoc.dma (4 : Fin 15)) 0 ∗ semVal ((c : Thread nD τ), SemLoc.dma (5 : Fin 15)) 0 ∗ semVal ((c : Thread nD τ), SemLoc.dma (6 : Fin 15)) 0 ∗ semVal ((c : Thread nD τ), SemLoc.dma (7 : Fin 15)) 0 ∗ semVal ((c : Thread nD τ), SemLoc.dma (8 : Fin 15)) 0 ∗ semVal ((c : Thread nD τ), SemLoc.dma (9 : Fin 15)) 0 ∗ semVal ((c : Thread nD τ), SemLoc.dma (10 : Fin 15)) 0 ∗ semVal ((c : Thread nD τ), SemLoc.dma (11 : Fin 15)) 0 ∗ semVal ((c : Thread nD τ), SemLoc.dma (12 : Fin 15)) 0 ∗ semVal ((c : Thread nD τ), SemLoc.dma (13 : Fin 15)) 0 ∗ semVal ((c : Thread nD τ), SemLoc.dma (14 : Fin 15)) 0)
/-- The scratch buffers, each at some contents. -/
def scr : sProp 𝕄 := iprop((∃ f : S3x256x256.Idx → Elt F .f32, ((c : Thread nD τ).loc cc0_scratch0) ↦{fullShare} f) ∗ (∃ f : S2x256x256.Idx → Elt F .f32, ((c : Thread nD τ).loc cc0_scratch1) ↦{fullShare} f)
  ∗ (∃ f : S256x512.Idx → Elt F .f32, ((c : Thread nD τ).loc cc0_scratch2) ↦{fullShare} f) ∗ (∃ f : S3x512x512.Idx → Elt F .f32, ((c : Thread nD τ).loc cc0_scratch3) ↦{fullShare} f))
/-- The two shares of the class planes that no transfer uses. -/
def spare : sProp 𝕄 := iprop((((c : Thread nD τ).loc main_v0) ↦{tok 6} SEM) ∗ (((c : Thread nD τ).loc main_v0) ↦{tok 7} SEM))

/-- Everything but the result, put together as the body's idle state. -/
theorem idle_in : iprop(scr (F := F) c ∗ sems (F := F) c ∗ (((c : Thread nD τ).loc main_v0) ↦{fullShare} SEM) ∗ tab T c) ⊢ iprop(Head0 T SEM c ∗ Sidle (F := F) c 0 ∗ Sidle (F := F) c 1 ∗ spare SEM c) := by
  unfold scr sems spare Head0 Gidle Cidle Sidle
  rw [toks]
  iintro ⟨⟨S0, S1, S2, S3⟩, ⟨Q2, Q3, Q4, Q5, Q6, Q7, Q8, Q9, Qa, Qb, Qc, Qd, Qe⟩, ⟨V0, V1, V2, V3, V4, V5, V6, V7⟩, HT⟩
  ihave S0 := (g3_split (F := F) c) $$ S0
  icases S0 with ⟨G0, G1, G2⟩
  ihave S1 := (s2_split (F := F) c) $$ S1
  icases S1 with ⟨A0, A1⟩
  ihave S3 := (p3_split (F := F) c) $$ S3
  icases S3 with ⟨P0, P1, P2⟩
  isplitl [HT G0 G1 G2 P0 P1 P2 S2 Q2 Q3 Q4 Q7 Q8 Q9 Qa Qb Qc Qd Qe V0 V1 V2 V3 V4 V5]
  · isplitl [HT]; · iexact HT
    isplitl [G0 G1 G2 Q2 Q3 Q4 V0 V1 V2]
    · isplitl [G0 Q2 V0]; · isplitl [Q2]; · iexact Q2
                            isplitl [G0]; · iexact G0
                            iexact V0
      isplitl [G1 Q3 V1]; · isplitl [Q3]; · iexact Q3
                            isplitl [G1]; · iexact G1
                            iexact V1
      isplitl [Q4]; · iexact Q4
      isplitl [G2]; · iexact G2
      iexact V2
    isplitl [P0 P1 P2 Q9 Qa Qb Qc Qd Qe V3 V4 V5]
    · isplitl [P0 Q9 Qc V3]
      · isplitl [Q9]; · iexact Q9
        isplitl [Qc]; · iexact Qc
        isplitl [P0]; · iexact P0
        iexact V3
      isplitl [P1 Qa Qd V4]
      · isplitl [Qa]; · iexact Qa
        isplitl [Qd]; · iexact Qd
        isplitl [P1]; · iexact P1
        iexact V4
      isplitl [Qb]; · iexact Qb
      isplitl [Qe]; · iexact Qe
      isplitl [P2]; · iexact P2
      iexact V5
    isplitl [Q7]; · iexact Q7
    isplitl [Q8]; · iexact Q8
    iexact S2
  isplitl [A0 Q5]
  · isplitl [Q5]; · iexact Q5
    iexact A0
  isplitl [A1 Q6]
  · isplitl [Q6]; · iexact Q6
    iexact A1
  isplitl [V6]; · iexact V6
  iexact V7

/-- And the body's idle state taken apart again. -/
theorem idle_out : iprop(Head0 T SEM c ∗ Sidle (F := F) c 0 ∗ Sidle (F := F) c 1 ∗ spare SEM c) ⊢ iprop(scr (F := F) c ∗ sems (F := F) c ∗ (((c : Thread nD τ).loc main_v0) ↦{fullShare} SEM) ∗ tab T c) := by
  unfold scr sems spare Head0 Gidle Cidle Sidle
  rw [toks]
  iintro ⟨⟨HT, ⟨⟨Q2, G0, V0⟩, ⟨Q3, G1, V1⟩, ⟨Q4, G2, V2⟩⟩, ⟨⟨Q9, Qc, P0, V3⟩, ⟨Qa, Qd, P1, V4⟩, ⟨Qb, Qe, P2, V5⟩⟩, Q7, Q8, S2⟩, ⟨Q5, A0⟩, ⟨Q6, A1⟩, V6, V7⟩
  isplitl [G0 G1 G2 A0 A1 S2 P0 P1 P2]
  · isplitl [G0 G1 G2]
    · iapply (g3_join (F := F) c)
      isplitl [G0]; · iexact G0
      isplitl [G1]; · iexact G1
      iexact G2
    isplitl [A0 A1]
    · iapply (s2_join (F := F) c)
      isplitl [A0]; · iexact A0
      iexact A1
    isplitl [S2]; · iexact S2
    iapply (p3_join (F := F) c)
    isplitl [P0]; · iexact P0
    isplitl [P1]; · iexact P1
    iexact P2
  isplitl [Q2 Q3 Q4 Q5 Q6 Q7 Q8 Q9 Qa Qb Qc Qd Qe]
  · isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Qa]; · iexact Qa
    isplitl [Qb]; · iexact Qb
    isplitl [Qc]; · iexact Qc
    isplitl [Qd]; · iexact Qd
    iexact Qe
  isplitl [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  iexact HT

/-- The result's buffer before the first point: the class planes' part, the instances' part, nothing written. -/
theorem out_in (f : S117x512x512.Idx → Elt F .f32) : ((((c : Thread nD τ).loc main_v45) ↦{fullShare} f) : sProp 𝕄) ⊢
    iprop(PO (F := F) c 0 ∗ DP T SEM MB c 0 ∗ PZ (F := F) c 0 ∗ DS T SEM MB c (0 - 2)) := by
  have e : (Finset.univ : Finset S117x512x512.Idx) = poS 0 ∪ pzS 0 := by
    ext i
    simp only [poS, pzS, Finset.mem_univ, Finset.mem_union, Finset.mem_filter, true_and, true_iff]; omega
  have hd : Disjoint (poS 0) (pzS 0) := by
    rw [Finset.disjoint_left]
    intro i hi hj
    simp only [poS, pzS, Finset.mem_univ, Finset.mem_filter, true_and] at hi hj; omega
  have e1 : dpS (min (0 - 1) 50) = ∅ := by
    ext i
    simp only [dpS, Finset.mem_univ, Finset.mem_filter, true_and, Finset.notMem_empty, iff_false]; omega
  have e2 : dsS T (0 - 2) = ∅ := by
    ext i
    simp only [dsS, Finset.mem_univ, Finset.mem_filter, true_and, Finset.notMem_empty, iff_false]; omega
  unfold PO DP PZ DS
  rw [e1, e2, pointsTo_empty]
  iintro H
  ihave H := (Entails.of_eq (congrArg (fun J => (((c : Thread nD τ).loc main_v45) ↦[J]{fullShare} f : sProp 𝕄)) e)) $$ H
  ihave H := (pointsTo_union (ℓ := (c : Thread nD τ).loc main_v45) hd).1 $$ H
  icases H with ⟨H0, H1⟩
  isplitl [H0]; · iexists f; iexact H0
  isplitr; · iempintro
  isplitl [H1]; · iexists f; iexact H1
  iempintro

/-- The state before the first point. -/
theorem enter (f : S117x512x512.Idx → Elt F .f32) : iprop(scr (F := F) c ∗ sems (F := F) c ∗ (((c : Thread nD τ).loc main_v0) ↦{fullShare} SEM)
    ∗ (((c : Thread nD τ).loc main_v45) ↦{fullShare} f) ∗ tab T c) ⊢ iprop(Mid0 (T := T) SEM MB c ∗ spare SEM c) := by
  unfold Mid0
  rw [show SS T SEM MB c 0 = Sidle (F := F) c 0 from if_neg (by omega), show SS T SEM MB c (0 + 1) = Sidle (F := F) c 1 from if_neg (by omega)]
  iintro ⟨H0, H1, H2, HO, H3⟩
  ihave H := (idle_in T SEM c) $$ [H0 H1 H2 H3]
  · isplitl [H0]; · iexact H0
    isplitl [H1]; · iexact H1
    isplitl [H2]; · iexact H2
    iexact H3
  icases H with ⟨H0, HA, HB, HS⟩
  ihave HO := (out_in T SEM MB c f) $$ HO
  icases HO with ⟨O0, O1, O2, O3⟩
  isplitl [H0 HA HB O0 O1 O2 O3]
  · isplitl [H0]; · iexact H0
    isplitl [O0]; · iexact O0
    isplitl [O1]; · iexact O1
    isplitl [O2]; · iexact O2
    isplitl [O3]; · iexact O3
    isplitl [HA]; · iexact HA
    iexact HB
  iexact HS

/-- The state after the last point. -/
theorem leave : iprop(Last (T := T) SEM MB c ∗ spare SEM c) ⊢ iprop(scr (F := F) c ∗ sems (F := F) c ∗ (((c : Thread nD τ).loc main_v0) ↦{fullShare} SEM)
    ∗ (((c : Thread nD τ).loc main_v45) ↦{fullShare} OUT T SEM MB) ∗ tab T c) := by
  unfold Last
  iintro ⟨⟨H0, HA, HB, HO⟩, HS⟩
  ihave H := (idle_out T SEM c) $$ [H0 HA HB HS]
  · isplitl [H0]; · iexact H0
    isplitl [HA]; · iexact HA
    isplitl [HB]; · iexact HB
    iexact HS
  icases H with ⟨H0, H1, H2, H3⟩
  isplitl [H0]; · iexact H0
  isplitl [H1]; · iexact H1
  isplitl [H2]; · iexact H2
  isplitl [HO]; · iexact HO
  iexact H3

end Cert.KernelIdeal.Hand

end
-- ==== Proof.Host.lean ====
/- What the host's operations leave before the kernel is launched. -/
module

public import proofs.«01_k».proof.Proof.Gen.KernelIdeal.Launch
public import Idealize.ShloMosaic.Lib.StableHlo.Run
public import Idealize.ShloMosaic.Lib.Pipeline.Frame
public import Idealize.ShloMosaic.Lib.Pipeline.FrameBody
public import Idealize.ShloMosaic.Lib.Pipeline.FrameValue

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.StableHlo
open Idealize.SL.BI.BIBase Idealize.SL.BI.Laws Idealize.SL.ProofMode Idealize.SL.Sem
open Idealize.ShloMosaic.Rounds
open Idealize.ShloMosaic.Transfers

variable {F : FTy → Type} [FloatOps F]

/-- The host's operations, stretch by stretch. -/
abbrev opss : List (List (HloOp τ sig (Elt F))) := [hostOps0, hostOps0_1, hostOps0_2, hostOps0_3, hostOps0_4, hostOps0_5, hostOps0_6]

/-- The buffers after the host's operations, from the buffers before them. -/
def vals (V0 : Valuation τ sig (Elt F)) : Valuation τ sig (Elt F) := after (opss (F := F)).flatten V0

theorem opss_sub : (opss (F := F)).Forall fun ops => ops.Forall fun op => op.bufs ⊆ tcRefs τ sig :=
  ⟨hostOps0_sub, hostOps0_1_sub, hostOps0_2_sub, hostOps0_3_sub, hostOps0_4_sub, hostOps0_5_sub, hostOps0_6_sub⟩

theorem opss_fresh : (opss (F := F)).Forall fun ops => ops.Forall fun op => op.fresh = ∅ :=
  ⟨⟨rfl, rfl, rfl⟩, ⟨rfl, rfl⟩, ⟨rfl, rfl, rfl, rfl, rfl, rfl, rfl, rfl, rfl, rfl, rfl, rfl, rfl, rfl, rfl, rfl, rfl, rfl, rfl, rfl, rfl, rfl⟩, rfl, ⟨rfl, rfl, rfl, rfl, rfl, rfl⟩, rfl, ⟨rfl, rfl, rfl, rfl, rfl, rfl, rfl, rfl, rfl, rfl, rfl, rfl, rfl, rfl, rfl, rfl, rfl, rfl⟩⟩

/-- A column of the boxes, as words. -/
def col (B : S64x4.Idx → Elt F .f32) (off : Fin 2 → ℕ) (h : S64x4.Slices off S64x1) : S64.Idx → Elt F .f32 :=
  shapeCast S64 (extractStridedSlice S64x1 off B h) shapeCasts_S64x1_S64
def one64 (n : BitVec 32) : S64.Idx → Elt F .i32 := broadcastInDim S64 ![] bcast_S_S64 (constantI S_ 32 n)
def row64 (v : S64.Idx → Elt F .i32) : S1x64.Idx → Elt F .i32 := broadcastInDim S1x64 ![1] bcast_S64_S1x64_1 v
/-- The table the kernel reads: the class plane, the box's corner, its height and width, the rounded far corner, a row of zeros. -/
def table (B : S64x4.Idx → Elt F .f32) (C : S64.Idx → Elt F .i32) : S8x64.Idx → Elt F .i32 :=
  let x0 := fptosi 32 (col B ![0, 0] slices_S64x4_S64x1_0_0)
  let y0 := fptosi 32 (col B ![0, 1] slices_S64x4_S64x1_0_1)
  let x1 := fptosi 32 (col B ![0, 2] slices_S64x4_S64x1_0_2)
  let y1 := fptosi 32 (col B ![0, 3] slices_S64x4_S64x1_0_3)
  let rx := fptosi 32 (Host.roundeven (col B ![0, 2] slices_S64x4_S64x1_0_2))
  let ry := fptosi 32 (Host.roundeven (col B ![0, 3] slices_S64x4_S64x1_0_3))
  concatenate S8x64 0 [⟨S1x64, row64 (F := F) (addi (one64 (F := F) 53#32) C)⟩, ⟨S1x64, row64 (F := F) y0⟩, ⟨S1x64, row64 (F := F) x0⟩,
    ⟨S1x64, row64 (F := F) (addi (subi y1 y0) (one64 (F := F) 1#32))⟩, ⟨S1x64, row64 (F := F) (addi (subi x1 x0) (one64 (F := F) 1#32))⟩,
    ⟨S1x64, row64 (F := F) (addi ry (one64 (F := F) 1#32))⟩, ⟨S1x64, row64 (F := F) (addi rx (one64 (F := F) 1#32))⟩, ⟨S1x64, row64 (F := F) (one64 (F := F) 0#32)⟩]
    concatenates_S1x64_S1x64_S1x64_S1x64_S1x64_S1x64_S1x64_S1x64_S8x64_d0

theorem vals_arg0 (V0 : Valuation τ sig (Elt F)) : vals V0 (Proc.devRef .tc main_arg0) = V0 (Proc.devRef .tc main_arg0) := by
  unfold vals
  simp only [opss, hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
theorem vals_arg1 (V0 : Valuation τ sig (Elt F)) : vals V0 (Proc.devRef .tc main_arg1) = V0 (Proc.devRef .tc main_arg1) := by
  unfold vals
  simp only [opss, hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
theorem vals_arg2 (V0 : Valuation τ sig (Elt F)) : vals V0 (Proc.devRef .tc main_arg2) = V0 (Proc.devRef .tc main_arg2) := by
  unfold vals
  simp only [opss, hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
theorem vals_arg3 (V0 : Valuation τ sig (Elt F)) : vals V0 (Proc.devRef .tc main_arg3) = V0 (Proc.devRef .tc main_arg3) := by
  unfold vals
  simp only [opss, hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
theorem vals_v0 (V0 : Valuation τ sig (Elt F)) : vals V0 (Proc.devRef .tc main_v0) = shapeCast S133x512x512 (V0 (Proc.devRef .tc main_arg0)) shapeCasts_S1x133x512x512_S133x512x512 := by
  unfold vals
  simp only [opss, hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl
theorem vals_v2 (V0 : Valuation τ sig (Elt F)) : vals V0 (Proc.devRef .tc main_v2) = pad S64x128x128 ![0, 0, 0] ![0, 28, 28] ![0, 0, 0] (shapeCast S64x100x100 (V0 (Proc.devRef .tc main_arg1)) shapeCasts_S64x1x100x100_S64x100x100) (sitofp (F := F) .f32 (constantI S_ 32 0#32)) pads_S64x100x100_S64x128x128_000_0280_0280 h_S_ := by
  unfold vals
  simp only [opss, hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl
theorem vals_v44 (V0 : Valuation τ sig (Elt F)) : vals V0 (Proc.devRef .tc main_v44) = table (V0 (Proc.devRef .tc main_arg2)) (V0 (Proc.devRef .tc main_arg3)) := by
  unfold vals
  simp only [opss, hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl

end Cert.KernelIdeal.Hand

end
-- ==== Proof.Whole.lean ====
/- The kernel run whole: launched, every grid point's body run, and what the result then holds. -/
module

public import proofs.«01_k».proof.Proof.Entry
public import proofs.«01_k».proof.Proof.Host

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the unscoped buffers hold when the kernel is launched. -/
def V (c : Dev nD) (b : Ref sig .tc) : Buf (Elt F) ((c : Thread nD τ).loc b) := vals (fun b => m (c, b)) (Proc.devRef .tc b)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main (opss (F := F)) opss_sub opss_fresh fun c => (main_chain c).trans rfl

/-- The tables the launch reads. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl
abbrev adm : (pcfg0 (F := F)).Adm := ⟨tbl m, trivial⟩
abbrev cfgM : Pipeline.Cfg sig Λ₀ := cfg0 (adm m)

def mx (a b d : ℕ) : S64x128x128.Idx := fun | 0 => ⟨a % 64, Nat.mod_lt _ (by decide)⟩ | 1 => ⟨b % 128, Nat.mod_lt _ (by decide)⟩ | 2 => ⟨d % 128, Nat.mod_lt _ (by decide)⟩

/-- The words, the class planes and the masks that the body reads. -/
def Tv (c : Dev nD) : S8x64.Idx → Elt F .i32 := V m c main_v44
def SEMv (c : Dev nD) : S133x512x512.Idx → Elt F .f32 := V m c main_v0
def MBv (c : Dev nD) (k : ℕ) : Vec F S1x128x128 .f32 := fun y => (V m c main_v2 : S64x128x128.Idx → Elt F .f32) (mx k (y 1 : ℕ) (y 2 : ℕ))
/-- The result. -/
def OUTv (c : Dev nD) : S117x512x512.Idx → Elt F .f32 := OUT (Tv m c) (SEMv m c) (MBv m c)

/-- The state before point `n` (after point `n - 1`). -/
def Phi (c : Dev nD) (n : ℕ) : sProp 𝕄 :=
  iprop((if n = 64 then Last (T := Tv m c) (SEMv m c) (MBv m c) c else if n = 0 then Mid0 (T := Tv m c) (SEMv m c) (MBv m c) c else Mid (T := Tv m c) (SEMv m c) (MBv m c) c n)
    ∗ spare (SEMv m c) c ∗ (∃ r, prngReg c r))

/-- The proof data of the pipeline. -/
def dats (_ : Fin 1) (c : Dev nD) : Dat τ (Elt F) Unit ℕ (Pipeline.UD sig nD τ) ℕ (cfgM m) c where
  A w := V m c (Pipeline.arrRef spec0 w)
  after w t := match w with
    | ⟨0, _⟩ => MBv m c t.val
  Φ t := Phi m c t.val
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = MBv m c t.val := by dsimp only [dats]; rfl

theorem ix_val : ∀ t : Fin grid0.N, cc0_transform_1 (grid0.coords t) = ![t.val, 0, 0] := by decide +kernel

/-- What the fetch brings at a point is the point's mask. -/
theorem block_eq (c : Dev nD) (t : Fin (cfgM m).N) : (dats m 0 c).blockOf 0 t = MBv m c t.val := by
  refine funext fun (y : S1x128x128.Idx) => ?_
  unfold Dat.blockOf
  rw [A_eq]
  have hlt : t.val < 64 := t.isLt
  have y0 : (y 0 : ℕ) < 1 := (y 0).isLt
  have y1 : (y 1 : ℕ) < 128 := (y 1).isLt
  have y2 : (y 2 : ℕ) < 128 := (y 2).isLt
  have e := ix_val t
  refine congrArg (V m c main_v2 : S64x128x128.Idx → Elt F .f32) (funext fun a => Fin.ext ?_)
  have ea := congrFun e a
  fin_cases a
  · show cc0_transform_1 (grid0.coords t) 0 * 1 + 1 * (y 0 : ℕ) = t.val % 64
    rw [e]; simp; omega
  · show cc0_transform_1 (grid0.coords t) 1 * 128 + 1 * (y 1 : ℕ) = (y 1 : ℕ) % 128
    rw [e]; simp; omega
  · show cc0_transform_1 (grid0.coords t) 2 * 128 + 1 * (y 2 : ℕ) = (y 2 : ℕ) % 128
    rw [e]; simp; omega

theorem before_0 (c : Dev nD) (t : Fin (cfgM m).N) (d) : (dats m 0 c).before 0 t d = MBv m c t.val :=
  (Dat.before_in_eq_fetched (dats m 0 c) 0 rfl (fun _ => rfl) (fun _ _ _ => rfl) (fun t => by rw [after_0]; exact (block_eq m c t).symm) t d).trans
    (by rw [← block_eq m c t]; rfl)

abbrev ms0 (t : Fin (cfgM m).N) : Memref sig .tc .vmem S1x128x128 .f32 := spec0_0.stage ((cfgM m).slots t 0)
abbrev bodyAt (t : Fin (cfgM m).N) : Prog (TpuEff nD τ sig (Elt F) Λ₀ .tc) PUnit :=
  cc0__body (grid0.coords t) (Memref.whole main_v44) (Memref.isWhole_whole _) (Memref.whole main_v0) (Memref.isWhole_whole _) (ms0 m t) (hstage0_0 (((cfgM m).slots t 0).cast nbuf0_0)) (Memref.whole main_v45) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9

def bodyPre (c : Dev nD) (t : Fin (cfgM m).N) : sProp 𝕄 :=
  iprop((dats m 0 c).Φ t.castSucc ∗ (dats m 0 c).owesAt () t.castSucc ∗ (∃ d, owns (c : Thread nD τ) (ms0 m t) fullShare ((dats m 0 c).before 0 t d)))
def bodyPost (c : Dev nD) (t : Fin (cfgM m).N) : sProp 𝕄 :=
  iprop((dats m 0 c).Φ t.succ ∗ (dats m 0 c).owesAt () t.succ ∗ owns (c : Thread nD τ) (ms0 m t) fullShare ((dats m 0 c).after 0 t))

theorem Phi_castSucc (c : Dev nD) (t : Fin (cfgM m).N) : (dats m 0 c).Φ t.castSucc = Phi m c t.val := by
  dsimp only [dats]; exact Pipeline.Dat.Φ_castSucc (fun n _ => Phi m c n) t
theorem Phi_succ (c : Dev nD) (t : Fin (cfgM m).N) : (dats m 0 c).Φ t.succ = Phi m c (t.val + 1) := by
  dsimp only [dats]; rfl

/-- The body at every point. -/
theorem sound_body (c : Dev nD) (hT : Good (Tv m c)) (t : Fin (cfgM m).N) :
    bodyPre m c t ⊢ wp frame (wpE (defs₀ (F := F)) Variants.none c none) Set.univ (bodyAt m t) (fun _ => bodyPost m c t) := by
  have hlt : t.val < 64 := t.isLt
  unfold bodyPre bodyPost
  rw [Phi_castSucc, Phi_succ, after_0]
  unfold Phi Dat.owesAt Pipeline.owesWithin
  rw [show (dats m 0 c).owed t.castSucc = 0 from rfl, show (dats m 0 c).owed t.succ = 0 from rfl, if_neg (show t.val ≠ 64 by omega), if_neg (show t.val + 1 ≠ 0 by omega)]
  by_cases h63 : t.val = 63
  · rw [if_neg (show t.val ≠ 0 by omega), if_pos (show t.val + 1 = 64 by omega)]
    iintro ⟨⟨HM, HS, HG⟩, ⟨%W, -, HW⟩, ⟨%d0, H0⟩⟩
    ihave H0 := (Entails.of_eq (congrArg (fun x => owns (c : Thread nD τ) (ms0 m t) fullShare x) (before_0 m c t d0))) $$ H0
    iapply (body63 (T := Tv m c) (SEMv m c) (MBv m c) c hT t hlt h63)
    isplitl [HM]; · iexact HM
    isplitl [H0]; · iexact H0
    isplitl [HW]; · unfold owesAny; iexists W; iexact HW
    unfold owesAny
    iintro ⟨HM, H0, ⟨%W', HW'⟩⟩
    isplitl [HM HS HG]
    · isplitl [HM]; · iexact HM
      isplitl [HS]; · iexact HS
      iexact HG
    isplitl [HW']
    · iexists W'; isplitr; · ipureintro; exact fun _ _ => Or.inl trivial
      iexact HW'
    iexact H0
  · rw [if_neg (show t.val + 1 ≠ 64 by omega)]
    iintro ⟨⟨HM, HS, HG⟩, ⟨%W, -, HW⟩, ⟨%d0, H0⟩⟩
    ihave H0 := (Entails.of_eq (congrArg (fun x => owns (c : Thread nD τ) (ms0 m t) fullShare x) (before_0 m c t d0))) $$ H0
    iapply (body_mid (T := Tv m c) (SEMv m c) (MBv m c) c hT t hlt h63)
    isplitl [HM]; · iexact HM
    isplitl [H0]; · iexact H0
    isplitl [HW]; · unfold owesAny; iexists W; iexact HW
    unfold owesAny
    iintro ⟨HM, H0, ⟨%W', HW'⟩⟩
    isplitl [HM HS HG]
    · isplitl [HM]; · iexact HM
      isplitl [HS]; · iexact HS
      iexact HG
    isplitl [HW']
    · iexists W'; isplitr; · ipureintro; exact fun _ _ => Or.inl trivial
      iexact HW'
    iexact H0

theorem defs₀_row (t : Fin (cfgM m).N) : defs₀ (F := F) .tc (cfgM m).body ((cfgM m).bodyArgs t ((cfgM m).slots t)) = bodyAt m t := by
  unfold defs₀; rw [Defs.onTc_tc]

theorem body_obligation (c : Dev nD) (hT : Good (Tv m c)) : BodyObligation (dats (F := F) m 0 c) (defs₀ (F := F)) Variants.none () Set.univ := fun t => by
  rw [bigSep_W0, bigSep_W0, defs₀_row]
  exact triple_restated (sound_body m c hT t) rfl .rfl fun _ => .rfl

/-- The counters of the kernel's own transfers. -/
abbrev osem0 : Fin 13 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14] : Fin 13 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄) = sems (F := F) c := by
  rw [Pipeline.ownSems0_eq_of_list c osem0 [0, 1, 2, 3, 4, 5, 6, 7, 8, 9, 10, 11, 12] (by decide) (by decide)]; rfl
def H0 : Finset (Ref sig .tc) := {main_v0}
theorem H0_sub : H0 ⊆ Pipeline.restRefsP sig pre0 spec0 := by decide
def R0 : Finset (Ref sig .tc) := {main_v45}
theorem R0_sub : R0 ⊆ Pipeline.restRefsP sig pre0 spec0 \ H0 := by decide
theorem held_eq (c : Dev nD) : (bigSep H0 (fun b => ((c : Thread nD τ).loc b) ↦{fullShare} V m c b) : sProp 𝕄) = (((c : Thread nD τ).loc main_v0) ↦{fullShare} SEMv m c) := by
  unfold H0; rw [bigSep_singleton]; rfl
theorem routed_eq (c : Dev nD) (G : (b : Ref sig .tc) → Buf (Elt F) ((c : Thread nD τ).loc b)) : (Pipeline.routed R0 c G : sProp 𝕄) = (((c : Thread nD τ).loc main_v45) ↦{fullShare} G main_v45) := by
  unfold Pipeline.routed R0; rw [bigSep_singleton]
theorem PhiT_eq (c : Dev nD) : (Pipeline.ΦT pre0 (tbl m) c : sProp 𝕄) = tab (Tv m c) c := by
  unfold Pipeline.ΦT Pipeline.prefHeld
  rw [show (Finset.univ : Finset (Fin 1)) = {(0 : Fin 1)} from by decide, bigSep_singleton]
  obtain rfl : c = 0 := Subsingleton.elim _ _
  rfl

/-- What the kernel leaves: the result's buffer at `OUTv`, every other as the launch found it. -/
def G (c : Dev nD) (b : Ref sig .tc) : Buf (Elt F) ((c : Thread nD τ).loc b) :=
  if h : b = main_v45 then h ▸ (OUTv m c : Buf (Elt F) ((c : Thread nD τ).loc main_v45)) else V m c b
theorem G_v45 (c : Dev nD) : G m c main_v45 = OUTv m c := by
  unfold G; rw [dif_pos rfl]

theorem hin (c : Dev nD) : iprop(Pipeline.ΦDRG osem0 spec0 H0 R0 (V m) (V m) c ∗ Pipeline.ΦT pre0 (tbl m) c) ⊢ ((dats m 0 c).Φ 0 : sProp 𝕄) := by
  rw [Pipeline.ΦDRG_eq, scopedRest0_eq, ownSems0_eq, held_eq, routed_eq, PhiT_eq, show (dats m 0 c).Φ 0 = Phi m c 0 from rfl]
  unfold Phi
  rw [if_neg (by decide), if_pos rfl]
  iintro ⟨⟨HS, HG, HQ, HV, HO⟩, HT⟩
  ihave H := (enter (Tv m c) (SEMv m c) (MBv m c) c (V m c main_v45)) $$ [HS HQ HV HO HT]
  · isplitl [HS]; · unfold scr; iexact HS
    isplitl [HQ]; · iexact HQ
    isplitl [HV]; · iexact HV
    isplitl [HO]; · iexact HO
    iexact HT
  icases H with ⟨HM, HS⟩
  isplitl [HM]; · iexact HM
  isplitl [HS]; · iexact HS
  iexact HG

theorem hout (c : Dev nD) : (dats m 0 c).Φ (Fin.last (cfgM m).N) ⊢ (Pipeline.ΦDRG osem0 spec0 H0 R0 (V m) (G m) c : sProp 𝕄) := by
  rw [Pipeline.ΦDRG_eq, scopedRest0_eq, ownSems0_eq, held_eq, routed_eq, G_v45, show (dats m 0 c).Φ (Fin.last (cfgM m).N) = Phi m c 64 from rfl]
  unfold Phi
  rw [if_pos rfl]
  iintro ⟨HM, HS, HG⟩
  ihave H := (leave (Tv m c) (SEMv m c) (MBv m c) c) $$ [HM HS]
  · isplitl [HM]; · iexact HM
    iexact HS
  icases H with ⟨HS, HQ, HV, HO, HT⟩
  isplitl [HS]; · unfold scr; iexact HS
  isplitl [HG]; · iexact HG
  isplitl [HQ]; · iexact HQ
  isplitl [HV]; · iexact HV
  iexact HO

theorem run_main (hT : ∀ c, Good (Tv m c)) : θ_run defs (onTc (τ := τ) (main (F := F))) (s₀ m ρ)
    (fun r => Pipeline.FramePostRG (Pipeline.pin pcfgs fun _ => adm m) (dats m) 0 R0 (V m) (G m) r ∧ r.2.sem = fun _ => 0) :=
  Pipeline.θ_run_frameP_dmaRG (Q' := _) pcfgs (fun _ => adm m) (dats m) (0 : Fin 1) launch0 osem0 defs₀ Variants.none ownSemFacts0 H0 R0 H0_sub R0_sub m ρ main
    (hbody := fun c => (body_obligation m c (hT c)).loose) (hshare := fun c => (dats m 0 c).share_full fun _ => rfl)
    (howed := fun _ _ => rfl) (V := V m) (hmain := hmain m Variants.none) (hA := A_eq m) (hpf := V_pre m) (G := G m)
    (hin := hin m) (hout := hout m)

/-- The kernel run from any memory whose table is in range: it ends, the result holds `OUTv`, the arguments are unchanged, every counter is zero. -/
theorem run_all (hT : ∀ c, Good (Tv m c)) : θ_run defs (onTc (τ := τ) (main (F := F))) ⟨m, fun _ => 0, ρ⟩ (fun r => (∀ c : Dev nD,
      r.2.mem ((c.tc : Thread nD τ).loc main_v45) = OUTv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(Pipeline.FramePostRG.written h.1 c (show main_v45 ∈ R0 by decide)).trans (G_v45 m c),
      ((h.1.1 c).2 main_arg0 (Finset.mem_sdiff.mpr ⟨Pipeline.mem_restRefs_of main_arg0 (by decide) (show ∀ w : Fin 1, (spec0 w).arr.view.ref ≠ main_arg0 by decide), by decide⟩)).trans (vals_arg0 _),
      ((h.1.1 c).2 main_arg1 (Finset.mem_sdiff.mpr ⟨Pipeline.mem_restRefs_of main_arg1 (by decide) (show ∀ w : Fin 1, (spec0 w).arr.view.ref ≠ main_arg1 by decide), by decide⟩)).trans (vals_arg1 _),
      ((h.1.1 c).2 main_arg2 (Finset.mem_sdiff.mpr ⟨Pipeline.mem_restRefs_of main_arg2 (by decide) (show ∀ w : Fin 1, (spec0 w).arr.view.ref ≠ main_arg2 by decide), by decide⟩)).trans (vals_arg2 _),
      ((h.1.1 c).2 main_arg3 (Finset.mem_sdiff.mpr ⟨Pipeline.mem_restRefs_of main_arg3 (by decide) (show ∀ w : Fin 1, (spec0 w).arr.view.ref ≠ main_arg3 by decide), by decide⟩)).trans (vals_arg3 _)⟩, h.2⟩) (run_main m ρ hT)

end Cert.KernelIdeal.Hand

end
-- ==== Proof.Range.lean ====
/- What the precondition says of the table's words. -/
module

public import proofs.«01_k».proof.Proof.Host
public import proofs.«01_k».proof.Proof.State
public import proofs.«01_k».proof.Proof.Gen.Pre_boxes_in_range
public import Idealize.ShloMosaic.Lib.StableHlo.Predicate
public import Idealize.ShloMosaic.Lib.WordArith
public import Idealize.ShloMosaic.Lib.Pipeline.Value

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

variable (A0 : S1x133x512x512.Idx → Elt F .f32) (A1 : S64x1x100x100.Idx → Elt F .f32) (B : S64x4.Idx → Elt F .f32) (C : S64.Idx → Elt F .i32)

def kx (k : ℕ) : S64.Idx := fun | 0 => ⟨k % 64, Nat.mod_lt _ (by decide)⟩
def jx (k : ℕ) : S1x64.Idx := fun | 0 => ⟨0, by decide⟩ | 1 => ⟨k % 64, Nat.mod_lt _ (by decide)⟩
theorem row64_at (v : S64.Idx → Elt F .i32) (k : ℕ) : row64 v (jx k) = v (kx k) :=
  congrArg v (funext fun a => Fin.ext (by fin_cases a; rfl))
/-- The words of box `k`: its corners, and its far corner rounded. -/
def x0w (k : ℕ) : BitVec 32 := fptosi (F := F) 32 (col B ![0, 0] slices_S64x4_S64x1_0_0) (kx k)
def y0w (k : ℕ) : BitVec 32 := fptosi (F := F) 32 (col B ![0, 1] slices_S64x4_S64x1_0_1) (kx k)
def x1w (k : ℕ) : BitVec 32 := fptosi (F := F) 32 (col B ![0, 2] slices_S64x4_S64x1_0_2) (kx k)
def y1w (k : ℕ) : BitVec 32 := fptosi (F := F) 32 (col B ![0, 3] slices_S64x4_S64x1_0_3) (kx k)
def rxw (k : ℕ) : BitVec 32 := fptosi (F := F) 32 (Host.roundeven (col B ![0, 2] slices_S64x4_S64x1_0_2)) (kx k)
def ryw (k : ℕ) : BitVec 32 := fptosi (F := F) 32 (Host.roundeven (col B ![0, 3] slices_S64x4_S64x1_0_3)) (kx k)
def clw (k : ℕ) : BitVec 32 := C (kx k)

/-- The table's rows. -/
def rows (n : Fin 8) : S1x64.Idx → Elt F .i32 :=
  match n with
  | 0 => row64 (F := F) (addi (one64 (F := F) 53#32) C)
  | 1 => row64 (F := F) (fptosi 32 (col B ![0, 1] slices_S64x4_S64x1_0_1))
  | 2 => row64 (F := F) (fptosi 32 (col B ![0, 0] slices_S64x4_S64x1_0_0))
  | 3 => row64 (F := F) (addi (subi (fptosi 32 (col B ![0, 3] slices_S64x4_S64x1_0_3)) (fptosi 32 (col B ![0, 1] slices_S64x4_S64x1_0_1))) (one64 (F := F) 1#32))
  | 4 => row64 (F := F) (addi (subi (fptosi 32 (col B ![0, 2] slices_S64x4_S64x1_0_2)) (fptosi 32 (col B ![0, 0] slices_S64x4_S64x1_0_0))) (one64 (F := F) 1#32))
  | 5 => row64 (F := F) (addi (fptosi 32 (Host.roundeven (col B ![0, 3] slices_S64x4_S64x1_0_3))) (one64 (F := F) 1#32))
  | 6 => row64 (F := F) (addi (fptosi 32 (Host.roundeven (col B ![0, 2] slices_S64x4_S64x1_0_2))) (one64 (F := F) 1#32))
  | 7 => row64 (F := F) (one64 (F := F) 0#32)
theorem table_at (r : Fin 8) (k : ℕ) : table B C (tx r.val k) = rows B C r (jx k) :=
  concatenate_ofFn_unit_apply (t := S8x64) (s₁ := S1x64) 0 (rows B C) concatenates_S1x64_S1x64_S1x64_S1x64_S1x64_S1x64_S1x64_S1x64_S8x64_d0 rfl rfl (tx r.val k) r
    (Nat.mod_eq_of_lt r.isLt) (jx k) (fun b hb => by
      fin_cases b
      · exact absurd rfl hb
      · rfl)
theorem table_0 (k : ℕ) : table B C (tx 0 k) = (53#32 + clw (F := F) C k : BitVec 32) := (table_at B C 0 k).trans (row64_at _ k)
theorem table_1 (k : ℕ) : table B C (tx 1 k) = (y0w B k : BitVec 32) := (table_at B C 1 k).trans (row64_at _ k)
theorem table_2 (k : ℕ) : table B C (tx 2 k) = (x0w B k : BitVec 32) := (table_at B C 2 k).trans (row64_at _ k)
theorem table_3 (k : ℕ) : table B C (tx 3 k) = (y1w B k - y0w B k + 1#32 : BitVec 32) := (table_at B C 3 k).trans (row64_at _ k)
theorem table_4 (k : ℕ) : table B C (tx 4 k) = (x1w B k - x0w B k + 1#32 : BitVec 32) := (table_at B C 4 k).trans (row64_at _ k)
theorem table_5 (k : ℕ) : table B C (tx 5 k) = (ryw B k + 1#32 : BitVec 32) := (table_at B C 5 k).trans (row64_at _ k)
theorem table_6 (k : ℕ) : table B C (tx 6 k) = (rxw B k + 1#32 : BitVec 32) := (table_at B C 6 k).trans (row64_at _ k)

theorem and_one (a b : BitVec 1) : IntOp.andi a b = 1#1 ↔ a = 1#1 ∧ b = 1#1 := by
  revert a b; decide
theorem sge_one (a b : BitVec 32) : IntOp.cmpi .sge a b = 1#1 ↔ b.toInt ≤ a.toInt := by
  show BitVec.ofBool (b.sle a) = 1#1 ↔ _
  rw [StableHlo.Predicate.ofBool_eq_one_iff]; simp [BitVec.sle]
theorem sle_one (a b : BitVec 32) : IntOp.cmpi .sle a b = 1#1 ↔ a.toInt ≤ b.toInt := by
  show BitVec.ofBool (a.sle b) = 1#1 ↔ _
  rw [StableHlo.Predicate.ofBool_eq_one_iff]; simp [BitVec.sle]
theorem slt_one (a b : BitVec 32) : IntOp.cmpi .slt a b = 1#1 ↔ a.toInt < b.toInt := by
  show BitVec.ofBool (a.slt b) = 1#1 ↔ _
  rw [StableHlo.Predicate.ofBool_eq_one_iff]; simp [BitVec.slt]

/-- Box `k` in range, in integers. -/
structure InRange (k : ℕ) : Prop where
  x0 : 0 ≤ (x0w B k).toInt ∧ (x0w B k).toInt < 431
  y0 : 0 ≤ (y0w B k).toInt ∧ (y0w B k).toInt < 431
  x1 : (x0w B k).toInt ≤ (x1w B k).toInt ∧ (x1w B k).toInt ≤ (x0w B k).toInt + 80
  y1 : (y0w B k).toInt ≤ (y1w B k).toInt ∧ (y1w B k).toInt ≤ (y0w B k).toInt + 80
  rx : (rxw B k).toInt ≤ (x0w B k).toInt + 80
  ry : (ryw B k).toInt ≤ (y0w B k).toInt + 80
  cl : 0 ≤ (clw (F := F) C k).toInt ∧ (clw (F := F) C k).toInt < 80

theorem add80 (a : BitVec 32) (h0 : 0 ≤ a.toInt) (h1 : a.toInt < 431) : (a + 80#32).toInt = a.toInt + 80 := by
  have e : (80#32 : BitVec 32).toInt = 80 := by decide
  rw [WordArith.toInt_add_of_bounds _ _ (by omega) (by omega), e]

/-- The precondition, decoded. -/
theorem inRange (h : Cert.Pre_boxes_in_range.fn (F := F) A0 A1 B C = fun _ => 1#1) (k : ℕ) : InRange B C k := by
  have e := congrFun h (kx k)
  have e' : IntOp.andi (IntOp.andi (IntOp.andi (IntOp.andi (IntOp.andi (IntOp.andi (IntOp.andi (IntOp.andi (IntOp.andi (IntOp.andi (IntOp.andi
      (IntOp.cmpi .sge (x0w B k) 0#32) (IntOp.cmpi .slt (x0w B k) 431#32)) (IntOp.cmpi .sge (y0w B k) 0#32)) (IntOp.cmpi .slt (y0w B k) 431#32))
      (IntOp.cmpi .sge (x1w B k) (x0w B k))) (IntOp.cmpi .sle (x1w B k) (x0w B k + 80#32))) (IntOp.cmpi .sge (y1w B k) (y0w B k))) (IntOp.cmpi .sle (y1w B k) (y0w B k + 80#32)))
      (IntOp.cmpi .sle (rxw B k) (x0w B k + 80#32))) (IntOp.cmpi .sle (ryw B k) (y0w B k + 80#32))) (IntOp.cmpi .sge (clw (F := F) C k) 0#32)) (IntOp.cmpi .slt (clw (F := F) C k) 80#32) = 1#1 := e
  simp only [and_one, sge_one, sle_one, slt_one] at e'
  have z : (0#32 : BitVec 32).toInt = 0 := by decide
  have z1 : (431#32 : BitVec 32).toInt = 431 := by decide
  have z2 : (80#32 : BitVec 32).toInt = 80 := by decide
  rw [z, z1, z2] at e'
  obtain ⟨⟨⟨⟨⟨⟨⟨⟨⟨⟨⟨a1, a2⟩, a3⟩, a4⟩, a5⟩, a6⟩, a7⟩, a8⟩, a9⟩, a10⟩, a11⟩, a12⟩ := e'
  rw [add80 _ a1 a2] at a6 a9
  rw [add80 _ a3 a4] at a8 a10
  exact ⟨⟨a1, a2⟩, ⟨a3, a4⟩, ⟨a5, a6⟩, ⟨a7, a8⟩, a9, a10, ⟨a11, a12⟩⟩

theorem toNat_of_toInt {a : BitVec 32} (h : 0 ≤ a.toInt) : (a.toNat : ℤ) = a.toInt := by
  rw [BitVec.toInt_eq_toNat_cond] at h ⊢
  have := a.isLt
  split <;> split at h <;> omega

/-- The table's words are in the range that the transfers need. -/
theorem good (h : Cert.Pre_boxes_in_range.fn (F := F) A0 A1 B C = fun _ => 1#1) : Good (table B C) := by
  intro k hk
  have r := inRange A0 A1 B C h k
  have e0 := toNat_of_toInt r.x0.1
  have e1 := toNat_of_toInt r.y0.1
  have e2 := toNat_of_toInt r.cl.1
  have := r.x0.2
  have := r.y0.2
  have := r.cl.2
  rw [table_0, table_1, table_2]
  refine ⟨?_, by omega, by omega⟩
  rw [BitVec.toNat_add]
  have : (53#32 : BitVec 32).toNat = 53 := by decide
  omega

end Cert.KernelIdeal.Hand

end
-- ==== Proof.Frame.lean ====
/- The run of the kernel under the precondition: the table that the host computes from boxes and channel numbers in range is in range, so every copy stays inside its array. -/
module

public import proofs.«01_k».proof.Proof.Whole
public import proofs.«01_k».proof.Proof.Range

@[expose] public section

set_option pp.maxSteps 250
set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ

variable (T₀ : S8x64.Idx → Elt F .i32) (SEM : S133x512x512.Idx → Elt F .f32) (MB : ℕ → Vec F S1x128x128 .f32) (c : Dev nD)

variable (m : (ℓ : Loc nD τ sig) → Buf (Elt F) ℓ) (ρ : Dev nD → PrngReg)

/-- The table which the host computes is in range where the precondition holds of the arguments. -/
theorem good_m (c : Dev nD) (h : Cert.Pre_boxes_in_range.fn (F := F) (m ((c.tc : Thread nD τ).loc main_arg0)) (m ((c.tc : Thread nD τ).loc main_arg1))
    (m ((c.tc : Thread nD τ).loc main_arg2)) (m ((c.tc : Thread nD τ).loc main_arg3)) = fun _ => 1#1) : Good (Tv m c) := by
  have e : Tv m c = table (m ((c.tc : Thread nD τ).loc main_arg2)) (m ((c.tc : Thread nD τ).loc main_arg3)) := vals_v44 _
  rw [e]
  exact good _ _ _ _ h

/-- Under the precondition the kernel's program ends, its result is `OUTv`, its arguments are unchanged and every counter is zero. -/
theorem run_pre (h : ∀ c : Dev nD, Cert.Pre_boxes_in_range.fn (F := F) (m ((c.tc : Thread nD τ).loc main_arg0)) (m ((c.tc : Thread nD τ).loc main_arg1))
    (m ((c.tc : Thread nD τ).loc main_arg2)) (m ((c.tc : Thread nD τ).loc main_arg3)) = fun _ => 1#1) :
    θ_run defs (onTc (τ := τ) (main (F := F))) ⟨m, fun _ => 0, ρ⟩ (fun r => (∀ c : Dev nD,
      r.2.mem ((c.tc : Thread nD τ).loc main_v45) = OUTv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := run_all m ρ fun c => good_m m c (h c)

end Cert.KernelIdeal.Hand

end
-- ==== Proof.Place.lean ====
/- Where a row or a column of the canvas falls in the mask: the place, clipped to the mask, its integer part and its fraction, over the extended reals. -/
module

public import Idealize.ShloMosaic.Lib.Pointwise
public import Idealize.ShloMosaic.Lib.WordArith

@[expose] public section

set_option maxRecDepth 16384

noncomputable section

namespace Cert.Paste

open Idealize.ShloMosaic

/-- An integer word as an extended real. -/
def wr (w : BitVec 32) : EReal := ((w.toInt : ℝ) : EReal)

/-- The place of the canvas's line `w` in a mask stretched over `n` lines from `v` on. -/
def place (w v n : BitVec 32) : EReal :=
  min (Ideal.ofBits .f32 0x42C60000#32) (max 0 ((wr w - wr v + Ideal.ofBits .f32 0x3F000000#32) * Ideal.div (Ideal.ofBits .f32 0x42C80000#32) (wr n)
    - Ideal.ofBits .f32 0x3F000000#32))

theorem ofBits_99 : Ideal.ofBits .f32 0x42C60000#32 = ((99 : ℝ) : EReal) := by
  simp [Ideal.ofBits, Ideal.ieee, -EReal.coe_mul]; norm_num

/-- A place is a whole number up to 99 and a fraction, which is zero at 99. -/
theorem place_spec (w v n : BitVec 32) : ∃ (f : ℕ) (u : ℝ), f ≤ 99 ∧ 0 ≤ u ∧ u < 1 ∧ (f = 99 → u = 0) ∧ place w v n = (((f : ℝ) + u : ℝ) : EReal) := by
  have h : ∀ x : EReal, ∃ r : ℝ, 0 ≤ r ∧ r ≤ 99 ∧ min ((99 : ℝ) : EReal) (max 0 x) = (r : EReal) := by
    intro x
    induction x with
    | bot => exact ⟨0, le_rfl, by norm_num, by rw [max_eq_left bot_le, ← EReal.coe_zero, ← EReal.coe_strictMono.monotone.map_min]; norm_num⟩
    | top => exact ⟨99, by norm_num, le_rfl, by rw [max_eq_right le_top, min_eq_left le_top]⟩
    | coe x =>
      refine ⟨min 99 (max 0 x), le_min (by norm_num) (le_max_left _ _), min_le_left _ _, ?_⟩
      rw [EReal.coe_strictMono.monotone.map_min, EReal.coe_strictMono.monotone.map_max, EReal.coe_zero]
  unfold place
  rw [ofBits_99]
  obtain ⟨r, h0, h1, e⟩ := h ((wr w - wr v + Ideal.ofBits .f32 0x3F000000#32) * Ideal.div (Ideal.ofBits .f32 0x42C80000#32) (wr n) - Ideal.ofBits .f32 0x3F000000#32)
  refine ⟨⌊r⌋₊, r - ⌊r⌋₊, ?_, ?_, ?_, ?_, ?_⟩
  · have := Nat.floor_le_floor h1
    simpa using this
  · have := Nat.floor_le h0; linarith
  · have := Nat.lt_floor_add_one r; linarith
  · intro e
    have := Nat.floor_le h0
    rw [e] at this ⊢
    push_cast at this ⊢
    linarith
  · rw [e]; congr 1; ring

variable (f : ℕ) (u : ℝ)

theorem floor_place (hu0 : 0 ≤ u) (hu : u < 1) : Ideal.liftRound Int.floor (((f : ℝ) + u : ℝ) : EReal) = (((f : ℕ) : ℝ) : EReal) := by
  show (((⌊(f : ℝ) + u⌋ : ℤ) : ℝ) : EReal) = _
  have : ⌊(f : ℝ) + u⌋ = (f : ℤ) := by
    rw [Int.floor_eq_iff]; push_cast; constructor <;> linarith
  rw [this]; norm_cast

theorem frac_place : (((f : ℝ) + u : ℝ) : EReal) - (((f : ℕ) : ℝ) : EReal) = (u : EReal) := by
  rw [← EReal.coe_sub]; congr 1; ring

theorem index_place (hf : f ≤ 99) : Ideal.fptosi 32 (((f : ℕ) : ℝ) : EReal) = BitVec.ofNat 32 f := by
  show BitVec.ofInt 32 (max _ (min _ (if (0 : ℝ) ≤ ((f : ℕ) : ℝ) then ⌊((f : ℕ) : ℝ)⌋ else ⌈((f : ℕ) : ℝ)⌉))) = _
  rw [if_pos (Nat.cast_nonneg f), Int.floor_natCast, min_eq_right (by norm_num; omega), max_eq_right (by norm_num)]
  exact BitVec.ofInt_natCast 32 f

/-- Does line `w` lie in the `n` lines from `v` on? -/
def inside (w v n : BitVec 32) : Prop := v.toInt ≤ w.toInt ∧ w.toInt ≤ v.toInt + n.toInt - 1

/-- The next line of the mask, the last one repeated. -/
def nxt (f : ℕ) : ℕ := min (f + 1) 99

/-- The weight a line of the mask has in a line of the canvas whose place is `f + u`. -/
def wt (f : ℕ) (u : ℝ) (m : ℕ) : EReal := (if m = f then 1 else 0) * (1 - (u : EReal)) + (if m = nxt f then 1 else 0) * (u : EReal)

/-- A weighted sum over the mask's lines takes two of them. -/
theorem sum_wt (hf : f ≤ 99) (h0 : 0 ≤ u) (h1 : u < 1) (g : Fin 128 → EReal) :
    ∑ m : Fin 128, wt f u m * g m = (1 - (u : EReal)) * g ⟨f, by omega⟩ + (u : EReal) * g ⟨nxt f, by unfold nxt; omega⟩ := by
  have p0 : (0 : EReal) ≤ (u : EReal) := by exact_mod_cast h0
  have p1 : (0 : EReal) ≤ 1 - (u : EReal) := by
    rw [← EReal.coe_one, ← EReal.coe_sub]; exact_mod_cast (by linarith : (0 : ℝ) ≤ 1 - u)
  have e : ∀ m : Fin 128, wt f u m * g m = (if m = ⟨f, by omega⟩ then (1 - (u : EReal)) * g m else 0) + (if m = ⟨nxt f, by unfold nxt; omega⟩ then (u : EReal) * g m else 0) := by
    intro m
    unfold wt
    rw [EReal.right_distrib_of_nonneg (by split_ifs <;> simp [p1]) (by split_ifs <;> simp [p0])]
    congr 1
    · by_cases h : (m : ℕ) = f
      · rw [if_pos h, if_pos (Fin.ext h), one_mul]
      · rw [if_neg h, if_neg (fun e => h (congrArg Fin.val e)), zero_mul, zero_mul]
    · by_cases h : (m : ℕ) = nxt f
      · rw [if_pos h, if_pos (Fin.ext h), one_mul]
      · rw [if_neg h, if_neg (fun e => h (congrArg Fin.val e)), zero_mul, zero_mul]
  rw [Finset.sum_congr rfl fun m _ => e m, Finset.sum_add_distrib, Finset.sum_ite_eq' , Finset.sum_ite_eq']
  simp

/-- The four products of the reference, from the kernel's two sums. -/
theorem four (h0 : 0 ≤ u) (h1 : u < 1) (w : ℝ) (k0 : 0 ≤ w) (k1 : w < 1) (a b c d : EReal) :
    (1 - (w : EReal)) * ((1 - (u : EReal)) * a + (u : EReal) * c) + (w : EReal) * ((1 - (u : EReal)) * b + (u : EReal) * d)
      = a * (1 - (u : EReal)) * (1 - (w : EReal)) + b * (1 - (u : EReal)) * (w : EReal) + c * (u : EReal) * (1 - (w : EReal)) + d * (u : EReal) * (w : EReal) := by
  have p0 : (0 : EReal) ≤ (w : EReal) := by exact_mod_cast k0
  have p1 : (0 : EReal) ≤ 1 - (w : EReal) := by
    rw [← EReal.coe_one, ← EReal.coe_sub]; exact_mod_cast (by linarith : (0 : ℝ) ≤ 1 - w)
  have p2 : 1 - (w : EReal) ≠ ⊤ := by
    rw [← EReal.coe_one, ← EReal.coe_sub]; exact EReal.coe_ne_top _
  rw [EReal.left_distrib_of_nonneg_of_ne_top p0 (EReal.coe_ne_top _), EReal.left_distrib_of_nonneg_of_ne_top p1 p2]
  ac_rfl

/-- The whole part of a place. -/
def ln (w v n : BitVec 32) : ℕ := (place_spec w v n).choose
/-- The fraction of a place. -/
def fr (w v n : BitVec 32) : ℝ := (place_spec w v n).choose_spec.choose

section
variable (w v n : BitVec 32)

theorem ln_le : ln w v n ≤ 99 := (place_spec w v n).choose_spec.choose_spec.1
theorem fr_nonneg : 0 ≤ fr w v n := (place_spec w v n).choose_spec.choose_spec.2.1
theorem fr_lt : fr w v n < 1 := (place_spec w v n).choose_spec.choose_spec.2.2.1
theorem place_eq : place w v n = (((ln w v n : ℝ) + fr w v n : ℝ) : EReal) := (place_spec w v n).choose_spec.choose_spec.2.2.2.2
theorem floor_eq : Ideal.liftRound Int.floor (place w v n) = ((ln w v n : ℝ) : EReal) := by
  rw [place_eq]; exact floor_place _ _ (fr_nonneg w v n) (fr_lt w v n)
theorem frac_eq : place w v n - ((ln w v n : ℝ) : EReal) = (fr w v n : EReal) := by
  rw [place_eq]; exact frac_place _ _
theorem nxt_le (f : ℕ) : nxt f ≤ 99 := min_le_right _ _

/-- The last line of the mask is its own next one. -/
theorem next_eq (f : ℕ) : min (((f : ℝ) : EReal) + 1) (Ideal.ofBits .f32 0x42C60000#32) = ((nxt f : ℝ) : EReal) := by
  rw [ofBits_99, ← EReal.coe_one, ← EReal.coe_add, ← EReal.coe_strictMono.monotone.map_min]
  congr 1; unfold nxt; push_cast; rfl

theorem flag (p : Prop) [Decidable p] : (FloatOps.sitofp (F := Ideal) .f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    rw [show (BitVec.setWidth 32 (BitVec.ofBool true)).toInt = 1 by decide]; norm_num
  · rw [if_neg h, decide_eq_false h]
    show (((BitVec.setWidth 32 (BitVec.ofBool false)).toInt : ℝ) : EReal) = 0
    rw [show (BitVec.setWidth 32 (BitVec.ofBool false)).toInt = 0 by decide]; norm_num

theorem wr_nat (m : ℕ) (hm : m < 1024) : wr (BitVec.ofNat 32 m) = ((m : ℝ) : EReal) := by
  unfold wr
  have e : (BitVec.ofNat 32 m).toInt = (m : ℤ) := by
    rw [BitVec.toInt_eq_toNat_of_lt (by rw [BitVec.toNat_ofNat]; omega), BitVec.toNat_ofNat]; omega
  rw [e]; norm_cast

theorem real_nat (m f : ℕ) : (((m : ℝ) : EReal) = ((f : ℝ) : EReal)) ↔ m = f := by
  rw [EReal.coe_eq_coe_iff]; exact Nat.cast_inj

/-- The weight the kernel builds from comparisons. -/
theorem weight (m : ℕ) (hm : m < 1024) :
    (FloatOps.sitofp (F := Ideal) .f32 (BitVec.setWidth 32 (BitVec.ofBool (decide (wr (BitVec.ofNat 32 m) = Ideal.liftRound Int.floor (place w v n))))) : EReal)
        * (1 - (place w v n - Ideal.liftRound Int.floor (place w v n)))
      + (FloatOps.sitofp (F := Ideal) .f32 (BitVec.setWidth 32 (BitVec.ofBool (decide (wr (BitVec.ofNat 32 m)
          = min (Ideal.liftRound Int.floor (place w v n) + 1) (Ideal.ofBits .f32 0x42C60000#32))))) : EReal)
        * (place w v n - Ideal.liftRound Int.floor (place w v n)) = wt (ln w v n) (fr w v n) m := by
  rw [flag, flag, floor_eq, frac_eq, next_eq, wr_nat m hm]
  unfold wt
  simp only [real_nat]

/-- The kernel's test that a line lies in the box. -/
theorem sel (a : EReal) :
    Scalar.select (IntOp.andi (BitVec.ofBool (decide (wr v ≤ wr w))) (BitVec.ofBool (decide (wr w ≤ wr v + wr n - 1)))) a 0 = open Classical in if inside w v n then a else 0 := by
  have e1 : wr v ≤ wr w ↔ v.toInt ≤ w.toInt := by
    unfold wr; rw [EReal.coe_le_coe_iff]; exact Int.cast_le
  have e2 : wr w ≤ wr v + wr n - 1 ↔ w.toInt ≤ v.toInt + n.toInt - 1 := by
    unfold wr
    rw [← EReal.coe_one, ← EReal.coe_add, ← EReal.coe_sub, EReal.coe_le_coe_iff]
    norm_cast
  unfold inside
  by_cases h1 : v.toInt ≤ w.toInt <;> by_cases h2 : w.toInt ≤ v.toInt + n.toInt - 1 <;> simp only [e1, e2, h1, h2] <;> simp [Scalar.select, IntOp.andi]

end

/-- The mask pasted at a pixel: four of its entries weighted, or nothing outside the box. -/
def pasted (P v n Q x k : BitVec 32) (M : ℕ → ℕ → EReal) : EReal := open Classical in
  if inside P v n ∧ inside Q x k then
    M (ln P v n) (ln Q x k) * (1 - (fr P v n : EReal)) * (1 - (fr Q x k : EReal)) + M (ln P v n) (nxt (ln Q x k)) * (1 - (fr P v n : EReal)) * (fr Q x k : EReal)
      + M (nxt (ln P v n)) (ln Q x k) * (fr P v n : EReal) * (1 - (fr Q x k : EReal)) + M (nxt (ln P v n)) (nxt (ln Q x k)) * (fr P v n : EReal) * (fr Q x k : EReal)
  else 0

/-- The kernel's two products give the pasted mask. -/
theorem pasted_sum (P v n Q x k : BitVec 32) (M : ℕ → ℕ → EReal) :
    (∑ j : Fin 128, open Classical in if inside Q x k then (∑ i : Fin 128, (if inside P v n then wt (ln P v n) (fr P v n) i else 0) * M i j) * wt (ln Q x k) (fr Q x k) j else 0)
      = pasted P v n Q x k M := by
  classical
  unfold pasted
  by_cases h2 : inside Q x k
  · by_cases h1 : inside P v n
    · simp only [h1, h2, if_true, and_self]
      rw [Finset.sum_congr rfl fun j _ => by
        rw [sum_wt (ln P v n) (fr P v n) (ln_le P v n) (fr_nonneg P v n) (fr_lt P v n) (fun i => M i j), mul_comm]]
      rw [sum_wt (ln Q x k) (fr Q x k) (ln_le Q x k) (fr_nonneg Q x k) (fr_lt Q x k) (fun j : Fin 128 => (1 - (fr P v n : EReal)) * M (ln P v n) j + (fr P v n : EReal) * M (nxt (ln P v n)) j)]
      exact four _ (fr_nonneg P v n) (fr_lt P v n) _ (fr_nonneg Q x k) (fr_lt Q x k) _ _ _ _
    · simp [h1, h2]
  · simp [h2]

end Cert.Paste

end
-- ==== Proof.Strip.lean ====
/- The strip the kernel stores, at a pixel: the pasted mask and the cropped class plane, over the extended reals. -/
module

public import proofs.«01_k».proof.Proof.Place
public import proofs.«01_k».proof.Proof.State

@[expose] public section

set_option maxRecDepth 16384

noncomputable section

namespace Cert.KernelIdeal.Hand

open Cert.KernelIdeal Cert.KernelIdeal.Gen
open Idealize.ShloMosaic
open Cert.Paste

/-- A strip's row weights: the weights of the mask's rows in a row of the box, nothing outside the box. -/
theorem rows_at (y0 bh : BitVec 32) (r : Fin 256) (m : Fin 128) :
    (let d : BitVec 32 := Scalar.divsi y0 128#32
     let s : BitVec 32 := Scalar.subi (Scalar.extui (Scalar.cmpi .sgt y0 0#32)) (Scalar.extui (Scalar.cmpi .slt y0 0#32))
     let u : BitVec 32 := Scalar.subi (Scalar.extui (Scalar.cmpi .sgt (128#32 : BitVec 32) 0#32)) (Scalar.extui (Scalar.cmpi .slt (128#32 : BitVec 32) 0#32))
     k0_pay8 (F := Ideal) (k0_pay2 y0) (k0_pay4 bh) (k0_pay6 y0 128#32 d s u) (k0_pay7 y0 bh y0 128#32 d s u) (ix2 r m))
      = open Classical in if inside (BitVec.ofNat 32 r + baseW y0) y0 bh then wt (ln (BitVec.ofNat 32 r + baseW y0) y0 bh) (fr (BitVec.ofNat 32 r + baseW y0) y0 bh) m else 0 := by
  extract_lets d s u
  pointwise [k0_pay8, k0_pay2, k0_pay4, k0_pay6, k0_pay7]
  refine Eq.trans ?_ (sel (BitVec.ofNat 32 r + baseW y0) y0 bh _)
  rw [← weight _ _ _ m (by omega)]
  rfl

/-- A strip at a pixel from its row weights, its columns' places and its crop. -/
theorem pays_at (x0 bw : BitVec 32) (A : FVec Ideal S256x128 .f32) (mb : Vec Ideal S1x128x128 .f32) (M : IVec S256x256 1) (g : Vec Ideal S1x256x256 .f32) (r c : Fin 256) :
    k0_pay14 (F := Ideal) (k0_pay12 (k0_pay3 x0) (k0_pay5 bw) A (k0_pay9 (F := Ideal)) (k0_pay10 x0) (k0_pay11 (k0_pay3 x0) (k0_pay5 bw) x0) mb) M g (ix3 0 r c)
      = (∑ j : Fin 128, open Classical in if inside (BitVec.ofNat 32 c + baseW x0) x0 bw then (∑ i : Fin 128, A (ix2 r i) * mb (ix3 0 i j)) * wt (ln (BitVec.ofNat 32 c + baseW x0) x0 bw) (fr (BitVec.ofNat 32 c + baseW x0) x0 bw) j else 0)
        + Scalar.select (M (ix2 r c)) (g (ix3 0 r c)) 0 := by
  pointwise [k0_pay14, k0_pay12, k0_pay9, k0_pay10, k0_pay11, k0_pay3, k0_pay5]
  congr 1
  refine Finset.sum_congr rfl fun j _ => ?_
  refine Eq.trans ?_ (sel (BitVec.ofNat 32 c + baseW x0) x0 bw _)
  rw [← weight _ _ _ j (by omega)]
  rfl

/-- The crop's test at a pixel. -/
theorem crop_at (y0 x0 y2 x2 p q : BitVec 32) (r c : Fin 256) :
    k0_pay13 (F := Ideal) y0 x0 y2 x2 p q (ix2 r c)
      = IntOp.andi (IntOp.andi (IntOp.andi (IntOp.cmpi .sge (BitVec.ofNat 32 r + p) y0) (IntOp.cmpi .slt (BitVec.ofNat 32 r + p) y2))
          (IntOp.cmpi .sge (BitVec.ofNat 32 c + q) x0)) (IntOp.cmpi .slt (BitVec.ofNat 32 c + q) x2) := by
  pointwise [k0_pay13]
  rfl

/-- The strip at a pixel. -/
theorem strip_at (y0 x0 bh bw y2 x2 : BitVec 32) (mb : Vec Ideal S1x128x128 .f32) (g : Vec Ideal S1x256x256 .f32) (r c : Fin 256) (M : ℕ → ℕ → EReal)
    (hM : ∀ i j : Fin 128, mb (ix3 0 i j) = M i j) :
    strip (F := Ideal) y0 x0 bh bw y2 x2 mb g (ix3 0 r c)
      = pasted (BitVec.ofNat 32 r + baseW y0) y0 bh (BitVec.ofNat 32 c + baseW x0) x0 bw M
        + Scalar.select (IntOp.andi (IntOp.andi (IntOp.andi (IntOp.cmpi .sge (BitVec.ofNat 32 r + baseW y0) y0) (IntOp.cmpi .slt (BitVec.ofNat 32 r + baseW y0) y2))
          (IntOp.cmpi .sge (BitVec.ofNat 32 c + baseW x0) x0)) (IntOp.cmpi .slt (BitVec.ofNat 32 c + baseW x0) x2)) (g (ix3 0 r c)) 0 := by
  unfold strip
  refine (pays_at x0 bw _ mb _ g r c).trans ?_
  rw [crop_at]
  congr 1
  refine Eq.trans ?_ (pasted_sum (BitVec.ofNat 32 r + baseW y0) y0 bh (BitVec.ofNat 32 c + baseW x0) x0 bw M)
  refine Finset.sum_congr rfl fun j _ => ?_
  congr 2
  refine Finset.sum_congr rfl fun i _ => ?_
  rw [hM]
  exact congrArg (· * M i j) (rows_at y0 bh r i)

end Cert.KernelIdeal.Hand

end
-- ==== Proof.Refer.lean ====
/- The reference's result at an index: a plane of the input, or an instance's pasted mask and cropped class plane, over the extended reals. -/
module

public import proofs.«01_k».proof.Proof.Place
public import proofs.«01_k».proof.Proof.Gen.ReferenceIdeal.Run

@[expose] public section

set_option maxRecDepth 16384

noncomputable section

namespace Cert.ReferenceIdeal.Value

open Cert.ReferenceIdeal Cert.ReferenceIdeal.Gen
open Idealize.ShloMosaic
open Cert.Paste

/-- The gather of mask rows, read at an index. -/
theorem gather_rows {α : Type} (x : S64x100x100.Idx → α) (idx : IVec S64x512x1 32) (b : Fin 64) (p : Fin 512) (j : Fin 100) :
    Host.gather gather_S64x100x100_S64x512x1_S64x512x100_2_1_0_0_1_2_11100 x idx (ix3 b p j)
      = x (ix3 b ⟨min (idx (ix3 b p 0)).toInt.toNat 99, by omega⟩ j) := by
  unfold Host.gather
  refine congrArg x (funext fun a => ?_)
  match a with
  | ⟨0, _⟩ => exact Fin.ext (by show 0 + (b : ℕ) + 0 = b; omega)
  | ⟨1, _⟩ =>
    refine Fin.ext (congrArg (fun w : BitVec 32 => min w.toInt.toNat 99) (congrArg idx (funext fun b => ?_)))
    match b with
    | ⟨0, _⟩ => rfl
    | ⟨1, _⟩ => rfl
    | ⟨2, _⟩ => rfl
  | ⟨2, _⟩ => exact Fin.ext (by show 0 + 0 + (j : ℕ) = j; omega)

/-- The gather of mask columns, read at an index. -/
theorem gather_cols {α : Type} (x : S64x512x100.Idx → α) (idx : IVec S64x512x1 32) (b : Fin 64) (p q : Fin 512) :
    Host.gather gather_S64x512x100_S64x512x1_S64x512x512_1_2_0_0_2_2_15121 x idx (ix3 b p q)
      = x (ix3 b p ⟨min (idx (ix3 b q 0)).toInt.toNat 99, by omega⟩) := by
  unfold Host.gather
  refine congrArg x (funext fun a => ?_)
  match a with
  | ⟨0, _⟩ => exact Fin.ext (by show 0 + (b : ℕ) + 0 = b; omega)
  | ⟨1, _⟩ => exact Fin.ext (by show 0 + 0 + (p : ℕ) = p; omega)
  | ⟨2, _⟩ =>
    refine Fin.ext (congrArg (fun w : BitVec 32 => min w.toInt.toNat 99) (congrArg idx (funext fun b => ?_)))
    match b with
    | ⟨0, _⟩ => rfl
    | ⟨1, _⟩ => rfl
    | ⟨2, _⟩ => rfl

/-- The gather of class planes, read at an index. -/
theorem gather_planes {α : Type} (x : S80x512x512.Idx → α) (idx : IVec S64x1 32) (b : Fin 64) (p q : Fin 512) :
    Host.gather gather_S80x512x512_S64x1_S64x512x512_12_0_n_n_0_1_1512512 x idx (ix3 b p q)
      = x (ix3 ⟨min (idx (ix2 b 0)).toInt.toNat 79, by omega⟩ p q) := by
  unfold Host.gather
  refine congrArg x (funext fun a => ?_)
  match a with
  | ⟨0, _⟩ =>
    refine Fin.ext (congrArg (fun w : BitVec 32 => min w.toInt.toNat 79) (congrArg idx (funext fun b => ?_)))
    match b with
    | ⟨0, _⟩ => rfl
    | ⟨1, _⟩ => rfl
  | ⟨1, _⟩ => exact Fin.ext (by show 0 + 0 + (p : ℕ) = p; omega)
  | ⟨2, _⟩ => exact Fin.ext (by show 0 + 0 + (q : ℕ) = q; omega)

theorem small_all : ∀ f : Fin 100, IntOp.minsi (IntOp.addi (BitVec.ofNat 32 f) 1#32) 99#32 = BitVec.ofNat 32 (nxt f)
    ∧ Scalar.select (IntOp.cmpi .slt (BitVec.ofNat 32 f) 0#32) (IntOp.addi (BitVec.ofNat 32 f) 100#32) (BitVec.ofNat 32 f) = BitVec.ofNat 32 f
    ∧ (BitVec.ofNat 32 f).toInt.toNat = f := by
  decide +kernel

/-- The next line's word, the wrapped word and the word's number, for a line of the mask. -/
theorem small (f : ℕ) (hf : f ≤ 99) : IntOp.minsi (IntOp.addi (BitVec.ofNat 32 f) 1#32) 99#32 = BitVec.ofNat 32 (nxt f)
    ∧ Scalar.select (IntOp.cmpi .slt (BitVec.ofNat 32 f) 0#32) (IntOp.addi (BitVec.ofNat 32 f) 100#32) (BitVec.ofNat 32 f) = BitVec.ofNat 32 f
    ∧ (BitVec.ofNat 32 f).toInt.toNat = f :=
  small_all ⟨f, by omega⟩

/-- A wrapped table of lines, read at an index. -/
theorem wrapped_at (f : IVec S64x512 32) (k : Fin 64) (p : Fin 512) (n : ℕ) (hn : n ≤ 99) (e : f (ix2 k p) = BitVec.ofNat 32 n) :
    min ((broadcastInDim S64x512x1 ![0, 1] bcast_S64x512_S64x512x1_0_1 (select (cmpi .slt f (broadcastInDim S64x512 ![] bcast_S_S64x512 (constantI S_ 32 0#32))) (addi f (broadcastInDim S64x512 ![] bcast_S_S64x512 (constantI S_ 32 100#32))) f)) (ix3 k p 0)).toInt.toNat 99 = n := by
  pointwise
  rw [e, (small n hn).2.1, (small n hn).2.2]
  exact min_eq_left hn

variable (V0 : Valuation τ sig (Elt Ideal))

/-- An instance's first row, its number of rows, its first column, its number of columns. -/
abbrev yw (k : Fin 64) : BitVec 32 := res_main_v8 V0 (ix1 k)
abbrev yn (k : Fin 64) : BitVec 32 := res_main_v20 V0 (ix1 k)
abbrev xw (k : Fin 64) : BitVec 32 := res_main_v5 V0 (ix1 k)
abbrev xn (k : Fin 64) : BitVec 32 := res_main_v17 V0 (ix1 k)

theorem v56_at (k : Fin 64) (p : Fin 512) : res_main_v56 V0 (ix2 k p) = place (BitVec.ofNat 32 p) (yw V0 k) (yn V0 k) := by
  unfold res_main_v56
  pointwise [id]
  rfl

theorem v57_at (k : Fin 64) (p : Fin 512) : res_main_v57 V0 (ix2 k p) = place (BitVec.ofNat 32 p) (xw V0 k) (xn V0 k) := by
  unfold res_main_v57
  pointwise [id]
  rfl

theorem v60_at (k : Fin 64) (p : Fin 512) : res_main_v60 V0 (ix2 k p) = BitVec.ofNat 32 (ln (BitVec.ofNat 32 p) (yw V0 k) (yn V0 k)) := by
  unfold res_main_v60 res_main_v58
  pointwise
  rw [v56_at, floor_eq]
  exact index_place _ (ln_le _ _ _)

theorem v65_at (k : Fin 64) (p : Fin 512) : res_main_v65 V0 (ix2 k p) = BitVec.ofNat 32 (ln (BitVec.ofNat 32 p) (xw V0 k) (xn V0 k)) := by
  unfold res_main_v65 res_main_v59
  pointwise
  rw [v57_at, floor_eq]
  exact index_place _ (ln_le _ _ _)

theorem v64_at (k : Fin 64) (p : Fin 512) : res_main_v64 V0 (ix2 k p) = BitVec.ofNat 32 (nxt (ln (BitVec.ofNat 32 p) (yw V0 k) (yn V0 k))) := by
  unfold res_main_v64
  pointwise
  rw [v60_at]
  exact (small _ (ln_le _ _ _)).1

theorem v69_at (k : Fin 64) (p : Fin 512) : res_main_v69 V0 (ix2 k p) = BitVec.ofNat 32 (nxt (ln (BitVec.ofNat 32 p) (xw V0 k) (xn V0 k))) := by
  unfold res_main_v69
  pointwise
  rw [v65_at]
  exact (small _ (ln_le _ _ _)).1

theorem v70_at (k : Fin 64) (p : Fin 512) : res_main_v70 V0 (ix2 k p) = (fr (BitVec.ofNat 32 p) (yw V0 k) (yn V0 k) : EReal) := by
  unfold res_main_v70 res_main_v58
  pointwise
  rw [v56_at, floor_eq]
  exact frac_eq _ _ _

theorem v71_at (k : Fin 64) (p : Fin 512) : res_main_v71 V0 (ix2 k p) = (fr (BitVec.ofNat 32 p) (xw V0 k) (xn V0 k) : EReal) := by
  unfold res_main_v71 res_main_v59
  pointwise
  rw [v57_at, floor_eq]
  exact frac_eq _ _ _

/-- An instance's mask by row and column, zero outside it. -/
def mk (A : S64x1x100x100.Idx → EReal) (k : Fin 64) (i j : ℕ) : EReal :=
  if h : i < 100 ∧ j < 100 then A (ix4 k 0 ⟨i, h.1⟩ ⟨j, h.2⟩) else 0

theorem v21_at (k : Fin 64) (i j : Fin 100) : res_main_v21 V0 (ix3 k i j) = mk (V0 (Proc.devRef .tc main_arg1)) k i j := by
  unfold res_main_v21 mk
  rw [dif_pos ⟨i.isLt, j.isLt⟩]
  pointwise

theorem v78_at (k : Fin 64) (p : Fin 512) (j : Fin 100) : res_main_v78 V0 (ix3 k p j) = mk (V0 (Proc.devRef .tc main_arg1)) k (ln (BitVec.ofNat 32 p) (yw V0 k) (yn V0 k)) j := by
  unfold res_main_v78
  refine (gather_rows _ _ k p j).trans ((v21_at V0 k _ j).trans ?_)
  exact congrArg (fun i => mk (V0 (Proc.devRef .tc main_arg1)) k i j) (wrapped_at _ k p _ (ln_le _ _ _) (v60_at V0 k p))

theorem v85_at (k : Fin 64) (p : Fin 512) (j : Fin 100) : res_main_v85 V0 (ix3 k p j) = mk (V0 (Proc.devRef .tc main_arg1)) k (nxt (ln (BitVec.ofNat 32 p) (yw V0 k) (yn V0 k))) j := by
  unfold res_main_v85
  refine (gather_rows _ _ k p j).trans ((v21_at V0 k _ j).trans ?_)
  exact congrArg (fun i => mk (V0 (Proc.devRef .tc main_arg1)) k i j) (wrapped_at _ k p _ (nxt_le _) (v64_at V0 k p))

/-- The words' test that a line lies in the box, when the box's end does not overflow. -/
theorem within (w v n w' v' n' : BitVec 32) (a b : EReal) (h : (v + n - 1#32).toInt = v.toInt + n.toInt - 1) (h' : (v' + n' - 1#32).toInt = v'.toInt + n'.toInt - 1) :
    Scalar.select (IntOp.andi (IntOp.andi (IntOp.cmpi .sge w v) (IntOp.cmpi .sle w (IntOp.subi (IntOp.addi v n) 1#32)))
      (IntOp.andi (IntOp.cmpi .sge w' v') (IntOp.cmpi .sle w' (IntOp.subi (IntOp.addi v' n') 1#32)))) a b
      = open Classical in if inside w v n ∧ inside w' v' n' then a else b := by
  have e1 : IntOp.cmpi .sge w v = BitVec.ofBool (decide (v.toInt ≤ w.toInt)) := rfl
  have e2 : IntOp.cmpi .sle w (IntOp.subi (IntOp.addi v n) 1#32) = BitVec.ofBool (decide (w.toInt ≤ v.toInt + n.toInt - 1)) := by rw [← h]; rfl
  have e3 : IntOp.cmpi .sge w' v' = BitVec.ofBool (decide (v'.toInt ≤ w'.toInt)) := rfl
  have e4 : IntOp.cmpi .sle w' (IntOp.subi (IntOp.addi v' n') 1#32) = BitVec.ofBool (decide (w'.toInt ≤ v'.toInt + n'.toInt - 1)) := by rw [← h']; rfl
  rw [e1, e2, e3, e4]
  unfold inside
  by_cases h1 : v.toInt ≤ w.toInt <;> by_cases h2 : w.toInt ≤ v.toInt + n.toInt - 1 <;> by_cases h3 : v'.toInt ≤ w'.toInt <;> by_cases h4 : w'.toInt ≤ v'.toInt + n'.toInt - 1 <;>
    simp [h1, h2, h3, h4, Scalar.select, IntOp.andi]

/-- The reference's pasted masks at an index. -/
theorem v184_at (k : Fin 64) (p q : Fin 512) (hy : (yw V0 k + yn V0 k - 1#32).toInt = (yw V0 k).toInt + (yn V0 k).toInt - 1)
    (hx : (xw V0 k + xn V0 k - 1#32).toInt = (xw V0 k).toInt + (xn V0 k).toInt - 1) :
    res_main_v184 V0 (ix3 k p q) = pasted (BitVec.ofNat 32 p) (yw V0 k) (yn V0 k) (BitVec.ofNat 32 q) (xw V0 k) (xn V0 k) (mk (V0 (Proc.devRef .tc main_arg1)) k) := by
  unfold res_main_v184
  generalize h00 : Host.gather _ (res_main_v78 V0) _ = g00
  generalize h01 : Host.gather _ (res_main_v78 V0) _ = g01
  generalize h10 : Host.gather _ (res_main_v85 V0) _ = g10
  generalize h11 : Host.gather _ (res_main_v85 V0) _ = g11
  have e00 : g00 (ix3 k p q) = mk (V0 (Proc.devRef .tc main_arg1)) k (ln (BitVec.ofNat 32 p) (yw V0 k) (yn V0 k)) (ln (BitVec.ofNat 32 q) (xw V0 k) (xn V0 k)) := by
    rw [← h00]
    exact (gather_cols _ _ k p q).trans ((v78_at V0 k p _).trans (congrArg (mk (V0 (Proc.devRef .tc main_arg1)) k _) (wrapped_at _ k q _ (ln_le _ _ _) (v65_at V0 k q))))
  have e01 : g01 (ix3 k p q) = mk (V0 (Proc.devRef .tc main_arg1)) k (ln (BitVec.ofNat 32 p) (yw V0 k) (yn V0 k)) (nxt (ln (BitVec.ofNat 32 q) (xw V0 k) (xn V0 k))) := by
    rw [← h01]
    exact (gather_cols _ _ k p q).trans ((v78_at V0 k p _).trans (congrArg (mk (V0 (Proc.devRef .tc main_arg1)) k _) (wrapped_at _ k q _ (nxt_le _) (v69_at V0 k q))))
  have e10 : g10 (ix3 k p q) = mk (V0 (Proc.devRef .tc main_arg1)) k (nxt (ln (BitVec.ofNat 32 p) (yw V0 k) (yn V0 k))) (ln (BitVec.ofNat 32 q) (xw V0 k) (xn V0 k)) := by
    rw [← h10]
    exact (gather_cols _ _ k p q).trans ((v85_at V0 k p _).trans (congrArg (mk (V0 (Proc.devRef .tc main_arg1)) k _) (wrapped_at _ k q _ (ln_le _ _ _) (v65_at V0 k q))))
  have e11 : g11 (ix3 k p q) = mk (V0 (Proc.devRef .tc main_arg1)) k (nxt (ln (BitVec.ofNat 32 p) (yw V0 k) (yn V0 k))) (nxt (ln (BitVec.ofNat 32 q) (xw V0 k) (xn V0 k))) := by
    rw [← h11]
    exact (gather_cols _ _ k p q).trans ((v85_at V0 k p _).trans (congrArg (mk (V0 (Proc.devRef .tc main_arg1)) k _) (wrapped_at _ k q _ (nxt_le _) (v69_at V0 k q))))
  clear h00 h01 h10 h11
  pointwise [id]
  rw [e00, e01, e10, e11, v70_at, v71_at]
  exact within (BitVec.ofNat 32 p) (yw V0 k) (yn V0 k) (BitVec.ofNat 32 q) (xw V0 k) (xn V0 k) _ _ hy hx

theorem foldl_ones {ι : Type} (l : List ι) (f : ι → BitVec 1) (hf : ∀ n ∈ l, f n = 1#1) : l.foldl (fun r n => IntOp.andi r (f n)) 1#1 = 1#1 := by
  induction l with
  | nil => rfl
  | cons a l ih =>
    rw [List.foldl_cons, hf a (List.mem_cons_self ..)]
    exact ih fun n hn => hf n (List.mem_cons_of_mem _ hn)

/-- The conjunction along an axis of one entry is true when that entry is. -/
theorem reduce_one (x : S64x1.Idx → BitVec 1) (k : Fin 64) (hx : x (ix2 k 0) = 1#1) :
    Host.reduce IntOp.andi x (constantI S_ 1 1#1) reducesTo_S64x1_S64_d1 h_S_ (ix1 k) = 1#1 := by
  refine foldl_ones _ _ fun n hn => ?_
  have e := of_decide_eq_true (List.mem_filter.1 hn).2
  generalize S64x1.rowMajor.symm n = i at e ⊢
  have h0 : i 0 = k := congrFun e 0
  have : i = ix2 k 0 := by
    funext a
    match a with
    | ⟨0, _⟩ => exact h0
    | ⟨1, _⟩ => exact Subsingleton.elim (α := Fin 1) _ _
  rw [this]; exact hx

/-- An instance's class word is read as it is when it names a class. -/
theorem class_at (k : Fin 64) (h : 0 ≤ (V0 (Proc.devRef .tc main_arg3) (ix1 k) : BitVec 32).toInt) :
    res_main_call5_v5 V0 (ix2 k 0) = V0 (Proc.devRef .tc main_arg3) (ix1 k) := by
  unfold res_main_call5_v5
  pointwise
  have e : IntOp.cmpi .slt (V0 (Proc.devRef .tc main_arg3) (ix1 k) : BitVec 32) 0#32 = 0#1 := by
    show BitVec.ofBool (decide (_ < _)) = _
    rw [decide_eq_false (not_lt.2 (by show (0 : ℤ) ≤ _; exact h))]; rfl
  rw [e]; rfl

theorem v205_at (p : Fin 512) : res_main_v205 V0 (ix3 0 p 0) = BitVec.ofNat 32 p := by
  unfold res_main_v205
  pointwise
theorem v207_at (q : Fin 512) : res_main_v207 V0 (ix3 0 0 q) = BitVec.ofNat 32 q := by
  unfold res_main_v207
  pointwise
/-- The words of an instance's box. -/
theorem yw_eq (k : Fin 64) : yw V0 k = Ideal.fptosi 32 (V0 (Proc.devRef .tc main_arg2) (ix2 k 1)) := by
  unfold yw res_main_v8
  pointwise
  rfl
theorem xw_eq (k : Fin 64) : xw V0 k = Ideal.fptosi 32 (V0 (Proc.devRef .tc main_arg2) (ix2 k 0)) := by
  unfold xw res_main_v5
  pointwise
  rfl
theorem yn_eq (k : Fin 64) : yn V0 k = Ideal.fptosi 32 (V0 (Proc.devRef .tc main_arg2) (ix2 k 3)) - yw V0 k + 1#32 := by
  unfold yn res_main_v20
  pointwise
  rfl
theorem xn_eq (k : Fin 64) : xn V0 k = Ideal.fptosi 32 (V0 (Proc.devRef .tc main_arg2) (ix2 k 2)) - xw V0 k + 1#32 := by
  unfold xn res_main_v17
  pointwise
  rfl

/-- The first planes are the input's. -/
theorem out_low (a : Fin 53) (p q : Fin 512) : val5 V0 (Proc.devRef .tc main_v234) (ix3 ⟨a, by omega⟩ p q) = V0 (Proc.devRef .tc main_arg0) (ix4 0 ⟨a, by omega⟩ p q) := by
  rw [val5_main_v234]
  generalize h00 : Host.gather _ _ _ = g00
  generalize h01 : Host.reduce _ _ _ _ _ = g01
  pointwise [id]

/-- An instance's plane: its pasted mask and its cropped class plane. -/
theorem out_high (k : Fin 64) (p q : Fin 512) (hy : (yw V0 k + yn V0 k - 1#32).toInt = (yw V0 k).toInt + (yn V0 k).toInt - 1)
    (hx : (xw V0 k + xn V0 k - 1#32).toInt = (xw V0 k).toInt + (xn V0 k).toInt - 1) (cl : ℕ) (hcl : cl < 80)
    (e : (V0 (Proc.devRef .tc main_arg3) (ix1 k) : BitVec 32).toInt = cl) :
    val5 V0 (Proc.devRef .tc main_v234) (ix3 ⟨k + 53, by omega⟩ p q)
      = pasted (BitVec.ofNat 32 p) (yw V0 k) (yn V0 k) (BitVec.ofNat 32 q) (xw V0 k) (xn V0 k) (mk (V0 (Proc.devRef .tc main_arg1)) k)
        + Scalar.select (IntOp.andi (IntOp.andi (IntOp.andi (IntOp.cmpi .sge (BitVec.ofNat 32 p) (yw V0 k))
            (IntOp.cmpi .slt (BitVec.ofNat 32 p) (Ideal.fptosi 32 (Ideal.liftRound Ideal.roundHalfEven (V0 (Proc.devRef .tc main_arg2) (ix2 k 3))) + 1#32)))
            (IntOp.cmpi .sge (BitVec.ofNat 32 q) (xw V0 k)))
            (IntOp.cmpi .slt (BitVec.ofNat 32 q) (Ideal.fptosi 32 (Ideal.liftRound Ideal.roundHalfEven (V0 (Proc.devRef .tc main_arg2) (ix2 k 2))) + 1#32)))
          (V0 (Proc.devRef .tc main_arg0) (ix4 0 ⟨53 + cl, by omega⟩ p q) : EReal) (0 : EReal) := by
  rw [val5_main_v234]
  have ec : res_main_call5_v5 V0 (ix2 k 0) = V0 (Proc.devRef .tc main_arg3) (ix1 k) := class_at V0 k (by omega)
  generalize h00 : Host.gather _ _ _ = g00
  generalize h01 : Host.reduce _ _ _ _ _ = g01
  have e00 : g00 (ix3 k p q) = V0 (Proc.devRef .tc main_arg0) (ix4 0 ⟨53 + cl, by omega⟩ p q) := by
    rw [← h00]
    refine (gather_planes _ _ k p q).trans ?_
    have en : (⟨min (res_main_call5_v5 V0 (ix2 k 0) : BitVec 32).toInt.toNat 79, by omega⟩ : Fin 80) = ⟨cl, hcl⟩ := Fin.ext (by
      show min (res_main_call5_v5 V0 (ix2 k 0) : BitVec 32).toInt.toNat 79 = cl
      rw [ec, e]; omega)
    rw [en]
    pointwise
  have e01 : g01 (ix1 k) = 1#1 := by
    rw [← h01]
    refine reduce_one _ k ?_
    pointwise
    rw [ec]
    have e1 : IntOp.cmpi .sge (V0 (Proc.devRef .tc main_arg3) (ix1 k) : BitVec 32) 0#32 = 1#1 := by
      show BitVec.ofBool (decide ((0#32 : BitVec 32).toInt ≤ _)) = _
      rw [decide_eq_true (by rw [e]; show (0 : ℤ) ≤ _; omega)]; rfl
    have e2 : IntOp.cmpi .sle (V0 (Proc.devRef .tc main_arg3) (ix1 k) : BitVec 32) 79#32 = 1#1 := by
      show BitVec.ofBool (decide (_ ≤ (79#32 : BitVec 32).toInt)) = _
      rw [decide_eq_true (by rw [e]; show _ ≤ (79 : ℤ); omega)]; rfl
    rw [e1, e2]; rfl
  clear h00 h01
  pointwise [id]
  rw [dif_neg (by omega)]
  have ek : (⟨(k : ℕ) + 53 - 53, by omega⟩ : Fin 64) = k := Fin.ext (by show (k : ℕ) + 53 - 53 = k; omega)
  rw [ek, v184_at V0 k p q hy hx, e00, e01, v205_at, v207_at]
  have ey : (FloatOps.fptosi (F := Ideal) (φ := .f32) 32 (V0 (Proc.devRef .tc main_arg2) (ix2 k 1)) : BitVec 32) = yw V0 k := (yw_eq V0 k).symm
  have ex : (FloatOps.fptosi (F := Ideal) (φ := .f32) 32 (V0 (Proc.devRef .tc main_arg2) (ix2 k 0)) : BitVec 32) = xw V0 k := (xw_eq V0 k).symm
  rw [ey, ex]
  rfl

end Cert.ReferenceIdeal.Value

end
-- ==== Proof.Equal.lean ====
/- The kernel's result and the reference's result are one function of the arguments, over the extended reals. -/
module

public import proofs.«01_k».proof.Proof.Strip
public import proofs.«01_k».proof.Proof.Refer
public import proofs.«01_k».proof.Proof.Range

@[expose] public section

set_option maxRecDepth 16384

noncomputable section

namespace Cert.KernelIdeal.Hand

open Cert.KernelIdeal Cert.KernelIdeal.Gen
open Idealize.ShloMosaic
open Cert.Paste

theorem baseW_all : ∀ j : Fin 431, baseW (BitVec.ofNat 32 j) = BitVec.ofNat 32 (hbf (BitVec.ofNat 32 j)) := by decide +kernel
/-- The base word is the base. -/
theorem baseW_eq (v : BitVec 32) (hv : v.toNat ≤ 430) : baseW v = BitVec.ofNat 32 (hbf v) :=
  word_all (P := fun v => baseW v = BitVec.ofNat 32 (hbf v)) baseW_all v hv

/-- The padded masks of the instances. -/
def masks (A1 : S64x1x100x100.Idx → EReal) (k : ℕ) : Vec Ideal S1x128x128 .f32 := fun y =>
  (pad S64x128x128 ![0, 0, 0] ![0, 28, 28] ![0, 0, 0] (shapeCast S64x100x100 A1 shapeCasts_S64x1x100x100_S64x100x100) (sitofp (F := Ideal) .f32 (constantI S_ 32 0#32)) pads_S64x100x100_S64x128x128_000_0280_0280 h_S_ : S64x128x128.Idx → EReal)
    (fun | 0 => ⟨k % 64, Nat.mod_lt _ (by decide)⟩ | 1 => ⟨(y 1 : ℕ) % 128, Nat.mod_lt _ (by decide)⟩ | 2 => ⟨(y 2 : ℕ) % 128, Nat.mod_lt _ (by decide)⟩)

theorem masks_at (A1 : S64x1x100x100.Idx → EReal) (k : Fin 64) (i j : Fin 128) : masks A1 k (ix3 0 i j) = Cert.ReferenceIdeal.Value.mk A1 k i j := by
  unfold masks
  have e : (fun | 0 => ⟨(k : ℕ) % 64, Nat.mod_lt _ (by decide)⟩ | 1 => ⟨((ix3 0 i j : S1x128x128.Idx) 1 : ℕ) % 128, Nat.mod_lt _ (by decide)⟩ | 2 => ⟨((ix3 0 i j : S1x128x128.Idx) 2 : ℕ) % 128, Nat.mod_lt _ (by decide)⟩ : S64x128x128.Idx) = ix3 k i j := by
    funext a
    match a with
    | ⟨0, _⟩ => exact Fin.ext (Nat.mod_eq_of_lt k.isLt)
    | ⟨1, _⟩ => exact Fin.ext (Nat.mod_eq_of_lt i.isLt)
    | ⟨2, _⟩ => exact Fin.ext (Nat.mod_eq_of_lt j.isLt)
  refine (congrArg _ e).trans ?_
  unfold Cert.ReferenceIdeal.Value.mk
  have z : (FloatOps.sitofp (F := Ideal) .f32 (0#32 : BitVec 32) : EReal) = 0 := by
    show (((0#32 : BitVec 32).toInt : ℝ) : EReal) = 0
    rw [show (0#32 : BitVec 32).toInt = 0 by decide]; norm_num
  pointwise
  rw [z]

variable (B : S64x4.Idx → EReal) (C : S64.Idx → BitVec 32)

theorem kx_eq (k : Fin 64) : kx k = ix1 k := by
  funext a
  match a with
  | ⟨0, _⟩ => exact Fin.ext (Nat.mod_eq_of_lt k.isLt)

theorem y0w_eq (k : Fin 64) : y0w (F := Ideal) B k = Ideal.fptosi 32 (B (ix2 k 1)) := by
  unfold y0w col; rw [kx_eq]; pointwise; rfl
theorem x0w_eq (k : Fin 64) : x0w (F := Ideal) B k = Ideal.fptosi 32 (B (ix2 k 0)) := by
  unfold x0w col; rw [kx_eq]; pointwise; rfl
theorem y1w_eq (k : Fin 64) : y1w (F := Ideal) B k = Ideal.fptosi 32 (B (ix2 k 3)) := by
  unfold y1w col; rw [kx_eq]; pointwise; rfl
theorem x1w_eq (k : Fin 64) : x1w (F := Ideal) B k = Ideal.fptosi 32 (B (ix2 k 2)) := by
  unfold x1w col; rw [kx_eq]; pointwise; rfl
theorem ryw_eq (k : Fin 64) : ryw (F := Ideal) B k = Ideal.fptosi 32 (Ideal.liftRound Ideal.roundHalfEven (B (ix2 k 3))) := by
  unfold ryw col; rw [kx_eq]; pointwise; rfl
theorem rxw_eq (k : Fin 64) : rxw (F := Ideal) B k = Ideal.fptosi 32 (Ideal.liftRound Ideal.roundHalfEven (B (ix2 k 2))) := by
  unfold rxw col; rw [kx_eq]; pointwise; rfl

theorem len_toInt (a b : BitVec 32) (h0 : 0 ≤ b.toInt) (h1 : b.toInt ≤ a.toInt) (h2 : a.toInt ≤ b.toInt + 80) : (a - b + 1#32).toInt = a.toInt - b.toInt + 1 := by
  have e : (1#32 : BitVec 32).toInt = 1 := by decide
  have e1 : (a - b).toInt = a.toInt - b.toInt := WordArith.toInt_sub_of_bounds _ _ (by omega) (by omega)
  rw [WordArith.toInt_add_of_bounds _ _ (by rw [e, e1]; omega) (by rw [e, e1]; omega), e, e1]

theorem end_toInt (b n : BitVec 32) (h0 : 0 ≤ b.toInt) (h0' : b.toInt < 431) (h1 : 1 ≤ n.toInt) (h2 : n.toInt ≤ 81) : (b + n - 1#32).toInt = b.toInt + n.toInt - 1 := by
  have e : (1#32 : BitVec 32).toInt = 1 := by decide
  have e1 : (b + n).toInt = b.toInt + n.toInt := WordArith.toInt_add_of_bounds _ _ (by omega) (by omega)
  rw [WordArith.toInt_sub_of_bounds _ _ (by rw [e, e1]; omega) (by rw [e, e1]; omega), e, e1]

theorem add1_toInt (a : BitVec 32) (h : a.toInt ≤ 510) : (a + 1#32).toInt = a.toInt + 1 := by
  have e : (1#32 : BitVec 32).toInt = 1 := by decide
  have := BitVec.le_toInt a
  rw [WordArith.toInt_add_of_bounds _ _ (by rw [e]; omega) (by rw [e]; omega), e]

/-- A line outside the strip is outside the box and outside the crop. -/
theorem outside (p : ℕ) (hp : p < 512) (y n e : BitVec 32) (h0 : 0 ≤ y.toInt) (h0' : y.toInt < 431) (h2 : n.toInt ≤ 81) (he : e.toInt ≤ y.toInt + 81)
    (h : ¬ (hbf y ≤ p ∧ p < hbf y + 256)) :
    ¬ inside (BitVec.ofNat 32 p) y n ∧ (IntOp.cmpi .sge (BitVec.ofNat 32 p) y = 1#1 → ¬ IntOp.cmpi .slt (BitVec.ofNat 32 p) e = 1#1) := by
  have ep := WordArith.toInt_ofNat_small p (by omega)
  have ey := toNat_of_toInt h0
  unfold inside
  rw [sge_one, slt_one, ep]
  unfold hbf at h
  constructor
  · rintro ⟨a, b⟩; omega
  · intro a b; omega

theorem not_one (b : BitVec 1) (h : ¬ b = 1#1) : b = 0#1 := by revert h; revert b; decide

/-- The two results are equal. -/
theorem equal (V0 : Valuation Cert.ReferenceIdeal.τ Cert.ReferenceIdeal.sig (Elt Ideal)) (A0 : S1x133x512x512.Idx → EReal) (A1 : S64x1x100x100.Idx → EReal)
    (h0 : V0 (Proc.devRef .tc Cert.ReferenceIdeal.main_arg0) = A0) (h1 : V0 (Proc.devRef .tc Cert.ReferenceIdeal.main_arg1) = A1)
    (h2 : V0 (Proc.devRef .tc Cert.ReferenceIdeal.main_arg2) = B) (h3 : V0 (Proc.devRef .tc Cert.ReferenceIdeal.main_arg3) = C)
    (hr : ∀ k, InRange (F := Ideal) B C k) :
    OUT (F := Ideal) (table (F := Ideal) B C) (shapeCast S133x512x512 A0 shapeCasts_S1x133x512x512_S133x512x512) (masks A1)
      = Cert.ReferenceIdeal.Value.val5 V0 (Proc.devRef .tc Cert.ReferenceIdeal.main_v234) := by
  refine funext fun (i : S117x512x512.Idx) => ?_
  obtain ⟨a, p, q, rfl⟩ : ∃ (a : Fin 117) (p q : Fin 512), i = ix3 a p q := ⟨i 0, i 1, i 2, eq_ix3 i⟩
  have hs : ∀ (n : ℕ) (hn : n < 133), (shapeCast S133x512x512 A0 shapeCasts_S1x133x512x512_S133x512x512 : S133x512x512.Idx → EReal) (sx n p q) = A0 (ix4 0 ⟨n, hn⟩ p q) := by
    intro n hn
    have e : sx n p q = ix3 ⟨n, hn⟩ p q := by
      funext a
      match a with
      | ⟨0, _⟩ => exact Fin.ext (Nat.mod_eq_of_lt hn)
      | ⟨1, _⟩ => exact Fin.ext (Nat.mod_eq_of_lt p.isLt)
      | ⟨2, _⟩ => exact Fin.ext (Nat.mod_eq_of_lt q.isLt)
    rw [e]
    pointwise
  by_cases ha : (a : ℕ) < 53
  · refine Eq.trans ?_ (Cert.ReferenceIdeal.Value.out_low V0 ⟨a, ha⟩ p q).symm
    rw [h0]
    unfold OUT
    exact (if_pos ha).trans (hs a (by omega))
  · obtain ⟨k, rfl⟩ : ∃ k : Fin 64, a = ⟨k + 53, by have := k.isLt; clear ha; clear * - this; omega⟩ := ⟨⟨a - 53, by omega⟩, Fin.ext (by show (a : ℕ) = a - 53 + 53; omega)⟩
    have r := hr k
    have ey : Cert.ReferenceIdeal.Value.yw V0 k = y0w (F := Ideal) B k := by rw [Cert.ReferenceIdeal.Value.yw_eq, h2, y0w_eq]
    have ex : Cert.ReferenceIdeal.Value.xw V0 k = x0w (F := Ideal) B k := by rw [Cert.ReferenceIdeal.Value.xw_eq, h2, x0w_eq]
    have en : Cert.ReferenceIdeal.Value.yn V0 k = y1w (F := Ideal) B k - y0w (F := Ideal) B k + 1#32 := by rw [Cert.ReferenceIdeal.Value.yn_eq, ey, h2, y1w_eq]
    have em : Cert.ReferenceIdeal.Value.xn V0 k = x1w (F := Ideal) B k - x0w (F := Ideal) B k + 1#32 := by rw [Cert.ReferenceIdeal.Value.xn_eq, ex, h2, x1w_eq]
    have ln := len_toInt _ _ r.y0.1 r.y1.1 r.y1.2
    have lm := len_toInt _ _ r.x0.1 r.x1.1 r.x1.2
    have hy1 := r.y1
    have hx1 := r.x1
    have hen := end_toInt (y0w (F := Ideal) B k) _ r.y0.1 r.y0.2 (by rw [ln]; omega) (by rw [ln]; omega)
    have hem := end_toInt (x0w (F := Ideal) B k) _ r.x0.1 r.x0.2 (by rw [lm]; omega) (by rw [lm]; omega)
    have ec := toNat_of_toInt r.cl.1
    have hcl := r.cl
    have hck : (clw (F := Ideal) C k) = C (ix1 k) := by unfold clw; rw [kx_eq]
    have hlt : (clw (F := Ideal) C k).toNat < 80 := by omega
    refine Eq.trans ?_ (Cert.ReferenceIdeal.Value.out_high V0 k p q (by rw [ey, en]; exact hen) (by rw [ex, em]; exact hem) (clw (F := Ideal) C k).toNat hlt (by rw [h3, ← hck, ec])).symm
    rw [ey, en, ex, em, h0, h1, h2, ← ryw_eq, ← rxw_eq]
    unfold OUT
    refine (if_neg ha).trans ?_
    have ek : ((ix3 (⟨(k : ℕ) + 53, by omega⟩ : Fin 117) p q : S117x512x512.Idx) 0 : ℕ) - 53 = k := by show (k : ℕ) + 53 - 53 = k; omega
    rw [ek]
    have hb : hbT (F := Ideal) (table (F := Ideal) B C) k = hbf (y0w (F := Ideal) B k) := congrArg hbf (table_1 (F := Ideal) B C k)
    have wb : wbT (F := Ideal) (table (F := Ideal) B C) k = hbf (x0w (F := Ideal) B k) := congrArg hbf (table_2 (F := Ideal) B C k)
    rw [hb, wb]
    have by0 := toNat_of_toInt r.y0.1
    have bx0 := toNat_of_toInt r.x0.1
    have ly := r.y0
    have lx := r.x0
    by_cases hin : (hbf (y0w (F := Ideal) B k) ≤ (p : ℕ) ∧ (p : ℕ) < hbf (y0w (F := Ideal) B k) + 256) ∧ (hbf (x0w (F := Ideal) B k) ≤ (q : ℕ) ∧ (q : ℕ) < hbf (x0w (F := Ideal) B k) + 256)
    · refine (if_pos hin).trans ?_
      obtain ⟨⟨p0, p1⟩, q0, q1⟩ := hin
      have epx : px ((p : ℕ) - hbf (y0w (F := Ideal) B k)) ((q : ℕ) - hbf (x0w (F := Ideal) B k))
          = ix3 0 (⟨(p : ℕ) - hbf (y0w (F := Ideal) B k), by omega⟩ : Fin 256) (⟨(q : ℕ) - hbf (x0w (F := Ideal) B k), by omega⟩ : Fin 256) := by
        funext a
        match a with
        | ⟨0, _⟩ => rfl
        | ⟨1, _⟩ => exact Fin.ext (Nat.mod_eq_of_lt (by omega))
        | ⟨2, _⟩ => exact Fin.ext (Nat.mod_eq_of_lt (by omega))
      refine (congrArg _ epx).trans ?_
      unfold pay
      rw [table_1 (F := Ideal), table_2 (F := Ideal), table_3 (F := Ideal), table_4 (F := Ideal), table_5 (F := Ideal), table_6 (F := Ideal)]
      refine (strip_at _ _ _ _ _ _ _ _ _ _ (Cert.ReferenceIdeal.Value.mk A1 k) (masks_at A1 k)).trans ?_
      have eP : BitVec.ofNat 32 ((⟨(p : ℕ) - hbf (y0w (F := Ideal) B k), by omega⟩ : Fin 256) : ℕ) + baseW (y0w (F := Ideal) B k) = BitVec.ofNat 32 p := by
        rw [baseW_eq _ (by omega), ← BitVec.ofNat_add]; congr 1; show (p : ℕ) - _ + _ = _; omega
      have eQ : BitVec.ofNat 32 ((⟨(q : ℕ) - hbf (x0w (F := Ideal) B k), by omega⟩ : Fin 256) : ℕ) + baseW (x0w (F := Ideal) B k) = BitVec.ofNat 32 q := by
        rw [baseW_eq _ (by omega), ← BitVec.ofNat_add]; congr 1; show (q : ℕ) - _ + _ = _; omega
      rw [eP, eQ]
      congr 2
      unfold gat
      have ech : chT (F := Ideal) (table (F := Ideal) B C) k = 53 + (clw (F := Ideal) C k).toNat := by
        unfold chT
        rw [table_0 (F := Ideal), BitVec.toNat_add]
        have : (53#32 : BitVec 32).toNat = 53 := by decide
        omega
      rw [ech, hb, wb]
      refine Eq.trans ?_ (hs (53 + (clw (F := Ideal) C k).toNat) (by omega))
      congr 2
      · show hbf _ + ((p : ℕ) - _) = _; omega
      · show hbf _ + ((q : ℕ) - _) = _; omega
    · refine (if_neg hin).trans ?_
      have ry := r.ry
      have rx := r.rx
      have oy := outside p p.isLt (y0w (F := Ideal) B k) (y1w (F := Ideal) B k - y0w (F := Ideal) B k + 1#32) (ryw (F := Ideal) B k + 1#32) ly.1 ly.2 (by rw [ln]; omega) (by rw [add1_toInt _ (by omega)]; omega)
      have ox := outside q q.isLt (x0w (F := Ideal) B k) (x1w (F := Ideal) B k - x0w (F := Ideal) B k + 1#32) (rxw (F := Ideal) B k + 1#32) lx.1 lx.2 (by rw [lm]; omega) (by rw [add1_toInt _ (by omega)]; omega)
      have hp0 : ∀ M, pasted (BitVec.ofNat 32 p) (y0w (F := Ideal) B k) (y1w (F := Ideal) B k - y0w (F := Ideal) B k + 1#32) (BitVec.ofNat 32 q) (x0w (F := Ideal) B k) (x1w (F := Ideal) B k - x0w (F := Ideal) B k + 1#32) M = 0 := by
        intro M
        unfold pasted
        refine if_neg fun h => ?_
        by_cases hh : (hbf (y0w (F := Ideal) B k) ≤ (p : ℕ) ∧ (p : ℕ) < hbf (y0w (F := Ideal) B k) + 256)
        · exact (ox fun hw => hin ⟨hh, hw⟩).1 h.2
        · exact (oy hh).1 h.1
      rw [hp0, not_one _ (fun h => by
        rw [and_one, and_one, and_one] at h
        obtain ⟨⟨⟨a1, a2⟩, a3⟩, a4⟩ := h
        by_cases hh : (hbf (y0w (F := Ideal) B k) ≤ (p : ℕ) ∧ (p : ℕ) < hbf (y0w (F := Ideal) B k) + 256)
        · exact (ox fun hw => hin ⟨hh, hw⟩).2 a3 a4
        · exact (oy hh).2 a1 a2 : ¬ (IntOp.andi (IntOp.andi (IntOp.andi (IntOp.cmpi .sge (BitVec.ofNat 32 p) (y0w (F := Ideal) B k)) (IntOp.cmpi .slt (BitVec.ofNat 32 p) (ryw (F := Ideal) B k + 1#32)))
            (IntOp.cmpi .sge (BitVec.ofNat 32 q) (x0w (F := Ideal) B k))) (IntOp.cmpi .slt (BitVec.ofNat 32 q) (rxw (F := Ideal) B k + 1#32))) = 1#1)]
      show Ideal.ofBits .f32 0x00000000#32 = 0 + 0
      rw [Ideal.ofBits_zero_f32, add_zero]

end Cert.KernelIdeal.Hand

end
-- ==== Proof.Value.lean ====
/- The kernel's result on a chip is the reference's, when the arguments agree and the precondition holds. -/
module

public import proofs.«01_k».proof.Proof.Equal
public import proofs.«01_k».proof.Proof.Frame

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

theorem Tv_eq : Tv (F := Ideal) m c = table (F := Ideal) (m ((c.tc : Thread nD τ).loc main_arg2)) (m ((c.tc : Thread nD τ).loc main_arg3)) :=
  vals_v44 (F := Ideal) (fun b => m (c, b))

theorem SEMv_eq : SEMv (F := Ideal) m c = shapeCast S133x512x512 (m ((c.tc : Thread nD τ).loc main_arg0)) shapeCasts_S1x133x512x512_S133x512x512 :=
  vals_v0 (F := Ideal) (fun b => m (c, b))

theorem MBv_eq : MBv (F := Ideal) m c = masks (m ((c.tc : Thread nD τ).loc main_arg1)) :=
  funext fun k => funext fun y => congrFun (vals_v2 (F := Ideal) (fun b => m (c, b))) (mx k (y 1 : ℕ) (y 2 : ℕ))

/-- The kernel's result is the reference's. -/
theorem result_eq (V0 : Valuation Cert.ReferenceIdeal.τ Cert.ReferenceIdeal.sig (Elt Ideal))
    (h : Cert.Pre_boxes_in_range.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (h0 : V0 (Proc.devRef .tc Cert.ReferenceIdeal.main_arg0) = m ((c.tc : Thread nD τ).loc main_arg0))
    (h1 : V0 (Proc.devRef .tc Cert.ReferenceIdeal.main_arg1) = m ((c.tc : Thread nD τ).loc main_arg1))
    (h2 : V0 (Proc.devRef .tc Cert.ReferenceIdeal.main_arg2) = m ((c.tc : Thread nD τ).loc main_arg2))
    (h3 : V0 (Proc.devRef .tc Cert.ReferenceIdeal.main_arg3) = m ((c.tc : Thread nD τ).loc main_arg3)) :
    OUTv (F := Ideal) m c = Cert.ReferenceIdeal.Value.val5 V0 (Proc.devRef .tc Cert.ReferenceIdeal.main_v234) := by
  unfold OUTv
  rw [Tv_eq, SEMv_eq, MBv_eq]
  exact equal _ _ V0 _ _ h0 h1 h2 h3 (inRange _ _ _ _ h)

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_boxes_in_range
public import proofs.«01_k».proof.Proof.Frame
public import proofs.«01_k».proof.Proof.KFrame
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame over the bit-exact floats: it ends, changes no argument and leaves every counter zero. -/
theorem frame_p : Cert.quiescent_Kernel := fun m ρ h =>
  (θ_run Cert.Kernel.defs _ _).mono (fun _ h => ⟨fun c => (h.1 c).2, h.2⟩) (Cert.Kernel.Hand.run_pre (F := Bits) m ρ h)

/-- The kernel's frame over the extended reals. -/
theorem frame_pi : Cert.quiescent_KernelIdeal := fun m ρ h =>
  (θ_run Cert.KernelIdeal.defs _ _).mono (fun _ h => ⟨fun c => (h.1 c).2, h.2⟩) (Cert.KernelIdeal.Hand.run_pre (F := Ideal) m ρ h)

/-- The reference's frame: it has no semaphore, and no operation writes an argument. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame again, of arguments in the precondition. -/
theorem frame_ri_pre : Cert.quiescent_ReferenceIdeal_pre_boxes_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference return one result. -/
theorem same : Cert.algebraic_KernelIdeal_ReferenceIdeal := fun m g m' g' h e =>
  ⟨fun c => Cert.KernelIdeal.Hand.OUTv (F := Ideal) m c,
    (θ_run Cert.KernelIdeal.defs _ _).mono (fun _ h => h.1) (Cert.KernelIdeal.Hand.run_pre (F := Ideal) m g h),
    (θ_run Cert.ReferenceIdeal.defs _ _).mono (fun r k c => ⟨(k c).1.trans
        ((Cert.ReferenceIdeal.Value.val5_main_v234 (StableHlo.launchContents m' c)).symm.trans
          (Cert.KernelIdeal.Hand.result_eq m c (StableHlo.launchContents m' c) (h c) (e c).1 (e c).2.1 (e c).2.2.1 (e c).2.2.2).symm), (k c).2⟩)
      (Cert.ReferenceIdeal.Value.run (F := Ideal) m' g')⟩

/-- The claim: the frames, that the idealized kernel is the kernel's own text, and that it computes the reference's result. -/
theorem claim : Cert.Claim := ⟨Cert.Kernel.Gen.facts, Cert.KernelIdeal.Gen.facts, Cert.ReferenceIdeal.Gen.facts,
  Cert.Pre_boxes_in_range.Gen.facts, frame_p, frame_pi, frame_ri, frame_ri_pre, trivial, same⟩

end Cert.Proof

end
